-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite_weights [hPre_finite_weights : Cert.Pre_finite_weights.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite_weights.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_finite_weights [hPre_finite_weights : Cert.Pre_finite_weights.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_finite_weights.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3)) (m ((c.tc : Thread Cert.ProjectReferenceIdeal.nD Cert.ProjectReferenceIdeal.τ).loc Cert.ProjectReferenceIdeal.main_arg4))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectIdeal_pre_finite_weights [hProjectIdeal : Cert.ProjectIdeal.Facts] [hPre_finite_weights : Cert.Pre_finite_weights.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite_weights m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_ProjectReferenceIdeal_pre_finite_weights [hProjectReferenceIdeal : Cert.ProjectReferenceIdeal.Facts] [hPre_finite_weights : Cert.Pre_finite_weights.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_finite_weights m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8))
      ∧ r.2.sem = fun _ => 0)

def preserves_Kernel_KernelIdeal : Prop :=
  IdealRules.named_const.Statement Cert.KernelIdeal.κ "qk_scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Project_ProjectIdeal : Prop :=
  True

def algebraic_ProjectIdeal_ProjectReferenceIdeal_pre_finite_weights [hProjectIdeal : Cert.ProjectIdeal.Facts] [hProjectReferenceIdeal : Cert.ProjectReferenceIdeal.Facts] [hPre_finite_weights : Cert.Pre_finite_weights.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_finite_weights m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v24_0)) (v1 : (c : Dev Cert.ProjectIdeal.nD) → Buf (Elt Ideal) ((c.tc : Thread Cert.ProjectIdeal.nD Cert.ProjectIdeal.τ).loc Cert.ProjectIdeal.main_v24_1)) (v2 : (c : Dev Cert.ProjectIdeal.nD) → Buf (Elt Ideal) ((c.tc : Thread Cert.ProjectIdeal.nD Cert.ProjectIdeal.τ).loc Cert.ProjectIdeal.main_v24_3)) (v3 : (c : Dev Cert.ProjectIdeal.nD) → Buf (Elt Ideal) ((c.tc : Thread Cert.ProjectIdeal.nD Cert.ProjectIdeal.τ).loc Cert.ProjectIdeal.main_v24_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v24_0) = v0 c
          ∧ r.2.mem ((c.tc : Thread Cert.ProjectIdeal.nD Cert.ProjectIdeal.τ).loc Cert.ProjectIdeal.main_v24_1) = v1 c
          ∧ r.2.mem ((c.tc : Thread Cert.ProjectIdeal.nD Cert.ProjectIdeal.τ).loc Cert.ProjectIdeal.main_v24_3) = v2 c
          ∧ r.2.mem ((c.tc : Thread Cert.ProjectIdeal.nD Cert.ProjectIdeal.τ).loc Cert.ProjectIdeal.main_v24_5) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v50) = v0 c
          ∧ r.2.mem ((c.tc : Thread Cert.ProjectReferenceIdeal.nD Cert.ProjectReferenceIdeal.τ).loc Cert.ProjectReferenceIdeal.main_v51) = v1 c
          ∧ r.2.mem ((c.tc : Thread Cert.ProjectReferenceIdeal.nD Cert.ProjectReferenceIdeal.τ).loc Cert.ProjectReferenceIdeal.main_v52) = v2 c
          ∧ r.2.mem ((c.tc : Thread Cert.ProjectReferenceIdeal.nD Cert.ProjectReferenceIdeal.τ).loc Cert.ProjectReferenceIdeal.main_v53) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)) →
    ∃ (v0 : (c : Dev Cert.OutputIdeal.nD) → Buf (Elt Ideal) ((c.tc : Thread Cert.OutputIdeal.nD Cert.OutputIdeal.τ).loc Cert.OutputIdeal.main_v14_0)) (v1 : (c : Dev Cert.OutputIdeal.nD) → Buf (Elt Ideal) ((c.tc : Thread Cert.OutputIdeal.nD Cert.OutputIdeal.τ).loc Cert.OutputIdeal.main_v14_1)) (v2 : (c : Dev Cert.OutputIdeal.nD) → Buf (Elt Ideal) ((c.tc : Thread Cert.OutputIdeal.nD Cert.OutputIdeal.τ).loc Cert.OutputIdeal.main_v14_2)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v14_0) = v0 c
          ∧ r.2.mem ((c.tc : Thread Cert.OutputIdeal.nD Cert.OutputIdeal.τ).loc Cert.OutputIdeal.main_v14_1) = v1 c
          ∧ r.2.mem ((c.tc : Thread Cert.OutputIdeal.nD Cert.OutputIdeal.τ).loc Cert.OutputIdeal.main_v14_2) = v2 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v55) = v0 c
          ∧ r.2.mem ((c.tc : Thread Cert.OutputReferenceIdeal.nD Cert.OutputReferenceIdeal.τ).loc Cert.OutputReferenceIdeal.main_v57) = v1 c
          ∧ r.2.mem ((c.tc : Thread Cert.OutputReferenceIdeal.nD Cert.OutputReferenceIdeal.τ).loc Cert.OutputReferenceIdeal.main_v59) = v2 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hOutput : Cert.Output.Facts) (hOutputIdeal : Cert.OutputIdeal.Facts) (hOutputReferenceIdeal : Cert.OutputReferenceIdeal.Facts) (hPre_finite : Cert.Pre_finite.Facts) (hPre_finite_weights : Cert.Pre_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectIdeal_pre_finite_weights (hProjectIdeal := hProjectIdeal) (hPre_finite_weights := hPre_finite_weights)
    ∧ quiescent_ProjectReferenceIdeal (hProjectReferenceIdeal := hProjectReferenceIdeal)
    ∧ quiescent_ProjectReferenceIdeal_pre_finite_weights (hProjectReferenceIdeal := hProjectReferenceIdeal) (hPre_finite_weights := hPre_finite_weights)
    ∧ quiescent_Output (hOutput := hOutput)
    ∧ quiescent_OutputIdeal (hOutputIdeal := hOutputIdeal)
    ∧ quiescent_OutputReferenceIdeal (hOutputReferenceIdeal := hOutputReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectReferenceIdeal_pre_finite_weights (hProjectIdeal := hProjectIdeal) (hProjectReferenceIdeal := hProjectReferenceIdeal) (hPre_finite_weights := hPre_finite_weights)
    ∧ preserves_Output_OutputIdeal
    ∧ algebraic_OutputIdeal_OutputReferenceIdeal (hOutputIdeal := hOutputIdeal) (hOutputReferenceIdeal := hOutputReferenceIdeal)
-- ==== Pre_finite.lean ====
abbrev S1 : Shape := ⟨1, ![1]⟩
abbrev S1x64 : Shape := ⟨2, ![1, 64]⟩
abbrev S1x128 : Shape := ⟨2, ![1, 128]⟩
abbrev S1x16384x8x2x64 : Shape := ⟨5, ![1, 16384, 8, 2, 64]⟩
abbrev S1x16384x8x128 : Shape := ⟨4, ![1, 16384, 8, 128]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S1x16384x8x2x64 : S_.BroadcastsInDim S1x16384x8x2x64 (![] : Fin 0 → Fin S1x16384x8x2x64.rank)
  reducesTo_S1x16384x8x2x64_S_d0_1_2_3_4 : S1x16384x8x2x64.ReducesTo [0, 1, 2, 3, 4] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn_part2 {F : FTy → Type} [FloatOps F] (main_v29 : IVec S_ 1) (main_v32 : IVec S1x16384x8x128 1) (main_c_12 : IVec S_ 1) : IVec S_ 1 :=
  let main_v33 : IVec S_ 1 := (fun x v => Host.reduce IntOp.andi x v reducesTo_S1x16384x8x128_S_d0_1_2_3 h_S_) main_v32 main_c_12
  let main_v34 : IVec S_ 1 := andi main_v29 main_v33
  main_v34

def fn_part1 {F : FTy → Type} [FloatOps F] (main_arg6 : FVec F S1x16384x8x2x64 .f32) (main_arg7 : FVec F S1x16384x8x2x64 .f32) (main_arg8 : FVec F S1x16384x8x128 .f32) (main_v14 : IVec S_ 1) (main_v15 : FVec F S1x64 .f32) (main_cst_5 : FVec F S_ .f32) : IVec S_ 1 :=
  let main_v16 : FVec F S1x64 .f32 := broadcastInDim S1x64 ![] bcast_S_S1x64 main_cst_5
  let main_v17 : IVec S1x64 1 := cmpf .olt main_v15 main_v16
  let main_c_6 : IVec S_ 1 := constantI S_ 1 1#1
  let main_v18 : IVec S_ 1 := (fun x v => Host.reduce IntOp.andi x v reducesTo_S1x64_S_d0_1 h_S_) main_v17 main_c_6
  let main_v19 : IVec S_ 1 := andi main_v14 main_v18
  let main_v20 : FVec F S1x16384x8x2x64 .f32 := Host.absf main_arg6
  let main_cst_7 : FVec F S_ .f32 := constant S_ .f32 0x7F800000#32
  let main_v21 : FVec F S1x16384x8x2x64 .f32 := broadcastInDim S1x16384x8x2x64 ![] bcast_S_S1x16384x8x2x64 main_cst_7
  let main_v22 : IVec S1x16384x8x2x64 1 := cmpf .olt main_v20 main_v21
  let main_c_8 : IVec S_ 1 := constantI S_ 1 1#1
  let main_v23 : IVec S_ 1 := (fun x v => Host.reduce IntOp.andi x v reducesTo_S1x16384x8x2x64_S_d0_1_2_3_4 h_S_) main_v22 main_c_8
  let main_v24 : IVec S_ 1 := andi main_v19 main_v23
  let main_v25 : FVec F S1x16384x8x2x64 .f32 := Host.absf main_arg7
  let main_cst_9 : FVec F S_ .f32 := constant S_ .f32 0x7F800000#32
  let main_v26 : FVec F S1x16384x8x2x64 .f32 := broadcastInDim S1x16384x8x2x64 ![] bcast_S_S1x16384x8x2x64 main_cst_9
  let main_v27 : IVec S1x16384x8x2x64 1 := cmpf .olt main_v25 main_v26
  let main_c_10 : IVec S_ 1 := constantI S_ 1 1#1
  let main_v28 : IVec S_ 1 := (fun x v => Host.reduce IntOp.andi x v reducesTo_S1x16384x8x2x64_S_d0_1_2_3_4 h_S_) main_v27 main_c_10
  let main_v29 : IVec S_ 1 := andi main_v24 main_v28
  let main_v30 : FVec F S1x16384x8x128 .f32 := Host.absf main_arg8
  let main_cst_11 : FVec F S_ .f32 := constant S_ .f32 0x7F800000#32
  let main_v31 : FVec F S1x16384x8x128 .f32 := broadcastInDim S1x16384x8x128 ![] bcast_S_S1x16384x8x128 main_cst_11
  let main_v32 : IVec S1x16384x8x128 1 := cmpf .olt main_v30 main_v31
  let main_c_12 : IVec S_ 1 := constantI S_ 1 1#1
  fn_part2 (F := F) main_v29 main_v32 main_c_12

def fn {F : FTy → Type} [FloatOps F] (main_arg0 : IVec S1 32) (main_arg1 : FVec F S1x64 .f32) (main_arg2 : FVec F S1x64 .f32) (main_arg3 : FVec F S1x64 .f32) (main_arg4 : FVec F S1x64 .f32) (main_arg5 : FVec F S1x128 .f32) (main_arg6 : FVec F S1x16384x8x2x64 .f32) (main_arg7 : FVec F S1x16384x8x2x64 .f32) (main_arg8 : FVec F S1x16384x8x128 .f32) : IVec S_ 1 :=
  let main_v0 : FVec F S1x64 .f32 := Host.absf main_arg1
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_c_0 : IVec S_ 1 := constantI S_ 1 1#1
  let main_v4 : IVec S_ 1 := andi main_c_0 main_v3
  let main_v5 : FVec F S1x64 .f32 := Host.absf main_arg2
  let main_cst_1 : FVec F S_ .f32 := constant S_ .f32 0x7F800000#32
  let main_v6 : FVec F S1x64 .f32 := broadcastInDim S1x64 ![] bcast_S_S1x64 main_cst_1
  let main_v7 : IVec S1x64 1 := cmpf .olt main_v5 main_v6
  let main_c_2 : IVec S_ 1 := constantI S_ 1 1#1
  let main_v8 : IVec S_ 1 := (fun x v => Host.reduce IntOp.andi x v reducesTo_S1x64_S_d0_1 h_S_) main_v7 main_c_2
  let main_v9 : IVec S_ 1 := andi main_v4 main_v8
  let main_v10 : FVec F S1x64 .f32 := Host.absf main_arg3
  let main_cst_3 : FVec F S_ .f32 := constant S_ .f32 0x7F800000#32
  let main_v11 : FVec F S1x64 .f32 := broadcastInDim S1x64 ![] bcast_S_S1x64 main_cst_3
  let main_v12 : IVec S1x64 1 := cmpf .olt main_v10 main_v11
  let main_c_4 : IVec S_ 1 := constantI S_ 1 1#1
  let main_v13 : IVec S_ 1 := (fun x v => Host.reduce IntOp.andi x v reducesTo_S1x64_S_d0_1 h_S_) main_v12 main_c_4
  let main_v14 : IVec S_ 1 := andi main_v9 main_v13
  let main_v15 : FVec F S1x64 .f32 := Host.absf main_arg4
  let main_cst_5 : FVec F S_ .f32 := constant S_ .f32 0x7F800000#32
  fn_part1 (F := F) main_arg6 main_arg7 main_arg8 main_v14 main_v15 main_cst_5
-- ==== Pre_finite_weights.lean ====
abbrev S1x16384x2048 : Shape := ⟨3, ![1, 16384, 2048]⟩
abbrev S1x2048 : Shape := ⟨2, ![1, 2048]⟩
abbrev S1x2048x4096 : Shape := ⟨3, ![1, 2048, 4096]⟩
abbrev S1x64 : Shape := ⟨2, ![1, 64]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x4096 : S_.BroadcastsInDim S1x2048x4096 (![] : Fin 0 → Fin S1x2048x4096.rank)
  reducesTo_S1x2048x4096_S_d0_1_2 : S1x2048x4096.ReducesTo [0, 1, 2] S_

variable [Facts]

def fn {F : FTy → Type} [FloatOps F] (main_arg0 : FVec F S1x16384x2048 .f32) (main_arg1 : FVec F S1x2048 .f32) (main_arg2 : FVec F S1x2048x4096 .f32) (main_arg3 : FVec F S1x64 .f32) (main_arg4 : FVec F S1x64 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x4096 .f32 := Host.absf main_arg2
  let main_cst_0 : FVec F S_ .f32 := constant S_ .f32 0x7F800000#32
  let main_v5 : FVec F S1x2048x4096 .f32 := broadcastInDim S1x2048x4096 ![] bcast_S_S1x2048x4096 main_cst_0
  let main_v6 : IVec S1x2048x4096 1 := cmpf .olt main_v4 main_v5
  let main_c_1 : IVec S_ 1 := constantI S_ 1 1#1
  let main_v7 : IVec S_ 1 := (fun x v => Host.reduce IntOp.andi x v reducesTo_S1x2048x4096_S_d0_1_2 h_S_) main_v6 main_c_1
  let main_v8 : IVec S_ 1 := andi main_v3 main_v7
  main_v8
-- ==== Kernel.lean ====
abbrev S1 : Shape := ⟨1, ![1]⟩
abbrev S1x64 : Shape := ⟨2, ![1, 64]⟩
abbrev S1x128 : Shape := ⟨2, ![1, 128]⟩
abbrev S1x16384x8x2x64 : Shape := ⟨5, ![1, 16384, 8, 2, 64]⟩
abbrev S1x16384x8x128 : Shape := ⟨4, ![1, 16384, 8, 128]⟩
abbrev S16384x1024 : Shape := ⟨2, ![16384, 1024]⟩
abbrev S16384x8x128 : Shape := ⟨3, ![16384, 8, 128]⟩
abbrev S_ : Shape := ⟨0, ![]⟩
abbrev S16384x8x256 : Shape := ⟨3, ![16384, 8, 256]⟩
abbrev S16384x2048 : Shape := ⟨2, ![16384, 2048]⟩
abbrev S1024x128 : Shape := ⟨2, ![1024, 128]⟩
abbrev S16384x128 : Shape := ⟨2, ![16384, 128]⟩
abbrev S16384x256 : Shape := ⟨2, ![16384, 256]⟩
abbrev S2048x128 : Shape := ⟨2, ![2048, 128]⟩
abbrev S2048x1 : Shape := ⟨2, ![2048, 1]⟩
abbrev S2048x256 : Shape := ⟨2, ![2048, 256]⟩
abbrev S256x128 : Shape := ⟨2, ![256, 128]⟩
abbrev S256x2048 : Shape := ⟨2, ![256, 2048]⟩
abbrev S256x256 : Shape := ⟨2, ![256, 256]⟩
abbrev S256x1024 : Shape := ⟨2, ![256, 1024]⟩
abbrev S1024x256 : Shape := ⟨2, ![1024, 256]⟩
abbrev S256x1 : Shape := ⟨2, ![256, 1]⟩
abbrev S256 : Shape := ⟨1, ![256]⟩
abbrev S1x1 : Shape := ⟨2, ![1, 1]⟩
abbrev S1024 : Shape := ⟨1, ![1024]⟩
abbrev S1024x1 : Shape := ⟨2, ![1024, 1]⟩

abbrev nBuf : Space → Nat
  | .hbm => 19
  | .vmem => 16
  | .smem => 1
  | _ => 0

abbrev bufTy : (tb : Table) → Fin (tcTables nBuf tb) → BufTy
  | .hbm, ⟨0, _⟩ => ⟨S1, .i32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S1x16384x8x2x64, .f32⟩
  | .hbm, ⟨7, _⟩ => ⟨S1x16384x8x2x64, .f32⟩
  | .hbm, ⟨8, _⟩ => ⟨S1x16384x8x128, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S16384x8x128, .f32⟩
  | .hbm, ⟨13, _⟩ => ⟨S16384x8x128, .bf16⟩
  | .hbm, ⟨14, _⟩ => ⟨S_, .bf16⟩
  | .hbm, ⟨15, _⟩ => ⟨S16384x8x128, .bf16⟩
  | .hbm, ⟨16, _⟩ => ⟨S16384x8x256, .bf16⟩
  | .hbm, ⟨17, _⟩ => ⟨S16384x2048, .bf16⟩
  | .hbm, ⟨18, _⟩ => ⟨S16384x1024, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S16384x128, .bf16⟩
  | .local _ .vmem, ⟨8, _⟩ => ⟨S16384x128, .bf16⟩
  | .local _ .vmem, ⟨9, _⟩ => ⟨S16384x256, .bf16⟩
  | .local _ .vmem, ⟨10, _⟩ => ⟨S16384x256, .bf16⟩
  | .local _ .vmem, ⟨11, _⟩ => ⟨S1024x128, .f32⟩
  | .local _ .vmem, ⟨12, _⟩ => ⟨S1024x128, .f32⟩
  | .local _ .vmem, ⟨13, _⟩ => ⟨S2048x128, .bf16⟩
  | .local _ .vmem, ⟨14, _⟩ => ⟨S2048x1, .f32⟩
  | .local _ .vmem, ⟨15, _⟩ => ⟨S2048x256, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_42 : BitVec 32 := 1#32
  ⟨c0_i32_40, v92, c1_i32_42⟩
def k0_mult1 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
def k0_off1 (i : grid0.Coords) (k0_t1 : Fin (k0_t1_loop i).trips) : Fin 2 → Nat :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  let v708 : BitVec 32 := v707
  let v710 : Index := Scalar.indexCast v708
  let c0_257 : Index := 0#32
  ![v710.toNat, 0]
def k0_off2 (i : grid0.Coords) (k0_t1 : Fin (k0_t1_loop i).trips) : Fin 2 → Nat :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  let v708 : BitVec 32 := v707
  let v717 : Index := Scalar.indexCast v708
  let c0_261 : Index := 0#32
  ![v717.toNat, 0]
def k0_mult2 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
def k0_mult3 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
def k0_mult4 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
def k0_mult5 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
def k0_mult6 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
def k0_mult7 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
def k0_mult8 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c2048_i32_254 : BitVec 32 := 2048#32
  let v707 : BitVec 32 := Scalar.muli arg15 c2048_i32_254
  v707
@[reducible] def k0_t2_loop (i : grid0.Coords) : Scf.Loop 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let v89 : BitVec 32 := Scalar.addi c0_i32_40 v88
  let c1_i32_43 : BitVec 32 := 1#32
  ⟨v92, v89, c1_i32_43⟩
def k0_mult9 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_off3 (i : grid0.Coords) (k0_t2 : Fin (k0_t2_loop i).trips) : Fin 2 → Nat :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  let v708 : BitVec 32 := v707
  let v710 : Index := Scalar.indexCast v708
  let c0_257 : Index := 0#32
  ![v710.toNat, 0]
def k0_off4 (i : grid0.Coords) (k0_t2 : Fin (k0_t2_loop i).trips) : Fin 2 → Nat :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  let v708 : BitVec 32 := v707
  let v717 : Index := Scalar.indexCast v708
  let c0_261 : Index := 0#32
  ![v717.toNat, 0]
def k0_mult10 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_mult11 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_mult12 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_mult13 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_mult14 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_mult15 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_mult16 (i : grid0.Coords) (k0_t2 : Fin (k0_t2_loop i).trips) : BitVec 32 :=
  let c0_i32_40 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v88 : BitVec 32 := Scalar.subi v38 c0_i32_40
  let c1_i32_41 : BitVec 32 := 1#32
  let v90 : BitVec 32 := Scalar.divsi v88 c1_i32_41
  let v91 : BitVec 32 := Scalar.muli v90 c1_i32_41
  let v92 : BitVec 32 := Scalar.addi c0_i32_40 v91
  let c1_i32_43 : BitVec 32 := 1#32
  let arg15 : BitVec 32 := Scf.iv v92 c1_i32_43 k0_t2
  let c2048_i32_254 : BitVec 32 := 2048#32
  let v707 : BitVec 32 := Scalar.muli arg15 c2048_i32_254
  v707
def k0_cond2 (i : grid0.Coords) : BitVec 1 :=
  let arg1 : BitVec 32 := BitVec.ofNat 32 (i 1).val
  let c1024_i32_44 : BitVec 32 := 1024#32
  let v93 : BitVec 32 := Scalar.muli arg1 c1024_i32_44
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_45 : BitVec 32 := 2048#32
  let v94 : BitVec 32 := Scalar.muli v38 c2048_i32_45
  let v95 : BitVec 1 := Scalar.cmpi .sgt v93 v94
  let v96 : BitVec 32 := Scalar.extui v95
  let c0_i32_46 : BitVec 32 := 0#32
  let v97 : BitVec 1 := Scalar.cmpi .ne v96 c0_i32_46
  v97

def k0_mult17 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_off5 (i : grid0.Coords) : Fin 2 → Nat :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  let v708 : BitVec 32 := v707
  let v710 : Index := Scalar.indexCast v708
  let c0_257 : Index := 0#32
  ![v710.toNat, 0]
def k0_off6 (i : grid0.Coords) : Fin 2 → Nat :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  let v708 : BitVec 32 := v707
  let v717 : Index := Scalar.indexCast v708
  let c0_261 : Index := 0#32
  ![v717.toNat, 0]
def k0_mult18 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_mult19 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_mult20 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_mult21 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_mult22 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_mult23 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_mult24 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_254 : BitVec 32 := 2048#32
  let v707 : BitVec 32 := Scalar.muli v38 c2048_i32_254
  v707
def k0_mult25 (i : grid0.Coords) : BitVec 32 :=
  let arg1 : BitVec 32 := BitVec.ofNat 32 (i 1).val
  let c1024_i32_47 : BitVec 32 := 1024#32
  let v98 : BitVec 32 := Scalar.muli arg1 c1024_i32_47
  v98
def k0_off7 (i : grid0.Coords) : Fin 2 → Nat :=
  let arg1 : BitVec 32 := BitVec.ofNat 32 (i 1).val
  let c1024_i32_47 : BitVec 32 := 1024#32
  let v98 : BitVec 32 := Scalar.muli arg1 c1024_i32_47
  let v99 : BitVec 32 := v98
  let v101 : Index := Scalar.indexCast v99
  let c0_50 : Index := 0#32
  ![v101.toNat, 0]
def k0_off8 (i : grid0.Coords) : Fin 2 → Nat :=
  let arg1 : BitVec 32 := BitVec.ofNat 32 (i 1).val
  let c1024_i32_47 : BitVec 32 := 1024#32
  let v98 : BitVec 32 := Scalar.muli arg1 c1024_i32_47
  let v99 : BitVec 32 := v98
  let v167 : Index := Scalar.indexCast v99
  let c0_71 : Index := 0#32
  ![v167.toNat, 0]
def k0_mult26 (i : grid0.Coords) : BitVec 32 :=
  let arg1 : BitVec 32 := BitVec.ofNat 32 (i 1).val
  let c1024_i32_47 : BitVec 32 := 1024#32
  let v98 : BitVec 32 := Scalar.muli arg1 c1024_i32_47
  v98
def k0_mult27 (i : grid0.Coords) : BitVec 32 :=
  let arg1 : BitVec 32 := BitVec.ofNat 32 (i 1).val
  let c1024_i32_47 : BitVec 32 := 1024#32
  let v98 : BitVec 32 := Scalar.muli arg1 c1024_i32_47
  v98
def k0_mult28 (i : grid0.Coords) : BitVec 32 :=
  let arg1 : BitVec 32 := BitVec.ofNat 32 (i 1).val
  let c1024_i32_47 : BitVec 32 := 1024#32
  let v98 : BitVec 32 := Scalar.muli arg1 c1024_i32_47
  v98
def k0_mult29 (i : grid0.Coords) : BitVec 32 :=
  let arg1 : BitVec 32 := BitVec.ofNat 32 (i 1).val
  let c1024_i32_47 : BitVec 32 := 1024#32
  let v98 : BitVec 32 := Scalar.muli arg1 c1024_i32_47
  v98
def k0_mult30 (i : grid0.Coords) : BitVec 32 :=
  let arg1 : BitVec 32 := BitVec.ofNat 32 (i 1).val
  let c1024_i32_47 : BitVec 32 := 1024#32
  let v98 : BitVec 32 := Scalar.muli arg1 c1024_i32_47
  v98
def k0_mult31 (i : grid0.Coords) : BitVec 32 :=
  let arg1 : BitVec 32 := BitVec.ofNat 32 (i 1).val
  let c1024_i32_47 : BitVec 32 := 1024#32
  let v98 : BitVec 32 := Scalar.muli arg1 c1024_i32_47
  v98
def k0_mult32 (i : grid0.Coords) : BitVec 32 :=
  let arg1 : BitVec 32 := BitVec.ofNat 32 (i 1).val
  let c1024_i32_47 : BitVec 32 := 1024#32
  let v98 : BitVec 32 := Scalar.muli arg1 c1024_i32_47
  v98
@[reducible] def k0_t3_loop (i : grid0.Coords) : Scf.Loop 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_45 : BitVec 32 := 1#32
  ⟨c0_i32_43, v96, c1_i32_45⟩
def k0_mult33 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
def k0_off9 (i : grid0.Coords) (k0_t3 : Fin (k0_t3_loop i).trips) : Fin 2 → Nat :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  let v816 : BitVec 32 := v815
  let v818 : Index := Scalar.indexCast v816
  let c0_300 : Index := 0#32
  ![v818.toNat, 0]
def k0_off10 (i : grid0.Coords) (k0_t3 : Fin (k0_t3_loop i).trips) : Fin 2 → Nat :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  let v816 : BitVec 32 := v815
  let v835 : Index := Scalar.indexCast v816
  let c0_307 : Index := 0#32
  ![v835.toNat, 0]
def k0_mult34 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
def k0_mult35 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
def k0_mult36 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
def k0_mult37 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
def k0_mult38 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
def k0_mult39 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
def k0_mult40 (i : grid0.Coords) (k0_t3 : Fin (k0_t3_loop i).trips) : BitVec 32 :=
  let c0_i32_43 : BitVec 32 := 0#32
  let c1_i32_45 : BitVec 32 := 1#32
  let arg15 : BitVec 32 := Scf.iv c0_i32_43 c1_i32_45 k0_t3
  let c2048_i32_297 : BitVec 32 := 2048#32
  let v815 : BitVec 32 := Scalar.muli arg15 c2048_i32_297
  v815
@[reducible] def k0_t4_loop (i : grid0.Coords) : Scf.Loop 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let v93 : BitVec 32 := Scalar.addi c0_i32_43 v92
  let c1_i32_46 : BitVec 32 := 1#32
  ⟨v96, v93, c1_i32_46⟩
def k0_mult41 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_off11 (i : grid0.Coords) (k0_t4 : Fin (k0_t4_loop i).trips) : Fin 2 → Nat :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  let v816 : BitVec 32 := v815
  let v818 : Index := Scalar.indexCast v816
  let c0_300 : Index := 0#32
  ![v818.toNat, 0]
def k0_off12 (i : grid0.Coords) (k0_t4 : Fin (k0_t4_loop i).trips) : Fin 2 → Nat :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  let v816 : BitVec 32 := v815
  let v835 : Index := Scalar.indexCast v816
  let c0_307 : Index := 0#32
  ![v835.toNat, 0]
def k0_mult42 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_mult43 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_mult44 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_mult45 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_mult46 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_mult47 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_mult48 (i : grid0.Coords) (k0_t4 : Fin (k0_t4_loop i).trips) : BitVec 32 :=
  let c0_i32_43 : BitVec 32 := 0#32
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let v92 : BitVec 32 := Scalar.subi v38 c0_i32_43
  let c1_i32_44 : BitVec 32 := 1#32
  let v94 : BitVec 32 := Scalar.divsi v92 c1_i32_44
  let v95 : BitVec 32 := Scalar.muli v94 c1_i32_44
  let v96 : BitVec 32 := Scalar.addi c0_i32_43 v95
  let c1_i32_46 : BitVec 32 := 1#32
  let arg15 : BitVec 32 := Scf.iv v96 c1_i32_46 k0_t4
  let c2048_i32_297 : BitVec 32 := 2048#32
  let v815 : BitVec 32 := Scalar.muli arg15 c2048_i32_297
  v815
def k0_cond4 (i : grid0.Coords) : BitVec 1 :=
  let arg1 : BitVec 32 := BitVec.ofNat 32 (i 1).val
  let c1024_i32_47 : BitVec 32 := 1024#32
  let v97 : BitVec 32 := Scalar.muli arg1 c1024_i32_47
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_48 : BitVec 32 := 2048#32
  let v98 : BitVec 32 := Scalar.muli v38 c2048_i32_48
  let v99 : BitVec 1 := Scalar.cmpi .sgt v97 v98
  let v100 : BitVec 32 := Scalar.extui v99
  let c0_i32_49 : BitVec 32 := 0#32
  let v101 : BitVec 1 := Scalar.cmpi .ne v100 c0_i32_49
  v101

def k0_mult49 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_off13 (i : grid0.Coords) : Fin 2 → Nat :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  let v816 : BitVec 32 := v815
  let v818 : Index := Scalar.indexCast v816
  let c0_300 : Index := 0#32
  ![v818.toNat, 0]
def k0_off14 (i : grid0.Coords) : Fin 2 → Nat :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  let v816 : BitVec 32 := v815
  let v835 : Index := Scalar.indexCast v816
  let c0_307 : Index := 0#32
  ![v835.toNat, 0]
def k0_mult50 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_mult51 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_mult52 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_mult53 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_mult54 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_mult55 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_mult56 (i : grid0.Coords) : BitVec 32 :=
  let arg1 : BitVec 32 := BitVec.ofNat 32 (i 1).val
  let c1024_i32 : BitVec 32 := 1024#32
  let v21 : BitVec 32 := Scalar.muli arg1 c1024_i32
  let c0_i32 : BitVec 32 := 0#32
  let v23 : BitVec 1 := Scalar.cmpi .sgt v21 c0_i32
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2048_i32 : BitVec 32 := 2048#32
  let c0_i32_9 : BitVec 32 := 0#32
  let v28 : BitVec 1 := Scalar.cmpi .sgt c2048_i32 c0_i32_9
  let v29 : BitVec 32 := Scalar.extui v28
  let c0_i32_10 : BitVec 32 := 0#32
  let v30 : BitVec 1 := Scalar.cmpi .slt c2048_i32 c0_i32_10
  let v31 : BitVec 32 := Scalar.extui v30
  let v32 : BitVec 32 := Scalar.subi v29 v31
  let v33 : BitVec 1 := Scalar.cmpi .ne v27 v32
  let v34 : BitVec 32 := Scalar.remsi v21 c2048_i32
  let c0_i32_11 : BitVec 32 := 0#32
  let v35 : BitVec 1 := Scalar.cmpi .ne v34 c0_i32_11
  let v36 : BitVec 1 := Scalar.andi v33 v35
  let v22 : BitVec 32 := Scalar.divsi v21 c2048_i32
  let c1_i32 : BitVec 32 := 1#32
  let v37 : BitVec 32 := Scalar.subi v22 c1_i32
  let v38 : BitVec 32 := Scalar.select v36 v37 v22
  let c2048_i32_297 : BitVec 32 := 2048#32
  let v815 : BitVec 32 := Scalar.muli v38 c2048_i32_297
  v815
def k0_mult57 (i : grid0.Coords) : BitVec 32 :=
  let arg1 : BitVec 32 := BitVec.ofNat 32 (i 1).val
  let c1024_i32_50 : BitVec 32 := 1024#32
  let v102 : BitVec 32 := Scalar.muli arg1 c1024_i32_50
  v102
def k0_off15 (i : grid0.Coords) : Fin 2 → Nat :=
  let arg1 : BitVec 32 := BitVec.ofNat 32 (i 1).val
  let c1024_i32_50 : BitVec 32 := 1024#32
  let v102 : BitVec 32 := Scalar.muli arg1 c1024_i32_50
  let v103 : BitVec 32 := v102
  let v105 : Index := Scalar.indexCast v103
  let c0_53 : Index := 0#32
  ![v105.toNat, 0]
def k0_off16 (i : grid0.Coords) : Fin 2 → Nat :=
  let arg1 : BitVec 32 := BitVec.ofNat 32 (i 1).val
  let c1024_i32_50 : BitVec 32 := 1024#32
  let v102 : BitVec 32 := Scalar.muli arg1 c1024_i32_50
  let v103 : BitVec 32 := v102
  let v181 : Index := Scalar.indexCast v103
  let c0_77 : Index := 0#32
  ![v181.toNat, 0]
def k0_mult58 (i : grid0.Coords) : BitVec 32 :=
  let arg1 : BitVec 32 := BitVec.ofNat 32 (i 1).val
  let c1024_i32_50 : BitVec 32 := 1024#32
  let v102 : BitVec 32 := Scalar.muli arg1 c1024_i32_50
  v102
def k0_mult59 (i : grid0.Coords) : BitVec 32 :=
  let arg1 : BitVec 32 := BitVec.ofNat 32 (i 1).val
  let c1024_i32_50 : BitVec 32 := 1024#32
  let v102 : BitVec 32 := Scalar.muli arg1 c1024_i32_50
  v102
def k0_mult60 (i : grid0.Coords) : BitVec 32 :=
  let arg1 : BitVec 32 := BitVec.ofNat 32 (i 1).val
  let c1024_i32_50 : BitVec 32 := 1024#32
  let v102 : BitVec 32 := Scalar.muli arg1 c1024_i32_50
  v102
def k0_mult61 (i : grid0.Coords) : BitVec 32 :=
  let arg1 : BitVec 32 := BitVec.ofNat 32 (i 1).val
  let c1024_i32_50 : BitVec 32 := 1024#32
  let v102 : BitVec 32 := Scalar.muli arg1 c1024_i32_50
  v102
def k0_mult62 (i : grid0.Coords) : BitVec 32 :=
  let arg1 : BitVec 32 := BitVec.ofNat 32 (i 1).val
  let c1024_i32_50 : BitVec 32 := 1024#32
  let v102 : BitVec 32 := Scalar.muli arg1 c1024_i32_50
  v102
def k0_mult63 (i : grid0.Coords) : BitVec 32 :=
  let arg1 : BitVec 32 := BitVec.ofNat 32 (i 1).val
  let c1024_i32_50 : BitVec 32 := 1024#32
  let v102 : BitVec 32 := Scalar.muli arg1 c1024_i32_50
  v102
def k0_mult64 (i : grid0.Coords) : BitVec 32 :=
  let arg1 : BitVec 32 := BitVec.ofNat 32 (i 1).val
  let c1024_i32_50 : BitVec 32 := 1024#32
  let v102 : BitVec 32 := Scalar.muli arg1 c1024_i32_50
  v102
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "qk_scale" => some ((8⁻¹ * (Real.log 2)⁻¹ : ℝ) : EReal)
  | _ => none
-- ==== ReferenceIdeal.lean ====
abbrev S1 : Shape := ⟨1, ![1]⟩
abbrev S1x64 : Shape := ⟨2, ![1, 64]⟩
abbrev S1x128 : Shape := ⟨2, ![1, 128]⟩
abbrev S1x16384x8x2x64 : Shape := ⟨5, ![1, 16384, 8, 2, 64]⟩
abbrev S1x16384x8x128 : Shape := ⟨4, ![1, 16384, 8, 128]⟩
abbrev S64 : Shape := ⟨1, ![64]⟩
abbrev S_ : Shape := ⟨0, ![]⟩
abbrev S16384 : Shape := ⟨1, ![16384]⟩
abbrev S1x2x8x16384x16384 : Shape := ⟨5, ![1, 2, 8, 16384, 16384]⟩
abbrev S1x16384 : Shape := ⟨2, ![1, 16384]⟩
abbrev S16384x1 : Shape := ⟨2, ![16384, 1]⟩
abbrev S16384x16384 : Shape := ⟨2, ![16384, 16384]⟩
abbrev S1x2x8x16384 : Shape := ⟨4, ![1, 2, 8, 16384]⟩
abbrev S1x2x8x16384x1 : Shape := ⟨5, ![1, 2, 8, 16384, 1]⟩
abbrev S1x1x8x16384x16384 : Shape := ⟨5, ![1, 1, 8, 16384, 16384]⟩
abbrev S1x8x16384x16384 : Shape := ⟨4, ![1, 8, 16384, 16384]⟩
abbrev S1x8x128x16384 : Shape := ⟨4, ![1, 8, 128, 16384]⟩
abbrev S128 : Shape := ⟨1, ![128]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩
abbrev S16384x1024 : Shape := ⟨2, ![16384, 1024]⟩

abbrev nBuf : Space → Nat
  | .hbm => 120
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S1x16384x8x2x64, .f32⟩
  | .hbm, ⟨7, _⟩ => ⟨S1x16384x8x2x64, .f32⟩
  | .hbm, ⟨8, _⟩ => ⟨S1x16384x8x128, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384, .i32⟩
  | .hbm, ⟨25, _⟩ => ⟨S16384, .i32⟩
  | .hbm, ⟨26, _⟩ => ⟨S1x2x8x16384x16384, .f32⟩
  | .hbm, ⟨27, _⟩ => ⟨S_, .f32⟩
  | .hbm, ⟨28, _⟩ => ⟨S1x2x8x16384x16384, .f32⟩
  | .hbm, ⟨29, _⟩ => ⟨S1x2x8x16384x16384, .f32⟩
  | .hbm, ⟨30, _⟩ => ⟨S1x16384, .i32⟩
  | .hbm, ⟨31, _⟩ => ⟨S_, .i32⟩
  | .hbm, ⟨32, _⟩ => ⟨S_, .i32⟩
  | .hbm, ⟨33, _⟩ => ⟨S1x16384, .i32⟩
  | .hbm, ⟨34, _⟩ => ⟨S1x16384, .i32⟩
  | .hbm, ⟨35, _⟩ => ⟨S1x16384, .i32⟩
  | .hbm, ⟨36, _⟩ => ⟨S_, .i32⟩
  | .hbm, ⟨37, _⟩ => ⟨S1x16384, .i32⟩
  | .hbm, ⟨38, _⟩ => ⟨S1x16384, .i1⟩
  | .hbm, ⟨39, _⟩ => ⟨S1x16384, .i32⟩
  | .hbm, ⟨40, _⟩ => ⟨S1x16384, .i32⟩
  | .hbm, ⟨41, _⟩ => ⟨S_, .i32⟩
  | .hbm, ⟨42, _⟩ => ⟨S1x16384, .i32⟩
  | .hbm, ⟨43, _⟩ => ⟨S1x16384, .i1⟩
  | .hbm, ⟨44, _⟩ => ⟨S1x16384, .i1⟩
  | .hbm, ⟨45, _⟩ => ⟨S_, .i32⟩
  | .hbm, ⟨46, _⟩ => ⟨S1x16384, .i32⟩
  | .hbm, ⟨47, _⟩ => ⟨S1x16384, .i32⟩
  | .hbm, ⟨48, _⟩ => ⟨S1x16384, .i32⟩
  | .hbm, ⟨49, _⟩ => ⟨S16384x1, .i32⟩
  | .hbm, ⟨50, _⟩ => ⟨S_, .i32⟩
  | .hbm, ⟨51, _⟩ => ⟨S_, .i32⟩
  | .hbm, ⟨52, _⟩ => ⟨S16384x1, .i32⟩
  | .hbm, ⟨53, _⟩ => ⟨S16384x1, .i32⟩
  | .hbm, ⟨54, _⟩ => ⟨S16384x1, .i32⟩
  | .hbm, ⟨55, _⟩ => ⟨S_, .i32⟩
  | .hbm, ⟨56, _⟩ => ⟨S16384x1, .i32⟩
  | .hbm, ⟨57, _⟩ => ⟨S16384x1, .i1⟩
  | .hbm, ⟨58, _⟩ => ⟨S16384x1, .i32⟩
  | .hbm, ⟨59, _⟩ => ⟨S16384x1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S16384x1, .i1⟩
  | .hbm, ⟨64, _⟩ => ⟨S_, .i32⟩
  | .hbm, ⟨65, _⟩ => ⟨S16384x1, .i32⟩
  | .hbm, ⟨66, _⟩ => ⟨S16384x1, .i32⟩
  | .hbm, ⟨67, _⟩ => ⟨S16384x1, .i32⟩
  | .hbm, ⟨68, _⟩ => ⟨S16384x16384, .i32⟩
  | .hbm, ⟨69, _⟩ => ⟨S16384x16384, .i32⟩
  | .hbm, ⟨70, _⟩ => ⟨S16384x16384, .i1⟩
  | .hbm, ⟨71, _⟩ => ⟨S_, .f32⟩
  | .hbm, ⟨72, _⟩ => ⟨S_, .f32⟩
  | .hbm, ⟨73, _⟩ => ⟨S1x2x8x16384x16384, .i1⟩
  | .hbm, ⟨74, _⟩ => ⟨S1x2x8x16384x16384, .f32⟩
  | .hbm, ⟨75, _⟩ => ⟨S1x2x8x16384x16384, .f32⟩
  | .hbm, ⟨76, _⟩ => ⟨S_, .f32⟩
  | .hbm, ⟨77, _⟩ => ⟨S1x2x8x16384, .f32⟩
  | .hbm, ⟨78, _⟩ => ⟨S_, .f32⟩
  | .hbm, ⟨79, _⟩ => ⟨S1x2x8x16384, .f32⟩
  | .hbm, ⟨80, _⟩ => ⟨S1x2x8x16384, .f32⟩
  | .hbm, ⟨81, _⟩ => ⟨S1x2x8x16384x1, .f32⟩
  | .hbm, ⟨82, _⟩ => ⟨S1x2x8x16384x16384, .f32⟩
  | .hbm, ⟨83, _⟩ => ⟨S1x2x8x16384x16384, .f32⟩
  | .hbm, ⟨84, _⟩ => ⟨S1x2x8x16384x16384, .f32⟩
  | .hbm, ⟨85, _⟩ => ⟨S_, .f32⟩
  | .hbm, ⟨86, _⟩ => ⟨S1x2x8x16384, .f32⟩
  | .hbm, ⟨87, _⟩ => ⟨S1x2x8x16384x1, .f32⟩
  | .hbm, ⟨88, _⟩ => ⟨S1x2x8x16384x16384, .f32⟩
  | .hbm, ⟨89, _⟩ => ⟨S1x2x8x16384x16384, .f32⟩
  | .hbm, ⟨90, _⟩ => ⟨S1x1x8x16384x16384, .f32⟩
  | .hbm, ⟨91, _⟩ => ⟨S1x8x16384x16384, .f32⟩
  | .hbm, ⟨92, _⟩ => ⟨S1x1x8x16384x16384, .f32⟩
  | .hbm, ⟨93, _⟩ => ⟨S1x8x16384x16384, .f32⟩
  | .hbm, ⟨94, _⟩ => ⟨S1x8x16384x16384, .f32⟩
  | .hbm, ⟨95, _⟩ => ⟨S1x8x16384x16384, .f32⟩
  | .hbm, ⟨96, _⟩ => ⟨S1x8x16384x16384, .f32⟩
  | .hbm, ⟨97, _⟩ => ⟨S1x8x128x16384, .f32⟩
  | .hbm, ⟨98, _⟩ => ⟨S1x16384x8x128, .f32⟩
  | .hbm, ⟨99, _⟩ => ⟨S128, .f32⟩
  | .hbm, ⟨100, _⟩ => ⟨S1x16384x8x128, .f32⟩
  | .hbm, ⟨101, _⟩ => ⟨S_, .f32⟩
  | .hbm, ⟨102, _⟩ => ⟨S1x16384x8, .f32⟩
  | .hbm, ⟨103, _⟩ => ⟨S1x16384x8x1, .f32⟩
  | .hbm, ⟨104, _⟩ => ⟨S_, .f32⟩
  | .hbm, ⟨105, _⟩ => ⟨S1x16384x8x1, .f32⟩
  | .hbm, ⟨106, _⟩ => ⟨S1x16384x8x1, .f32⟩
  | .hbm, ⟨107, _⟩ => ⟨S_, .f32⟩
  | .hbm, ⟨108, _⟩ => ⟨S1x16384x8x1, .f32⟩
  | .hbm, ⟨109, _⟩ => ⟨S1x16384x8x1, .f32⟩
  | .hbm, ⟨110, _⟩ => ⟨S1x16384x8x1, .f32⟩
  | .hbm, ⟨111, _⟩ => ⟨S1x16384x8x128, .f32⟩
  | .hbm, ⟨112, _⟩ => ⟨S1x16384x8x128, .f32⟩
  | .hbm, ⟨113, _⟩ => ⟨S1x1x1x128, .f32⟩
  | .hbm, ⟨114, _⟩ => ⟨S1x16384x8x128, .f32⟩
  | .hbm, ⟨115, _⟩ => ⟨S1x16384x8x128, .f32⟩
  | .hbm, ⟨116, _⟩ => ⟨S_, .f32⟩
  | .hbm, ⟨117, _⟩ => ⟨S1x16384x8x128, .f32⟩
  | .hbm, ⟨118, _⟩ => ⟨S1x16384x8x128, .f32⟩
  | .hbm, ⟨119, _⟩ => ⟨S16384x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_4 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v24 : Ref sig .tc := ⟨.hbm, 75, rfl⟩
abbrev main_cst_5 : Ref sig .tc := ⟨.hbm, 76, rfl⟩
abbrev main_v25 : Ref sig .tc := ⟨.hbm, 77, rfl⟩
abbrev main_cst_6 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_7 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_8 : Ref sig .tc := ⟨.hbm, 101, rfl⟩
abbrev main_v47 : Ref sig .tc := ⟨.hbm, 102, rfl⟩
abbrev main_v48 : Ref sig .tc := ⟨.hbm, 103, rfl⟩
abbrev main_cst_9 : Ref sig .tc := ⟨.hbm, 104, rfl⟩
abbrev main_v49 : Ref sig .tc := ⟨.hbm, 105, rfl⟩
abbrev main_v50 : Ref sig .tc := ⟨.hbm, 106, rfl⟩
abbrev main_cst_10 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_11 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩

abbrev nD : Nat := 1
abbrev τ : Topo := Topo.v7x

variable {F : FTy → Type} [FloatOps F]
-- ==== Project.lean ====
abbrev S1x16384x2048 : Shape := ⟨3, ![1, 16384, 2048]⟩
abbrev S1x2048 : Shape := ⟨2, ![1, 2048]⟩
abbrev S1x2048x4096 : Shape := ⟨3, ![1, 2048, 4096]⟩
abbrev S1x64 : Shape := ⟨2, ![1, 64]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S64 : Shape := ⟨1, ![64]⟩
abbrev S16x64 : Shape := ⟨2, ![16, 64]⟩
abbrev S16384x2048 : Shape := ⟨2, ![16384, 2048]⟩
abbrev S2048 : Shape := ⟨1, ![2048]⟩
abbrev S2048x4096 : Shape := ⟨2, ![2048, 4096]⟩
abbrev S16384x1024 : Shape := ⟨2, ![16384, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S256x128 : Shape := ⟨2, ![256, 128]⟩

abbrev nBuf : Space → Nat
  | .hbm => 56
  | .vmem => 19
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x4096, .f32⟩
  | .hbm, ⟨3, _⟩ => ⟨S1x64, .f32⟩
  | .hbm, ⟨4, _⟩ => ⟨S1x64, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1x1024, .i32⟩
  | .hbm, ⟨26, _⟩ => ⟨S1024x1024, .i32⟩
  | .hbm, ⟨27, _⟩ => ⟨S1024x1024, .i32⟩
  | .hbm, ⟨28, _⟩ => ⟨S1024x1024, .i1⟩
  | .hbm, ⟨29, _⟩ => ⟨S_, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .bf16⟩
  | .hbm, ⟨35, _⟩ => ⟨S64, .f32⟩
  | .hbm, ⟨36, _⟩ => ⟨S1x64, .f32⟩
  | .hbm, ⟨37, _⟩ => ⟨S16x64, .f32⟩
  | .hbm, ⟨38, _⟩ => ⟨S1024, .f32⟩
  | .hbm, ⟨39, _⟩ => ⟨S1x1024, .f32⟩
  | .hbm, ⟨40, _⟩ => ⟨S64, .f32⟩
  | .hbm, ⟨41, _⟩ => ⟨S1x64, .f32⟩
  | .hbm, ⟨42, _⟩ => ⟨S16x64, .f32⟩
  | .hbm, ⟨43, _⟩ => ⟨S1024, .f32⟩
  | .hbm, ⟨44, _⟩ => ⟨S1x1024, .f32⟩
  | .hbm, ⟨45, _⟩ => ⟨S16384x2048, .f32⟩
  | .hbm, ⟨46, _⟩ => ⟨S2048, .f32⟩
  | .hbm, ⟨47, _⟩ => ⟨S1x2048, .f32⟩
  | .hbm, ⟨48, _⟩ => ⟨S2048x4096, .f32⟩
  | .hbm, ⟨49, _⟩ => ⟨S2048x4096, .bf16⟩
  | .hbm, ⟨50, _⟩ => ⟨S16384x1024, .f32⟩
  | .hbm, ⟨51, _⟩ => ⟨S16384x1024, .f32⟩
  | .hbm, ⟨52, _⟩ => ⟨S16384x1024, .bf16⟩
  | .hbm, ⟨53, _⟩ => ⟨S16384x1024, .f32⟩
  | .hbm, ⟨54, _⟩ => ⟨S16384x2048, .bf16⟩
  | .hbm, ⟨55, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x2048, .bf16⟩
  | .local _ .vmem, ⟨16, _⟩ => ⟨S256x2048, .bf16⟩
  | .local _ .vmem, ⟨17, _⟩ => ⟨S256x1024, .f32⟩
  | .local _ .vmem, ⟨18, _⟩ => ⟨S256x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev main_v24_3 : Ref sig .tc := ⟨.hbm, 53, rfl⟩
abbrev main_v24_4 : Ref sig .tc := ⟨.hbm, 54, rfl⟩
abbrev main_v24_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectReferenceIdeal.lean ====
abbrev S1x16384x2048 : Shape := ⟨3, ![1, 16384, 2048]⟩
abbrev S1x2048 : Shape := ⟨2, ![1, 2048]⟩
abbrev S1x2048x4096 : Shape := ⟨3, ![1, 2048, 4096]⟩
abbrev S1x64 : Shape := ⟨2, ![1, 64]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x4096 : Shape := ⟨2, ![2048, 4096]⟩
abbrev S1x16384x4096 : Shape := ⟨3, ![1, 16384, 4096]⟩
abbrev S1x16384x1024 : Shape := ⟨3, ![1, 16384, 1024]⟩
abbrev S1x16384x8x2x64 : Shape := ⟨5, ![1, 16384, 8, 2, 64]⟩
abbrev S64 : Shape := ⟨1, ![64]⟩
abbrev S1x16384x8x2 : Shape := ⟨4, ![1, 16384, 8, 2]⟩
abbrev S1x16384x8x2x1 : Shape := ⟨5, ![1, 16384, 8, 2, 1]⟩
abbrev S1x1x1x1x64 : Shape := ⟨5, ![1, 1, 1, 1, 64]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x4096, .f32⟩
  | .hbm, ⟨3, _⟩ => ⟨S1x64, .f32⟩
  | .hbm, ⟨4, _⟩ => ⟨S1x64, .f32⟩
  | .hbm, ⟨5, _⟩ => ⟨S2048, .f32⟩
  | .hbm, ⟨6, _⟩ => ⟨S1x16384x2048, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x2048, .f32⟩
  | .hbm, ⟨18, _⟩ => ⟨S1x16384x2048, .f32⟩
  | .hbm, ⟨19, _⟩ => ⟨S1x1x2048, .f32⟩
  | .hbm, ⟨20, _⟩ => ⟨S1x16384x2048, .f32⟩
  | .hbm, ⟨21, _⟩ => ⟨S1x16384x2048, .f32⟩
  | .hbm, ⟨22, _⟩ => ⟨S2048x4096, .f32⟩
  | .hbm, ⟨23, _⟩ => ⟨S1x16384x4096, .f32⟩
  | .hbm, ⟨24, _⟩ => ⟨S1x16384x1024, .f32⟩
  | .hbm, ⟨25, _⟩ => ⟨S1x16384x1024, .f32⟩
  | .hbm, ⟨26, _⟩ => ⟨S1x16384x1024, .f32⟩
  | .hbm, ⟨27, _⟩ => ⟨S1x16384x1024, .f32⟩
  | .hbm, ⟨28, _⟩ => ⟨S1x16384x8x2x64, .f32⟩
  | .hbm, ⟨29, _⟩ => ⟨S64, .f32⟩
  | .hbm, ⟨30, _⟩ => ⟨S1x16384x8x2x64, .f32⟩
  | .hbm, ⟨31, _⟩ => ⟨S_, .f32⟩
  | .hbm, ⟨32, _⟩ => ⟨S1x16384x8x2, .f32⟩
  | .hbm, ⟨33, _⟩ => ⟨S1x16384x8x2x1, .f32⟩
  | .hbm, ⟨34, _⟩ => ⟨S_, .f32⟩
  | .hbm, ⟨35, _⟩ => ⟨S1x16384x8x2x1, .f32⟩
  | .hbm, ⟨36, _⟩ => ⟨S1x16384x8x2x1, .f32⟩
  | .hbm, ⟨37, _⟩ => ⟨S_, .f32⟩
  | .hbm, ⟨38, _⟩ => ⟨S1x16384x8x2x1, .f32⟩
  | .hbm, ⟨39, _⟩ => ⟨S1x16384x8x2x1, .f32⟩
  | .hbm, ⟨40, _⟩ => ⟨S1x16384x8x2x1, .f32⟩
  | .hbm, ⟨41, _⟩ => ⟨S1x16384x8x2x64, .f32⟩
  | .hbm, ⟨42, _⟩ => ⟨S1x16384x8x2x64, .f32⟩
  | .hbm, ⟨43, _⟩ => ⟨S1x1x1x1x64, .f32⟩
  | .hbm, ⟨44, _⟩ => ⟨S1x16384x8x2x64, .f32⟩
  | .hbm, ⟨45, _⟩ => ⟨S1x16384x8x2x64, .f32⟩
  | .hbm, ⟨46, _⟩ => ⟨S1x16384x8x2x64, .f32⟩
  | .hbm, ⟨47, _⟩ => ⟨S64, .f32⟩
  | .hbm, ⟨48, _⟩ => ⟨S1x16384x8x2x64, .f32⟩
  | .hbm, ⟨49, _⟩ => ⟨S_, .f32⟩
  | .hbm, ⟨50, _⟩ => ⟨S1x16384x8x2, .f32⟩
  | .hbm, ⟨51, _⟩ => ⟨S1x16384x8x2x1, .f32⟩
  | .hbm, ⟨52, _⟩ => ⟨S_, .f32⟩
  | .hbm, ⟨53, _⟩ => ⟨S1x16384x8x2x1, .f32⟩
  | .hbm, ⟨54, _⟩ => ⟨S1x16384x8x2x1, .f32⟩
  | .hbm, ⟨55, _⟩ => ⟨S_, .f32⟩
  | .hbm, ⟨56, _⟩ => ⟨S1x16384x8x2x1, .f32⟩
  | .hbm, ⟨57, _⟩ => ⟨S1x16384x8x2x1, .f32⟩
  | .hbm, ⟨58, _⟩ => ⟨S1x16384x8x2x1, .f32⟩
  | .hbm, ⟨59, _⟩ => ⟨S1x16384x8x2x64, .f32⟩
  | .hbm, ⟨60, _⟩ => ⟨S1x16384x8x2x64, .f32⟩
  | .hbm, ⟨61, _⟩ => ⟨S1x1x1x1x64, .f32⟩
  | .hbm, ⟨62, _⟩ => ⟨S1x16384x8x2x64, .f32⟩
  | .hbm, ⟨63, _⟩ => ⟨S1x16384x8x2x64, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Output.lean ====
abbrev S1x16384x1024 : Shape := ⟨3, ![1, 16384, 1024]⟩
abbrev S16384x1024 : Shape := ⟨2, ![16384, 1024]⟩
abbrev S1x16384x2048 : Shape := ⟨3, ![1, 16384, 2048]⟩
abbrev S1x1024x1024 : Shape := ⟨3, ![1, 1024, 1024]⟩
abbrev S1x1024 : Shape := ⟨2, ![1, 1024]⟩
abbrev S1x2048x2048 : Shape := ⟨3, ![1, 2048, 2048]⟩
abbrev S1x2048 : Shape := ⟨2, ![1, 2048]⟩
abbrev S16384x2048 : Shape := ⟨2, ![16384, 2048]⟩
abbrev S1024x1024 : Shape := ⟨2, ![1024, 1024]⟩
abbrev S1024 : Shape := ⟨1, ![1024]⟩
abbrev S2048x2048 : Shape := ⟨2, ![2048, 2048]⟩
abbrev S2048 : Shape := ⟨1, ![2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩

abbrev nBuf : Space → Nat
  | .hbm => 26
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S1x16384x2048, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S1x2048, .f32⟩
  | .hbm, ⟨8, _⟩ => ⟨S1x2048x2048, .f32⟩
  | .hbm, ⟨9, _⟩ => ⟨S16384x1024, .f32⟩
  | .hbm, ⟨10, _⟩ => ⟨S16384x2048, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2048x2048, .f32⟩
  | .hbm, ⟨18, _⟩ => ⟨S2048x2048, .bf16⟩
  | .hbm, ⟨19, _⟩ => ⟨S2048, .f32⟩
  | .hbm, ⟨20, _⟩ => ⟨S1x2048, .f32⟩
  | .hbm, ⟨21, _⟩ => ⟨S2048x2048, .f32⟩
  | .hbm, ⟨22, _⟩ => ⟨S2048x2048, .bf16⟩
  | .hbm, ⟨23, _⟩ => ⟨S16384x2048, .f32⟩
  | .hbm, ⟨24, _⟩ => ⟨S16384x2048, .bf16⟩
  | .hbm, ⟨25, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S2048x2048, .bf16⟩
  | .local _ .vmem, ⟨10, _⟩ => ⟨S1x2048, .f32⟩
  | .local _ .vmem, ⟨11, _⟩ => ⟨S2048x2048, .bf16⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutputReferenceIdeal.lean ====
abbrev S1x16384x1024 : Shape := ⟨3, ![1, 16384, 1024]⟩
abbrev S16384x1024 : Shape := ⟨2, ![16384, 1024]⟩
abbrev S1x16384x2048 : Shape := ⟨3, ![1, 16384, 2048]⟩
abbrev S1x1024x1024 : Shape := ⟨3, ![1, 1024, 1024]⟩
abbrev S1x1024 : Shape := ⟨2, ![1, 1024]⟩
abbrev S1x2048x2048 : Shape := ⟨3, ![1, 2048, 2048]⟩
abbrev S1x2048 : Shape := ⟨2, ![1, 2048]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S1x16384 : Shape := ⟨2, ![1, 16384]⟩
abbrev S1x16384x1 : Shape := ⟨3, ![1, 16384, 1]⟩
abbrev S2048x2048 : Shape := ⟨2, ![2048, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 79
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S1x16384x2048, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S1x2048, .f32⟩
  | .hbm, ⟨8, _⟩ => ⟨S1x2048x2048, .f32⟩
  | .hbm, ⟨9, _⟩ => ⟨S_, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S_, .f32⟩
  | .hbm, ⟨14, _⟩ => ⟨S1x16384x1024, .f32⟩
  | .hbm, ⟨15, _⟩ => ⟨S1x16384x1024, .f32⟩
  | .hbm, ⟨16, _⟩ => ⟨S1x16384x1024, .f32⟩
  | .hbm, ⟨17, _⟩ => ⟨S1x16384x1024, .f32⟩
  | .hbm, ⟨18, _⟩ => ⟨S1024x1024, .f32⟩
  | .hbm, ⟨19, _⟩ => ⟨S1x16384x1024, .f32⟩
  | .hbm, ⟨20, _⟩ => ⟨S1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S1x16384x1024, .f32⟩
  | .hbm, ⟨25, _⟩ => ⟨S1x16384x1024, .f32⟩
  | .hbm, ⟨26, _⟩ => ⟨S_, .f32⟩
  | .hbm, ⟨27, _⟩ => ⟨S1x16384x1024, .f32⟩
  | .hbm, ⟨28, _⟩ => ⟨S1x16384x1024, .f32⟩
  | .hbm, ⟨29, _⟩ => ⟨S_, .f32⟩
  | .hbm, ⟨30, _⟩ => ⟨S1x16384x1024, .f32⟩
  | .hbm, ⟨31, _⟩ => ⟨S1x16384x1024, .f32⟩
  | .hbm, ⟨32, _⟩ => ⟨S1x16384x1024, .f32⟩
  | .hbm, ⟨33, _⟩ => ⟨S1024, .f32⟩
  | .hbm, ⟨34, _⟩ => ⟨S1x16384x1024, .f32⟩
  | .hbm, ⟨35, _⟩ => ⟨S_, .f32⟩
  | .hbm, ⟨36, _⟩ => ⟨S1x16384, .f32⟩
  | .hbm, ⟨37, _⟩ => ⟨S1x16384x1, .f32⟩
  | .hbm, ⟨38, _⟩ => ⟨S_, .f32⟩
  | .hbm, ⟨39, _⟩ => ⟨S1x16384x1, .f32⟩
  | .hbm, ⟨40, _⟩ => ⟨S1x16384x1, .f32⟩
  | .hbm, ⟨41, _⟩ => ⟨S_, .f32⟩
  | .hbm, ⟨42, _⟩ => ⟨S1x16384x1, .f32⟩
  | .hbm, ⟨43, _⟩ => ⟨S1x16384x1, .f32⟩
  | .hbm, ⟨44, _⟩ => ⟨S1x16384x1, .f32⟩
  | .hbm, ⟨45, _⟩ => ⟨S1x16384x1024, .f32⟩
  | .hbm, ⟨46, _⟩ => ⟨S1x16384x1024, .f32⟩
  | .hbm, ⟨47, _⟩ => ⟨S1x1x1024, .f32⟩
  | .hbm, ⟨48, _⟩ => ⟨S1x16384x1024, .f32⟩
  | .hbm, ⟨49, _⟩ => ⟨S1x16384x1024, .f32⟩
  | .hbm, ⟨50, _⟩ => ⟨S1x16384x1024, .f32⟩
  | .hbm, ⟨51, _⟩ => ⟨S1x16384x2048, .f32⟩
  | .hbm, ⟨52, _⟩ => ⟨S2048x2048, .f32⟩
  | .hbm, ⟨53, _⟩ => ⟨S1x16384x2048, .f32⟩
  | .hbm, ⟨54, _⟩ => ⟨S1x16384x2048, .f32⟩
  | .hbm, ⟨55, _⟩ => ⟨S2048, .f32⟩
  | .hbm, ⟨56, _⟩ => ⟨S1x16384x2048, .f32⟩
  | .hbm, ⟨57, _⟩ => ⟨S_, .f32⟩
  | .hbm, ⟨58, _⟩ => ⟨S1x16384, .f32⟩
  | .hbm, ⟨59, _⟩ => ⟨S1x16384x1, .f32⟩
  | .hbm, ⟨60, _⟩ => ⟨S_, .f32⟩
  | .hbm, ⟨61, _⟩ => ⟨S1x16384x1, .f32⟩
  | .hbm, ⟨62, _⟩ => ⟨S1x16384x1, .f32⟩
  | .hbm, ⟨63, _⟩ => ⟨S_, .f32⟩
  | .hbm, ⟨64, _⟩ => ⟨S1x16384x1, .f32⟩
  | .hbm, ⟨65, _⟩ => ⟨S1x16384x1, .f32⟩
  | .hbm, ⟨66, _⟩ => ⟨S1x16384x1, .f32⟩
  | .hbm, ⟨67, _⟩ => ⟨S1x16384x2048, .f32⟩
  | .hbm, ⟨68, _⟩ => ⟨S1x16384x2048, .f32⟩
  | .hbm, ⟨69, _⟩ => ⟨S1x1x2048, .f32⟩
  | .hbm, ⟨70, _⟩ => ⟨S1x16384x2048, .f32⟩
  | .hbm, ⟨71, _⟩ => ⟨S1x16384x2048, .f32⟩
  | .hbm, ⟨72, _⟩ => ⟨S2048x2048, .f32⟩
  | .hbm, ⟨73, _⟩ => ⟨S1x16384x2048, .f32⟩
  | .hbm, ⟨74, _⟩ => ⟨S16384x2048, .f32⟩
  | .hbm, ⟨75, _⟩ => ⟨S16384x2048, .f32⟩
  | .hbm, ⟨76, _⟩ => ⟨S16384x2048, .bf16⟩
  | .hbm, ⟨77, _⟩ => ⟨S16384x2048, .f32⟩
  | .hbm, ⟨78, _⟩ => ⟨S16384x2048, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Proof.Ideal.Skel.lean ====
/- The parts of the kernel that hold no named constant, as their skeletons: equations over `FloatOps` alone. The equations
   proved for the whole program carry the `Named` instance of the whole program, which the parts themselves do not have. -/
module

public import proofs.«01_k».proof.Proof.Gen.KernelIdeal.Frame.Runs

@[expose] public section

noncomputable section

namespace Cert.KernelIdeal

open Idealize.ShloMosaic

variable {F : FTy → Type} [FloatOps F]

/-- Some reading of named constants: each as its bits. Only used where the reading does not matter. -/
@[implicit_reducible] def anyNamed : Named F := ⟨fun _ _ {φ} bits => FloatOps.ofBits φ bits⟩

theorem k0_part1_eq_skeleton : k0_part1 (F := F) = Gen.k0_part1_skel (F := F) :=
  letI := anyNamed (F := F); Gen.k0_part1_eq_skeleton
theorem k0_part2_eq_skeleton : k0_part2 (F := F) = Gen.k0_part2_skel (F := F) :=
  letI := anyNamed (F := F); Gen.k0_part2_eq_skeleton
theorem k0_part3_eq_skeleton : k0_part3 (F := F) = Gen.k0_part3_skel (F := F) :=
  letI := anyNamed (F := F); Gen.k0_part3_eq_skeleton
theorem k0_part4_eq_skeleton : k0_part4 (F := F) = Gen.k0_part4_skel (F := F) :=
  letI := anyNamed (F := F); Gen.k0_part4_eq_skeleton
theorem k0_part5_eq_skeleton : k0_part5 (F := F) = Gen.k0_part5_skel (F := F) :=
  letI := anyNamed (F := F); Gen.k0_part5_eq_skeleton
theorem k0_part6_eq_skeleton : k0_part6 (F := F) = Gen.k0_part6_skel (F := F) :=
  letI := anyNamed (F := F); Gen.k0_part6_eq_skeleton
theorem k0_part7_eq_skeleton : k0_part7 (F := F) = Gen.k0_part7_skel (F := F) :=
  letI := anyNamed (F := F); Gen.k0_part7_eq_skeleton
theorem k0_part8_eq_skeleton : k0_part8 (F := F) = Gen.k0_part8_skel (F := F) :=
  letI := anyNamed (F := F); Gen.k0_part8_eq_skeleton
theorem k0_part9_eq_skeleton : k0_part9 (F := F) = Gen.k0_part9_skel (F := F) :=
  letI := anyNamed (F := F); Gen.k0_part9_eq_skeleton
theorem k0_part10_eq_skeleton : k0_part10 (F := F) = Gen.k0_part10_skel (F := F) :=
  letI := anyNamed (F := F); Gen.k0_part10_eq_skeleton
theorem k0_part11_eq_skeleton : k0_part11 (F := F) = Gen.k0_part11_skel (F := F) :=
  letI := anyNamed (F := F); Gen.k0_part11_eq_skeleton
theorem k0_part12_eq_skeleton : k0_part12 (F := F) = Gen.k0_part12_skel (F := F) :=
  letI := anyNamed (F := F); Gen.k0_part12_eq_skeleton
theorem k0_part13_eq_skeleton : k0_part13 (F := F) = Gen.k0_part13_skel (F := F) :=
  letI := anyNamed (F := F); Gen.k0_part13_eq_skeleton
theorem k0_part14_eq_skeleton : k0_part14 (F := F) = Gen.k0_part14_skel (F := F) :=
  letI := anyNamed (F := F); Gen.k0_part14_eq_skeleton
theorem k0_part15_eq_skeleton : k0_part15 (F := F) = Gen.k0_part15_skel (F := F) :=
  letI := anyNamed (F := F); Gen.k0_part15_eq_skeleton
theorem k0_part16_eq_skeleton : k0_part16 (F := F) = Gen.k0_part16_skel (F := F) :=
  letI := anyNamed (F := F); Gen.k0_part16_eq_skeleton
theorem k0_part17_eq_skeleton : k0_part17 (F := F) = Gen.k0_part17_skel (F := F) :=
  letI := anyNamed (F := F); Gen.k0_part17_eq_skeleton
theorem k0_part18_eq_skeleton : k0_part18 (F := F) = Gen.k0_part18_skel (F := F) :=
  letI := anyNamed (F := F); Gen.k0_part18_eq_skeleton
theorem k0_part19_eq_skeleton : k0_part19 (F := F) = Gen.k0_part19_skel (F := F) :=
  letI := anyNamed (F := F); Gen.k0_part19_eq_skeleton
theorem k0_part20_eq_skeleton : k0_part20 (F := F) = Gen.k0_part20_skel (F := F) :=
  letI := anyNamed (F := F); Gen.k0_part20_eq_skeleton
theorem k0_part21_eq_skeleton : k0_part21 (F := F) = Gen.k0_part21_skel (F := F) :=
  letI := anyNamed (F := F); Gen.k0_part21_eq_skeleton
theorem k0_part22_eq_skeleton : k0_part22 (F := F) = Gen.k0_part22_skel (F := F) :=
  letI := anyNamed (F := F); Gen.k0_part22_eq_skeleton
theorem k0_part23_eq_skeleton : k0_part23 (F := F) = Gen.k0_part23_skel (F := F) :=
  letI := anyNamed (F := F); Gen.k0_part23_eq_skeleton
theorem k0_part24_eq_skeleton : k0_part24 (F := F) = Gen.k0_part24_skel (F := F) :=
  letI := anyNamed (F := F); Gen.k0_part24_eq_skeleton
theorem k0_part25_eq_skeleton : k0_part25 (F := F) = Gen.k0_part25_skel (F := F) :=
  letI := anyNamed (F := F); Gen.k0_part25_eq_skeleton
theorem k0_part26_eq_skeleton : k0_part26 (F := F) = Gen.k0_part26_skel (F := F) :=
  letI := anyNamed (F := F); Gen.k0_part26_eq_skeleton
theorem k0_part27_eq_skeleton : k0_part27 (F := F) = Gen.k0_part27_skel (F := F) :=
  letI := anyNamed (F := F); Gen.k0_part27_eq_skeleton
theorem k0_part28_eq_skeleton : k0_part28 (F := F) = Gen.k0_part28_skel (F := F) :=
  letI := anyNamed (F := F); Gen.k0_part28_eq_skeleton
theorem k0_part29_eq_skeleton : k0_part29 (F := F) = Gen.k0_part29_skel (F := F) :=
  letI := anyNamed (F := F); Gen.k0_part29_eq_skeleton
theorem k0_part30_eq_skeleton : k0_part30 (F := F) = Gen.k0_part30_skel (F := F) :=
  letI := anyNamed (F := F); Gen.k0_part30_eq_skeleton
theorem k0_part31_eq_skeleton : k0_part31 (F := F) = Gen.k0_part31_skel (F := F) :=
  letI := anyNamed (F := F); Gen.k0_part31_eq_skeleton
theorem k0_part32_eq_skeleton : k0_part32 (F := F) = Gen.k0_part32_skel (F := F) :=
  letI := anyNamed (F := F); Gen.k0_part32_eq_skeleton
theorem k0_part33_eq_skeleton : k0_part33 (F := F) = Gen.k0_part33_skel (F := F) :=
  letI := anyNamed (F := F); Gen.k0_part33_eq_skeleton
theorem k0_part34_eq_skeleton : k0_part34 (F := F) = Gen.k0_part34_skel (F := F) :=
  letI := anyNamed (F := F); Gen.k0_part34_eq_skeleton
theorem k0_part35_eq_skeleton : k0_part35 (F := F) = Gen.k0_part35_skel (F := F) :=
  letI := anyNamed (F := F); Gen.k0_part35_eq_skeleton
theorem k0_part36_eq_skeleton : k0_part36 (F := F) = Gen.k0_part36_skel (F := F) :=
  letI := anyNamed (F := F); Gen.k0_part36_eq_skeleton
theorem k0_part37_eq_skeleton : k0_part37 (F := F) = Gen.k0_part37_skel (F := F) :=
  letI := anyNamed (F := F); Gen.k0_part37_eq_skeleton
theorem k0_part38_eq_skeleton : k0_part38 (F := F) = Gen.k0_part38_skel (F := F) :=
  letI := anyNamed (F := F); Gen.k0_part38_eq_skeleton
theorem k0_part39_eq_skeleton : k0_part39 (F := F) = Gen.k0_part39_skel (F := F) :=
  letI := anyNamed (F := F); Gen.k0_part39_eq_skeleton
theorem k0_part40_eq_skeleton : k0_part40 (F := F) = Gen.k0_part40_skel (F := F) :=
  letI := anyNamed (F := F); Gen.k0_part40_eq_skeleton
theorem k0_part41_eq_skeleton : k0_part41 (F := F) = Gen.k0_part41_skel (F := F) :=
  letI := anyNamed (F := F); Gen.k0_part41_eq_skeleton
theorem k0_part42_eq_skeleton : k0_part42 (F := F) = Gen.k0_part42_skel (F := F) :=
  letI := anyNamed (F := F); Gen.k0_part42_eq_skeleton
theorem k0_part43_eq_skeleton : k0_part43 (F := F) = Gen.k0_part43_skel (F := F) :=
  letI := anyNamed (F := F); Gen.k0_part43_eq_skeleton
theorem k0_part44_eq_skeleton : k0_part44 (F := F) = Gen.k0_part44_skel (F := F) :=
  letI := anyNamed (F := F); Gen.k0_part44_eq_skeleton
theorem k0_part45_eq_skeleton : k0_part45 (F := F) = Gen.k0_part45_skel (F := F) :=
  letI := anyNamed (F := F); Gen.k0_part45_eq_skeleton
theorem k0_part46_eq_skeleton : k0_part46 (F := F) = Gen.k0_part46_skel (F := F) :=
  letI := anyNamed (F := F); Gen.k0_part46_eq_skeleton
theorem k0_part47_eq_skeleton : k0_part47 (F := F) = Gen.k0_part47_skel (F := F) :=
  letI := anyNamed (F := F); Gen.k0_part47_eq_skeleton
theorem k0_part48_eq_skeleton : k0_part48 (F := F) = Gen.k0_part48_skel (F := F) :=
  letI := anyNamed (F := F); Gen.k0_part48_eq_skeleton
theorem k0_part49_eq_skeleton : k0_part49 (F := F) = Gen.k0_part49_skel (F := F) :=
  letI := anyNamed (F := F); Gen.k0_part49_eq_skeleton
theorem k0_part50_eq_skeleton : k0_part50 (F := F) = Gen.k0_part50_skel (F := F) :=
  letI := anyNamed (F := F); Gen.k0_part50_eq_skeleton
theorem k0_part51_eq_skeleton : k0_part51 (F := F) = Gen.k0_part51_skel (F := F) :=
  letI := anyNamed (F := F); Gen.k0_part51_eq_skeleton
theorem k0_part52_eq_skeleton : k0_part52 (F := F) = Gen.k0_part52_skel (F := F) :=
  letI := anyNamed (F := F); Gen.k0_part52_eq_skeleton
theorem k0_part53_eq_skeleton : k0_part53 (F := F) = Gen.k0_part53_skel (F := F) :=
  letI := anyNamed (F := F); Gen.k0_part53_eq_skeleton
theorem k0_part54_eq_skeleton : k0_part54 (F := F) = Gen.k0_part54_skel (F := F) :=
  letI := anyNamed (F := F); Gen.k0_part54_eq_skeleton
theorem k0_part55_eq_skeleton : k0_part55 (F := F) = Gen.k0_part55_skel (F := F) :=
  letI := anyNamed (F := F); Gen.k0_part55_eq_skeleton
theorem k0_part56_eq_skeleton : k0_part56 (F := F) = Gen.k0_part56_skel (F := F) :=
  letI := anyNamed (F := F); Gen.k0_part56_eq_skeleton
theorem k0_part57_eq_skeleton : k0_part57 (F := F) = Gen.k0_part57_skel (F := F) :=
  letI := anyNamed (F := F); Gen.k0_part57_eq_skeleton
theorem k0_part58_eq_skeleton : k0_part58 (F := F) = Gen.k0_part58_skel (F := F) :=
  letI := anyNamed (F := F); Gen.k0_part58_eq_skeleton
theorem k0_part60_eq_skeleton : k0_part60 (F := F) = Gen.k0_part60_skel (F := F) :=
  letI := anyNamed (F := F); Gen.k0_part60_eq_skeleton

end Cert.KernelIdeal
-- ==== Proof.Ideal.RunB.lean ====
/- The run of the attention body with the word 1, at an even point of the grid: the plain way over blocks of keys, then the diagonal block. The skeleton of the body is executed from
   whole buffers; the pieces that its stores leave in the output block are the witness that the execution finds. -/
module

public import proofs.«01_k».proof.Proof.Ideal.Skel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces, last first, that the body leaves in the output block with the word 1, at an even point of the grid, with its triple: the inputs end as they were,
    the scratch buffers at some contents, the output block with the pieces written. -/
noncomputable def kernelRun0_B (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole) (hc1 : ¬cond0_1 i)
    (x0 : Vec F S1 .i32) (x1 : Vec F S1x64 .f32) (x2 : Vec F S1x64 .f32) (x3 : Vec F S1x64 .f32) (x4 : Vec F S1x64 .f32) (x5 : Vec F S1x128 .f32) (x6 : Vec F S1024x128 .f32) (x7 : Vec F S16384x128 .bf16) (x8 : Vec F S16384x256 .bf16) (hc0 : cond0_0 i (arg2.view.readAt (Elt F) (Rect.unit (s := S1) ![0] S1.size inb_S1_S1_0).toLoadRect (harg2.unread x0) (Shape.Idx.first (numel1_S1.symm ▸ Nat.one_pos)))) (hc2 : ¬cond0_2 i (arg2.view.readAt (Elt F) (Rect.unit (s := S1) ![0] S1.size inb_S1_S1_0).toLoadRect (harg2.unread x0) (Shape.Idx.first (numel1_S1.symm ▸ Nat.one_pos)))) :
    Σ' (L9 : List (View.Piece (Elt F) S1024x128 .f32)), { LT2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14) K } := by
  refine ⟨?_, [], fun E K => ?run⟩
  case run =>
    simp only [cc0_attn_prompt_eq_skeleton]; unfold cc0_attn_prompt_skel
    simp only [k0_part59_eq_skeleton, k0_part60_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.Ideal.RunC.lean ====
/- The run of the attention body with another word, at an even point of the grid: the way with a running maximum over blocks of keys, then the diagonal block. The skeleton of the body is executed from
   whole buffers; the pieces that its stores leave in the output block are the witness that the execution finds. -/
module

public import proofs.«01_k».proof.Proof.Ideal.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1120000 in
/-- The pieces, last first, that the body leaves in the output block with another word, at an even point of the grid, with its triple: the inputs end as they were,
    the scratch buffers at some contents, the output block with the pieces written. -/
noncomputable def kernelRun0_C (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole) (hc3 : ¬cond0_3 i)
    (x0 : Vec F S1 .i32) (x1 : Vec F S1x64 .f32) (x2 : Vec F S1x64 .f32) (x3 : Vec F S1x64 .f32) (x4 : Vec F S1x64 .f32) (x5 : Vec F S1x128 .f32) (x6 : Vec F S1024x128 .f32) (x7 : Vec F S16384x128 .bf16) (x8 : Vec F S16384x256 .bf16) (hc0 : ¬cond0_0 i (arg2.view.readAt (Elt F) (Rect.unit (s := S1) ![0] S1.size inb_S1_S1_0).toLoadRect (harg2.unread x0) (Shape.Idx.first (numel1_S1.symm ▸ Nat.one_pos)))) (hc2 : cond0_2 i (arg2.view.readAt (Elt F) (Rect.unit (s := S1) ![0] S1.size inb_S1_S1_0).toLoadRect (harg2.unread x0) (Shape.Idx.first (numel1_S1.symm ▸ Nat.one_pos)))) :
    Σ' (L9 : List (View.Piece (Elt F) S1024x128 .f32)), { LT2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14) K } := by
  refine ⟨?_, [], fun E K => ?run⟩
  case run =>
    simp only [cc0_attn_prompt_eq_skeleton]; unfold cc0_attn_prompt_skel
    simp only [k0_part59_eq_skeleton, k0_part60_eq_skeleton, k0_part58_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.Ideal.RunF.lean ====
/- The run of the attention body with the word 1, at an odd point of the grid: the plain way over blocks of keys, then half a block, then the diagonal block. The skeleton of the body is executed from
   whole buffers; the pieces that its stores leave in the output block are the witness that the execution finds. -/
module

public import proofs.«01_k».proof.Proof.Ideal.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1324000 in
/-- The pieces, last first, that the body leaves in the output block with the word 1, at an odd point of the grid, with its triple: the inputs end as they were,
    the scratch buffers at some contents, the output block with the pieces written. -/
noncomputable def kernelRun0_F (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole) (hc1 : cond0_1 i)
    (x0 : Vec F S1 .i32) (x1 : Vec F S1x64 .f32) (x2 : Vec F S1x64 .f32) (x3 : Vec F S1x64 .f32) (x4 : Vec F S1x64 .f32) (x5 : Vec F S1x128 .f32) (x6 : Vec F S1024x128 .f32) (x7 : Vec F S16384x128 .bf16) (x8 : Vec F S16384x256 .bf16) (hc0 : cond0_0 i (arg2.view.readAt (Elt F) (Rect.unit (s := S1) ![0] S1.size inb_S1_S1_0).toLoadRect (harg2.unread x0) (Shape.Idx.first (numel1_S1.symm ▸ Nat.one_pos)))) (hc2 : ¬cond0_2 i (arg2.view.readAt (Elt F) (Rect.unit (s := S1) ![0] S1.size inb_S1_S1_0).toLoadRect (harg2.unread x0) (Shape.Idx.first (numel1_S1.symm ▸ Nat.one_pos)))) :
    Σ' (L9 : List (View.Piece (Elt F) S1024x128 .f32)), { LT2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14) K } := by
  refine ⟨?_, [], fun E K => ?run⟩
  case run =>
    simp only [cc0_attn_prompt_eq_skeleton]; unfold cc0_attn_prompt_skel
    simp only [k0_part59_eq_skeleton, k0_part60_eq_skeleton, k0_part10_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.Ideal.RunG.lean ====
/- The run of the attention body with another word, at an odd point of the grid: the way with a running maximum over blocks of keys, then half a block, then the diagonal block. The skeleton of the body is executed from
   whole buffers; the pieces that its stores leave in the output block are the witness that the execution finds. -/
module

public import proofs.«01_k».proof.Proof.Ideal.RunF

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1652000 in
/-- The pieces, last first, that the body leaves in the output block with another word, at an odd point of the grid, with its triple: the inputs end as they were,
    the scratch buffers at some contents, the output block with the pieces written. -/
noncomputable def kernelRun0_G (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole) (hc3 : cond0_3 i)
    (x0 : Vec F S1 .i32) (x1 : Vec F S1x64 .f32) (x2 : Vec F S1x64 .f32) (x3 : Vec F S1x64 .f32) (x4 : Vec F S1x64 .f32) (x5 : Vec F S1x128 .f32) (x6 : Vec F S1024x128 .f32) (x7 : Vec F S16384x128 .bf16) (x8 : Vec F S16384x256 .bf16) (hc0 : ¬cond0_0 i (arg2.view.readAt (Elt F) (Rect.unit (s := S1) ![0] S1.size inb_S1_S1_0).toLoadRect (harg2.unread x0) (Shape.Idx.first (numel1_S1.symm ▸ Nat.one_pos)))) (hc2 : cond0_2 i (arg2.view.readAt (Elt F) (Rect.unit (s := S1) ![0] S1.size inb_S1_S1_0).toLoadRect (harg2.unread x0) (Shape.Idx.first (numel1_S1.symm ▸ Nat.one_pos)))) :
    Σ' (L9 : List (View.Piece (Elt F) S1024x128 .f32)), { LT2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14) K } := by
  refine ⟨?_, [], fun E K => ?run⟩
  case run =>
    simp only [cc0_attn_prompt_eq_skeleton]; unfold cc0_attn_prompt_skel
    simp only [k0_part59_eq_skeleton, k0_part60_eq_skeleton, k0_part58_eq_skeleton, k0_part42_eq_skeleton, k0_part36_eq_skeleton, k0_part37_eq_skeleton, k0_part38_eq_skeleton, k0_part39_eq_skeleton, k0_part40_eq_skeleton, k0_part41_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.Ideal.Frame.lean ====
module

public import proofs.«01_k».proof.Proof.Ideal.RunG
public import Idealize.ShloMosaic.Lib.Claim
public import Idealize.ShloMosaic.Lib.Pipeline.Value

/-
  The frame of the idealized attention kernel.

  The body has two ways, chosen by the word it reads from its first argument: with the word 1 the plain sum of
  exponentials, otherwise the sum with a running maximum. Each has a further step at the odd points of the grid. So there
  are four cases; in each the body runs (`kernelRun0_B`, `_F` for the plain way, `_C`, `_G` for the other), leaving its
  inputs as they were and its output block at the pieces that the run names.
-/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The word that chooses the way, as the body reads it at point `t`. -/
abbrev word (c : Dev nD) (t : Fin cfg0.N) : BitVec 32 :=
  (ms0_0 t).view.readAt (Elt F) (Rect.unit (s := S1) ![0] S1.size inb_S1_S1_0).toLoadRect
    ((hs0_0 t).unread (iblk m c 0 t)) (Shape.Idx.first (numel1_S1.symm ▸ Nat.one_pos))

/-- The two ways exclude one another, -/
theorem not_cond2 {i : grid0.Coords} {w : BitVec 32} (h : cond0_0 i w) : ¬cond0_2 i w := by
  intro h2
  by_cases hw : w = 1#32
  · subst hw; unfold cond0_2 at h2; revert h2; decide
  · have : Scalar.cmpi .eq w 1#32 = 0#1 := by
      show BitVec.ofBool (w == 1#32) = 0#1
      rw [beq_eq_false_iff_ne.2 hw]; rfl
    revert h; unfold cond0_0; rw [this]; decide

/-- and one of them is taken. -/
theorem cond2_of_not {i : grid0.Coords} {w : BitVec 32} (h : ¬cond0_0 i w) : cond0_2 i w := by
  by_cases hw : w = 1#32
  · subst hw; exact absurd (by unfold cond0_0; decide) h
  · have : Scalar.cmpi .ne w 1#32 = 1#1 := by
      show BitVec.ofBool (w != 1#32) = 1#1
      rw [bne_iff_ne.2 hw]; rfl
    unfold cond0_2; rw [this]; decide

/-! ## The pieces of the output block -/

/-- The pieces of the output block in the plain way at an even point. -/
def piecesB (c : Dev nD) (t : Fin cfg0.N) (h : ¬cond0_1 (grid0.coords t))
    (h0 : cond0_0 (grid0.coords t) (word m c t)) : List (View.Piece (Elt F) S1024x128 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (not_cond2 h0)).1

/-- The pieces of the output block in the plain way at an odd point. -/
def piecesF (c : Dev nD) (t : Fin cfg0.N) (h : cond0_1 (grid0.coords t))
    (h0 : cond0_0 (grid0.coords t) (word m c t)) : List (View.Piece (Elt F) S1024x128 .f32) :=
  (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (not_cond2 h0)).1

/-- The pieces of the output block in the shifted way at an even point. -/
def piecesC (c : Dev nD) (t : Fin cfg0.N) (h : ¬cond0_3 (grid0.coords t))
    (h0 : ¬cond0_0 (grid0.coords t) (word m c t)) : List (View.Piece (Elt F) S1024x128 .f32) :=
  (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (cond2_of_not h0)).1

/-- The pieces of the output block in the shifted way at an odd point. -/
def piecesG (c : Dev nD) (t : Fin cfg0.N) (h : cond0_3 (grid0.coords t))
    (h0 : ¬cond0_0 (grid0.coords t) (word m c t)) : List (View.Piece (Elt F) S1024x128 .f32) :=
  (kernelRun0_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (cond2_of_not h0)).1

/-- The pieces of the output block at point `t`. -/
def pieces (c : Dev nD) (t : Fin cfg0.N) : List (View.Piece (Elt F) S1024x128 .f32) :=
  open Classical in
  if h0 : cond0_0 (grid0.coords t) (word m c t) then
    if h : cond0_1 (grid0.coords t) then piecesF m c t h h0 else piecesB m c t h h0
  else
    if h : cond0_3 (grid0.coords t) then piecesG m c t h h0 else piecesC m c t h h0

/-- What the output block holds after point `t`. -/
def outAt (c : Dev nD) (t : Fin cfg0.N) : Vec F S1024x128 .f32 :=
  VO0_9.read (Elt F) (VO0_9.writes (Elt F) VO0_9.junk (pieces m c t))

/-- The body at point `t` runs from its input blocks, whatever its output block and scratch hold, leaves the inputs as
    they were and writes the pieces `L`. -/
def Runs (c : Dev nD) (t : Fin cfg0.N) (L : List (View.Piece (Elt F) S1024x128 .f32)) : Prop :=
  (∀ y : S1024x128.Idx, ∃ pc ∈ L, y ∈ pc.1.set) ∧
  ∀ (E : Set ℕ) (K : PUnit → sProp 𝕄),
    iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ (∃ d, owns (c : Thread nD τ) (ms0_9 t) fullShare d)
    ∗ (∃ d, owns (c : Thread nD τ) scM0_0 fullShare d) ∗ (∃ d, owns (c : Thread nD τ) scM0_1 fullShare d)
    ∗ (∃ d, owns (c : Thread nD τ) scM0_2 fullShare d)
    ∗ (iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ (∃ f, (ms0_9 t).view.loc (c : Thread nD τ) ↦[(ms0_9 t).view.set]{fullShare} (ms0_9 t).view.writes (Elt F) f L)
    ∗ (∃ d, owns (c : Thread nD τ) scM0_0 fullShare d) ∗ (∃ d, owns (c : Thread nD τ) scM0_1 fullShare d)
    ∗ (∃ d, owns (c : Thread nD τ) scM0_2 fullShare d)) -∗ K ⟨⟩))
    ⊢ wp frame (wpE (defs₀ (F := F)) Variants.none c none) E (bodyAt0 t) K

theorem runsB (c : Dev nD) (t : Fin cfg0.N) (h : ¬cond0_1 (grid0.coords t))
    (h0 : cond0_0 (grid0.coords t) (word m c t)) : Runs m c t (piecesB m c t h h0) :=
  ⟨fun y => View.cover_of_tiledL (piecesB m c t h h0) S1024x128.size (by sl_kernel_rfl) y,
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (not_cond2 h0)).2.2⟩

theorem runsF (c : Dev nD) (t : Fin cfg0.N) (h : cond0_1 (grid0.coords t))
    (h0 : cond0_0 (grid0.coords t) (word m c t)) : Runs m c t (piecesF m c t h h0) :=
  ⟨fun y => View.cover_of_tiledL (piecesF m c t h h0) S1024x128.size (by sl_kernel_rfl) y,
    (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (not_cond2 h0)).2.2⟩

theorem runsC (c : Dev nD) (t : Fin cfg0.N) (h : ¬cond0_3 (grid0.coords t))
    (h0 : ¬cond0_0 (grid0.coords t) (word m c t)) : Runs m c t (piecesC m c t h h0) :=
  ⟨fun y => View.cover_of_tiledL (piecesC m c t h h0) S1024x128.size (by sl_kernel_rfl) y,
    (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (cond2_of_not h0)).2.2⟩

theorem runsG (c : Dev nD) (t : Fin cfg0.N) (h : cond0_3 (grid0.coords t))
    (h0 : ¬cond0_0 (grid0.coords t) (word m c t)) : Runs m c t (piecesG m c t h h0) :=
  ⟨fun y => View.cover_of_tiledL (piecesG m c t h h0) S1024x128.size (by sl_kernel_rfl) y,
    (kernelRun0_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) h0 (cond2_of_not h0)).2.2⟩

/-- The body runs at every point. -/
theorem runs (c : Dev nD) (t : Fin cfg0.N) : Runs m c t (pieces m c t) := by
  unfold pieces
  split
  · split
    · exact runsF m c t _ _
    · exact runsB m c t _ _
  · split
    · exact runsG m c t _ _
    · exact runsC m c t _ _

/-! ## The data of the pipeline -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2000000 in
/-- The body at any point, as the pipeline calls it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runs m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, ⟨%e9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (runs m c t).1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-! ## The result, block by block -/

/-- What point `t` writes back is what its output block holds. -/
theorem flushed9 (c : Dev nD) (t : Fin cfg0.N) :
    (dats m 0 c).flushed 9 t = (cfg0.win 9).cut (grid0.coords t) (outAt m c t) := by
  show (cfg0.win 9).cut (grid0.coords t) ((dats m 0 c).after 9 t) = _
  rw [after0_9]

/-- The index map sends distinct grid points to distinct block indices (decided over the 128 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16384x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v8) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v8) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Attn

end
-- ==== Proof.Algebra.lean ====
module

public import Idealize.ShloMosaic.PureOps.Ideal
public import Mathlib.Analysis.SpecialFunctions.Pow.Real
public import Mathlib.Algebra.BigOperators.Fin

/-
  The arithmetic of one row of masked softmax attention on the extended reals.

  A score is a real number where the mask lets the key through and `⊥` where it does not. `WSum` is the sum of weights
  `2 ^ score` times a column, over the first keys. `Plain` says that an accumulator holds such sums as they are (the step
  without a running maximum); `Online` says that it holds them scaled by `2 ^ (-μ)` for the real number `μ` that the running
  maximum holds. One step over a block of keys keeps either; the quotient of two columns forgets `μ`.
-/

@[expose] public section

noncomputable section

namespace Cert.Attn

open Idealize.ShloMosaic
open scoped BigOperators

/-! ## Sums of reals -/

/-- The sum of real numbers, read in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over a block of `N` keys starting at `n`, added to the sum over the keys before it. -/
theorem sum_block (f : ℕ → ℝ) (n N : ℕ) :
    (∑ j ∈ Finset.range n, f j) + (∑ j : Fin N, f (n + j.val)) = ∑ j ∈ Finset.range (n + N), f j := by
  rw [Finset.sum_range_add, Finset.sum_range fun x => f (n + x)]

/-! ## Masked scores -/

/-- A score under a mask. -/
def masked (b : Prop) [Decidable b] (s : ℝ) : EReal := if b then (s : EReal) else ⊥

/-- The weight of a masked score. -/
def wt (b : Prop) [Decidable b] (s : ℝ) : ℝ := if b then (2 : ℝ) ^ s else 0

theorem wt_nonneg (b : Prop) [Decidable b] (s : ℝ) : 0 ≤ wt b s := by
  unfold wt; split
  · exact (Real.rpow_pos_of_pos (by norm_num) s).le
  · exact le_refl 0

theorem wt_pos {b : Prop} [Decidable b] (h : b) (s : ℝ) : 0 < wt b s := by
  unfold wt; rw [if_pos h]; exact Real.rpow_pos_of_pos (by norm_num) s

theorem exp2_masked (b : Prop) [Decidable b] (s : ℝ) : Ideal.exp2 (masked b s) = ((wt b s : ℝ) : EReal) := by
  unfold masked wt
  split
  · rfl
  · simp

theorem exp2_masked_sub (b : Prop) [Decidable b] (s μ : ℝ) :
    Ideal.exp2 (masked b s - (μ : EReal)) = ((wt b s * (2 : ℝ) ^ (-μ) : ℝ) : EReal) := by
  unfold masked wt
  split
  · rw [← EReal.coe_sub, Ideal.exp2_coe, ← Real.rpow_add (by norm_num), ← sub_eq_add_neg]; rfl
  · rw [EReal.bot_sub, Ideal.exp2_bot]; simp

theorem exp_masked_sub (b : Prop) [Decidable b] (s s' ν : ℝ) (h : (2 : ℝ) ^ s = Real.exp s') :
    Ideal.exp (masked b s' - (ν : EReal)) = ((wt b s * Real.exp (-ν) : ℝ) : EReal) := by
  unfold masked wt
  split
  · rw [← EReal.coe_sub, Ideal.exp_coe, h, ← Real.exp_add, ← sub_eq_add_neg]
  · rw [EReal.bot_sub, Ideal.exp_bot]; simp

/-- The greatest of masked scores, one of them let through, is a real number. -/
theorem fold_masked {ι : Type} (t : Finset ι) (b : ι → Prop) [∀ i, Decidable (b i)] (s : ι → ℝ) (m : EReal)
    (hm : m = ⊥ ∨ ∃ r : ℝ, m = (r : EReal)) (hne : (∃ r : ℝ, m = (r : EReal)) ∨ ∃ i ∈ t, b i) :
    ∃ μ : ℝ, max m (t.fold max ⊥ fun i => masked (b i) (s i)) = (μ : EReal) := by
  classical
  have key : ∀ t : Finset ι, (t.fold max ⊥ fun i => masked (b i) (s i)) = ⊥ ∨
      ∃ r : ℝ, (t.fold max ⊥ fun i => masked (b i) (s i)) = (r : EReal) := by
    intro t
    induction t using Finset.induction_on with
    | empty => left; rfl
    | insert a t ha ih =>
      rw [Finset.fold_insert ha]
      have h0 : masked (b a) (s a) = ⊥ ∨ ∃ r : ℝ, masked (b a) (s a) = (r : EReal) := by
        unfold masked; split
        · exact Or.inr ⟨_, rfl⟩
        · exact Or.inl rfl
      rcases h0 with h0 | ⟨r, h0⟩ <;> rcases ih with ih | ⟨r', ih⟩ <;> rw [h0, ih]
      · left; simp
      · right; exact ⟨r', by simp⟩
      · right; exact ⟨r, by simp⟩
      · right; rcases max_choice (r : EReal) (r' : EReal) with h | h
        · exact ⟨r, h⟩
        · exact ⟨r', h⟩
  have hbot : max m (t.fold max ⊥ fun i => masked (b i) (s i)) ≠ ⊥ := by
    intro h
    rw [max_eq_bot] at h
    rcases hne with ⟨r, hr⟩ | ⟨i, hi, hb⟩
    · rw [h.1] at hr; exact EReal.bot_ne_coe r hr
    · have : masked (b i) (s i) ≤ t.fold max ⊥ fun i => masked (b i) (s i) :=
        (Finset.le_fold_max _).mpr (Or.inr ⟨i, hi, le_refl _⟩)
      rw [h.2, le_bot_iff] at this
      unfold masked at this
      rw [if_pos hb] at this
      exact EReal.coe_ne_bot _ this
  rcases hm with hm | ⟨r, hm⟩ <;> rcases key t with h | ⟨r', h⟩
  · exact absurd (by rw [hm, h]; simp) hbot
  · exact ⟨r', by rw [hm, h]; simp⟩
  · exact ⟨r, by rw [hm, h]; simp⟩
  · rw [hm, h]
    rcases max_choice (r : EReal) (r' : EReal) with h | h
    · exact ⟨r, h⟩
    · exact ⟨r', h⟩

/-! ## The state of a row -/

/-- The weighted sum of a column over the first `n` keys. -/
def WSum (b : ℕ → Prop) [∀ j, Decidable (b j)] (s : ℕ → ℝ) (V : ℕ → ℝ) (n : ℕ) : ℝ :=
  ∑ j ∈ Finset.range n, wt (b j) (s j) * V j

variable (b : ℕ → Prop) [∀ j, Decidable (b j)] (s : ℕ → ℝ)

/-- The accumulated column `a` holds the weighted sum over the first `n` keys. -/
def Plain (V : ℕ → ℝ) (n : ℕ) (a : EReal) : Prop := a = ((WSum b s V n : ℝ) : EReal)

theorem plain_zero (V : ℕ → ℝ) : Plain b s V 0 0 := by
  unfold Plain WSum; simp

/-- One step without a running maximum. -/
theorem plain_step {N : ℕ} {V : ℕ → ℝ} {n : ℕ} {a : EReal} (h : Plain b s V n a) (x v : Fin N → EReal)
    (hx : ∀ j, x j = masked (b (n + j.val)) (s (n + j.val))) (hv : ∀ j, v j = ((V (n + j.val) : ℝ) : EReal)) :
    Plain b s V (n + N) (a + ∑ j, Ideal.exp2 (x j) * v j) := by
  unfold Plain at h ⊢
  have e : ∀ j : Fin N, Ideal.exp2 (x j) * v j = ((wt (b (n + j.val)) (s (n + j.val)) * V (n + j.val) : ℝ) : EReal) := by
    intro j; rw [hx, hv, exp2_masked, ← EReal.coe_mul]
  rw [h, Finset.sum_congr rfl fun j _ => e j, coe_sum, ← EReal.coe_add]
  unfold WSum
  rw [sum_block fun j => wt (b j) (s j) * V j]

/-- The running maximum `m` and the accumulated columns `a` after the first `n` keys: nothing yet, or the weighted
    sums scaled by `2 ^ (-μ)` where `m` is the real number `μ`. -/
def Online {C : Type} (V : ℕ → C → ℝ) (n : ℕ) (m : EReal) (a : C → EReal) : Prop :=
  (m = ⊥ ∧ n = 0 ∧ ∀ c, a c = 0) ∨
    ∃ μ : ℝ, m = (μ : EReal) ∧ ∀ c, a c = ((WSum b s (fun j => V j c) n * (2 : ℝ) ^ (-μ) : ℝ) : EReal)

theorem online_zero {C : Type} (V : ℕ → C → ℝ) : Online b s V 0 ⊥ (fun _ => 0) := Or.inl ⟨rfl, rfl, fun _ => rfl⟩

/-- One step with a running maximum, over a block of keys one of which is let through. -/
theorem online_step {C : Type} {N : ℕ} {V : ℕ → C → ℝ} {n : ℕ} {m : EReal} {a : C → EReal} (h : Online b s V n m a)
    (x : Fin N → EReal) (v : Fin N → C → EReal) (hne : ∃ j : Fin N, b (n + j.val))
    (hx : ∀ j, x j = masked (b (n + j.val)) (s (n + j.val))) (hv : ∀ j c, v j c = ((V (n + j.val) c : ℝ) : EReal)) :
    Online b s V (n + N) (max m (Finset.univ.fold max ⊥ x))
      (fun c => Ideal.exp2 (m - max m (Finset.univ.fold max ⊥ x)) * a c
        + ∑ j, Ideal.exp2 (x j - max m (Finset.univ.fold max ⊥ x)) * v j c) := by
  have hxf : x = fun j : Fin N => masked (b (n + j.val)) (s (n + j.val)) := funext hx
  obtain ⟨μ, hμ⟩ := fold_masked Finset.univ (fun j : Fin N => b (n + j.val)) (fun j => s (n + j.val)) m
    (by rcases h with ⟨h, -⟩ | ⟨r, h, -⟩
        · exact Or.inl h
        · exact Or.inr ⟨r, h⟩)
    (Or.inr (by obtain ⟨j, hj⟩ := hne; exact ⟨j, Finset.mem_univ j, hj⟩))
  rw [← hxf] at hμ
  rw [hμ]
  refine Or.inr ⟨μ, rfl, fun c => ?_⟩
  have e : ∀ j : Fin N, Ideal.exp2 (x j - (μ : EReal)) * v j c
      = ((wt (b (n + j.val)) (s (n + j.val)) * V (n + j.val) c * (2 : ℝ) ^ (-μ) : ℝ) : EReal) := by
    intro j; rw [hx, hv, exp2_masked_sub, ← EReal.coe_mul]; congr 1; ring
  have e0 : Ideal.exp2 (m - (μ : EReal)) * a c = ((WSum b s (fun j => V j c) n * (2 : ℝ) ^ (-μ) : ℝ) : EReal) := by
    rcases h with ⟨hm, hn, ha⟩ | ⟨μ', hm, ha⟩
    · rw [ha, mul_zero, hn]; unfold WSum; simp
    · rw [hm, ha, ← EReal.coe_sub, Ideal.exp2_coe, ← EReal.coe_mul]
      congr 1
      have : (2 : ℝ) ^ (-μ) = Real.rpow 2 (μ' - μ) * (2 : ℝ) ^ (-μ') := by
        show (2 : ℝ) ^ (-μ) = (2 : ℝ) ^ (μ' - μ) * (2 : ℝ) ^ (-μ')
        rw [← Real.rpow_add (by norm_num)]; congr 1; ring
      rw [this]; ring
  show Ideal.exp2 (m - (μ : EReal)) * a c + ∑ j, Ideal.exp2 (x j - (μ : EReal)) * v j c = _
  rw [e0, Finset.sum_congr rfl fun j _ => e j, coe_sum, ← EReal.coe_add]
  congr 1
  unfold WSum
  rw [← sum_block (fun j => wt (b j) (s j) * V j c), add_mul, Finset.sum_mul Finset.univ]

/-! ## The quotient -/

theorem wsum_pos {V : ℕ → ℝ} {n : ℕ} (hV : ∀ j, V j = 1) (h : ∃ j, j < n ∧ b j) : 0 < WSum b s V n := by
  unfold WSum
  obtain ⟨j, hj, hb⟩ := h
  refine Finset.sum_pos' (fun i _ => ?_) ⟨j, Finset.mem_range.mpr hj, ?_⟩
  · rw [hV, mul_one]; exact wt_nonneg _ _
  · rw [hV, mul_one]; exact wt_pos hb _

theorem div_real {x y : ℝ} (hy : 0 < y) : Ideal.div (x : EReal) (y : EReal) = ((x / y : ℝ) : EReal) := by
  rw [Ideal.div_coe hy.ne', ← EReal.coe_mul]; congr 1; ring

theorem div_scaled {x y t : ℝ} (hy : 0 < y) (ht : 0 < t) :
    Ideal.div ((x * t : ℝ) : EReal) ((y * t : ℝ) : EReal) = ((x / y : ℝ) : EReal) := by
  rw [div_real (mul_pos hy ht), mul_div_mul_right _ _ ht.ne']

/-- The quotient of two columns of a row, one of them the sum of the weights. -/
theorem online_quotient {C : Type} {V : ℕ → C → ℝ} {n : ℕ} {m : EReal} {a : C → EReal} (h : Online b s V n m a)
    (hn : ∃ j, j < n ∧ b j) (c l : C) (hl : ∀ j, V j l = 1) :
    Ideal.div (a c) (a l) = ((WSum b s (fun j => V j c) n / WSum b s (fun _ => 1) n : ℝ) : EReal) := by
  have e : (fun j => V j l) = fun _ => (1 : ℝ) := funext hl
  have hp := wsum_pos b s (V := fun _ => 1) (fun _ => rfl) hn
  rcases h with ⟨-, h0, -⟩ | ⟨μ, -, ha⟩
  · obtain ⟨j, hj, -⟩ := hn; omega
  · rw [ha, ha, e, div_scaled hp (Real.rpow_pos_of_pos (by norm_num) _)]

theorem plain_quotient {V L : ℕ → ℝ} {n : ℕ} {a l : EReal} (ha : Plain b s V n a) (hl : Plain b s L n l)
    (hn : ∃ j, j < n ∧ b j) (hL : ∀ j, L j = 1) :
    Ideal.div a l = ((WSum b s V n / WSum b s (fun _ => 1) n : ℝ) : EReal) := by
  have e : L = fun _ => (1 : ℝ) := funext hL
  unfold Plain at ha hl
  rw [ha, hl, e, div_real (wsum_pos b s (V := fun _ => 1) (fun _ => rfl) hn)]

/-- Keys that the mask hides add nothing. -/
theorem wsum_mono {V : ℕ → ℝ} {n N : ℕ} (hnN : n ≤ N) (h : ∀ j, n ≤ j → ¬ b j) : WSum b s V N = WSum b s V n := by
  obtain ⟨k, rfl⟩ := Nat.exists_eq_add_of_le hnN
  unfold WSum
  rw [Finset.sum_range_add, Finset.sum_eq_zero (s := Finset.range k), add_zero]
  intro j _
  unfold wt; rw [if_neg (h _ (by omega)), zero_mul]

end Cert.Attn

end
-- ==== Proof.Tiles.lean ====
module

public import proofs.«01_k».proof.Proof.Gen.KernelIdeal.Skeleton
public import Idealize.ShloMosaic.Lib.Pointwise
public import Idealize.ShloMosaic.Lib.WordCmp
public import Idealize.ShloMosaic.PureOps.Ideal
public import Idealize.ShloMosaic.Lib.Pipeline.Value

/-
  One tile of 256 rows of the attention kernel, read at an index over the extended reals.

  A step of the kernel over a block of keys is eight such tiles. A tile's scores are a product of its queries with the
  keys; on the diagonal block a mask replaces a score by `⊥`. The plain tile adds the weighted values to the accumulator;
  the shifted tile subtracts the running maximum first and rescales what the accumulator held.
-/

@[expose] public section

set_option maxRecDepth 16384

noncomputable section

namespace Cert.KernelIdeal.Tile

open Idealize.ShloMosaic Idealize.ShloMosaic.TcCoe Idealize.ShloMosaic.WordCmp
open Cert.KernelIdeal.Gen
open scoped BigOperators

variable {F : FTy → Type} [FloatOps F] [Named F]

/-! ## The operations of a tile -/

/-- Floor division by 64 as a kernel prints it. -/
def fd64 {s : Shape} (x : IVec s 32) : IVec s 32 :=
  select
    (andi
      (cmpi .ne
        (subi (extui 32 (cmpi .sgt x (broadcast s 0#32)) natLt_1_32) (extui 32 (cmpi .slt x (broadcast s 0#32)) natLt_1_32))
        (broadcast s (Scalar.subi (Scalar.extui (Scalar.cmpi .sgt 64#32 0#32)) (Scalar.extui (Scalar.cmpi .slt 64#32 0#32)))))
      (cmpi .ne (remsi x (broadcast s 64#32)) (broadcast s 0#32)))
    (subi (divsi x (broadcast s 64#32)) (broadcast s 1#32))
    (divsi x (broadcast s 64#32))

/-- The mask of a diagonal tile whose queries start at `q0` and whose keys start at `k0`. -/
def mask (k0 q0 : BitVec 32) : IVec S256x1024 1 :=
  cmpi .sle (fd64 (addi (broadcast S256x1024 k0) (iota .tc S256x1024 32 [1] iota_S256x1024_d1_w32)))
    (fd64 (addi (broadcast S256x1024 q0) (iota .tc S256x1024 32 [0] iota_S256x1024_d0_w32)))

/-- Scores against 2048 keys. -/
def sc2 (q : Vec F S256x128 .bf16) (k : Vec F S2048x128 .bf16) : FVec F S256x2048 .f32 :=
  matmul dot_S256x128_S2048x128_S256x2048_1_1_0_0_n_n none q (shapeCast S2048x128 k shapeCasts_S2048x128_S2048x128)
    (constant S256x2048 .f32 0x00000000#32)

/-- Scores against 1024 keys. -/
def sc1 (q : Vec F S256x128 .bf16) (k : Vec F S1024x128 .bf16) : FVec F S256x1024 .f32 :=
  matmul dot_S256x128_S1024x128_S256x1024_1_1_0_0_n_n none q (shapeCast S1024x128 k shapeCasts_S1024x128_S1024x128)
    (constant S256x1024 .f32 0x00000000#32)

/-- Scores under the mask. -/
def scM (k0 q0 : BitVec 32) (q : Vec F S256x128 .bf16) (k : Vec F S1024x128 .bf16) : FVec F S256x1024 .f32 :=
  select (mask k0 q0) (sc1 q k) (broadcast S256x1024 (Scalar.ofBits .f32 0xFF800000#32 : F .f32))

/-- The plain tile over 2048 keys. -/
def acc2 (x : FVec F S256x2048 .f32) (v : Vec F S2048x256 .bf16) (a : Vec F S256x256 .f32) : FVec F S256x256 .f32 :=
  shapeCast S256x256
    (addf a (matmul dot_S256x2048_S2048x256_S256x256_1_0_0_1_n_n none (truncf .bf16 (exp2 x) bitsLt_bf16_f32)
      (shapeCast S2048x256 v shapeCasts_S2048x256_S2048x256) (constant S256x256 .f32 0x00000000#32)))
    shapeCasts_S256x256_S256x256

/-- The plain tile over 1024 keys. -/
def acc1 (x : FVec F S256x1024 .f32) (v : Vec F S1024x256 .bf16) (a : Vec F S256x256 .f32) : FVec F S256x256 .f32 :=
  shapeCast S256x256
    (addf a (matmul dot_S256x1024_S1024x256_S256x256_1_0_0_1_n_n none (truncf .bf16 (exp2 x) bitsLt_bf16_f32)
      (shapeCast S1024x256 v shapeCasts_S1024x256_S1024x256) (constant S256x256 .f32 0x00000000#32)))
    shapeCasts_S256x256_S256x256

/-- The new maximum of a tile over 2048 keys. -/
def max2 (x : FVec F S256x2048 .f32) (m : Vec F S256x1 .f32) : FVec F S256x1 .f32 :=
  maximumf m (shapeCast S256x1 (multiReduction .maximumf [1] S256 x 0xFF800000#32 reduces_S256x2048_S256 (.inl rfl) rfl)
    shapeCasts_S256_S256x1)

/-- The new maximum of a tile over 1024 keys. -/
def max1 (x : FVec F S256x1024 .f32) (m : Vec F S256x1 .f32) : FVec F S256x1 .f32 :=
  maximumf m (shapeCast S256x1 (multiReduction .maximumf [1] S256 x 0xFF800000#32 reduces_S256x1024_S256 (.inl rfl) rfl)
    shapeCasts_S256_S256x1)

/-- The shifted tile over 2048 keys, for the new maximum `m'`. -/
def sh2 (x : FVec F S256x2048 .f32) (m m' : Vec F S256x1 .f32) (v : Vec F S2048x256 .bf16) (a : Vec F S256x256 .f32) :
    FVec F S256x256 .f32 :=
  shapeCast S256x256
    (addf (mulf (broadcastTo S256x256 (exp2 (subf m m')) broadcasts_S256x1_S256x256) a)
      (matmul dot_S256x2048_S2048x256_S256x256_1_0_0_1_n_n none
        (truncf .bf16 (exp2 (subf x (broadcastTo S256x2048 m' broadcasts_S256x1_S256x2048))) bitsLt_bf16_f32)
        (shapeCast S2048x256 v shapeCasts_S2048x256_S2048x256) (constant S256x256 .f32 0x00000000#32)))
    shapeCasts_S256x256_S256x256

/-- The shifted tile over 1024 keys, for the new maximum `m'`. -/
def sh1 (x : FVec F S256x1024 .f32) (m m' : Vec F S256x1 .f32) (v : Vec F S1024x256 .bf16) (a : Vec F S256x256 .f32) :
    FVec F S256x256 .f32 :=
  shapeCast S256x256
    (addf (mulf (broadcastTo S256x256 (exp2 (subf m m')) broadcasts_S256x1_S256x256) a)
      (matmul dot_S256x1024_S1024x256_S256x256_1_0_0_1_n_n none
        (truncf .bf16 (exp2 (subf x (broadcastTo S256x1024 m' broadcasts_S256x1_S256x1024))) bitsLt_bf16_f32)
        (shapeCast S1024x256 v shapeCasts_S1024x256_S1024x256) (constant S256x256 .f32 0x00000000#32)))
    shapeCasts_S256x256_S256x256

/-! ## The mask -/

/-- The printed floor division of a number that counts rows. -/
theorem fd64_apply {s : Shape} (x : IVec s 32) (j : s.Idx) (n : ℕ) (hn : n < 16384) (hx : x j = BitVec.ofNat 32 n) :
    fd64 x j = BitVec.ofNat 32 (n / 64) := by
  show (if IntOp.andi (IntOp.cmpi .ne (IntOp.subi ((IntOp.cmpi .sgt (x j) 0#32).setWidth 32)
      ((IntOp.cmpi .slt (x j) 0#32).setWidth 32)) 1#32) (IntOp.cmpi .ne (IntOp.remsi .vector (x j) 64#32) 0#32) = 1
    then IntOp.subi (IntOp.divsi .vector (x j) 64#32) 1#32 else IntOp.divsi .vector (x j) 64#32) = _
  rw [hx]
  rcases Nat.eq_zero_or_pos n with rfl | hpos
  · decide
  rw [show IntOp.cmpi .sgt (BitVec.ofNat 32 n) 0#32 = 1#1 from
      (cmpi_sgt_ofNat_eq_one_iff (a := n) (b := 0) (by omega) (by omega)).2 hpos,
    show IntOp.cmpi .slt (BitVec.ofNat 32 n) 0#32 = 0#1 from
      (cmpi_slt_ofNat_eq_zero_iff (a := n) (b := 0) (by omega) (by omega)).2 (by omega)]
  have hc : ∀ c : BitVec 1, ¬IntOp.andi (IntOp.cmpi .ne (IntOp.subi ((1#1).setWidth 32) ((0#1).setWidth 32)) 1#32) c = 1 := by
    decide
  rw [if_neg (hc _)]
  unfold IntOp.divsi
  rw [if_neg (IntOp.not_corner_of_pos (by decide))]
  have hm : (BitVec.ofNat 32 n).msb = false := by
    rw [BitVec.msb_eq_false_iff_two_mul_lt, BitVec.toNat_ofNat]; omega
  rw [BitVec.sdiv_eq, hm, show (64#32 : BitVec 32).msb = false from rfl]
  apply BitVec.eq_of_toNat_eq
  simp only [BitVec.udiv_eq, BitVec.toNat_udiv, BitVec.toNat_ofNat]
  rw [Nat.mod_eq_of_lt (a := n) (by omega), Nat.mod_eq_of_lt (a := 64) (by omega), Nat.mod_eq_of_lt (a := n / 64) (by omega)]

theorem mask_apply (k0 q0 : ℕ) (hk : k0 + 1024 ≤ 16384) (hq : q0 + 256 ≤ 16384) (r : Fin 256) (j : Fin 1024) :
    mask (BitVec.ofNat 32 k0) (BitVec.ofNat 32 q0) (ix2 r j) = BitVec.ofBool (decide ((k0 + j.val) / 64 ≤ (q0 + r.val) / 64)) := by
  have hj := j.isLt
  have hr := r.isLt
  unfold mask
  rw [cmpi_at, fd64_apply _ _ (k0 + j.val) (by omega) (by show _ + iota _ _ _ _ _ _ = _; rw [BitVec.ofNat_add, iota_single_apply]; rfl),
    fd64_apply _ _ (q0 + r.val) (by omega) (by show _ + iota _ _ _ _ _ _ = _; rw [BitVec.ofNat_add, iota_single_apply]; rfl), cmpi_sle_ofNat (by omega) (by omega)]

/-! ## The tiles at an index -/

theorem sc2_apply (q : Vec Ideal S256x128 .bf16) (k : Vec Ideal S2048x128 .bf16) (r : Fin 256) (j : Fin 2048) :
    sc2 q k (ix2 r j) = ∑ d : Fin 128, q (ix2 r d) * k (ix2 j d) := by
  pointwise [sc2]

theorem sc1_apply (q : Vec Ideal S256x128 .bf16) (k : Vec Ideal S1024x128 .bf16) (r : Fin 256) (j : Fin 1024) :
    sc1 q k (ix2 r j) = ∑ d : Fin 128, q (ix2 r d) * k (ix2 j d) := by
  pointwise [sc1]

theorem scM_apply (k0 q0 : ℕ) (hk : k0 + 1024 ≤ 16384) (hq : q0 + 256 ≤ 16384)
    (q : Vec Ideal S256x128 .bf16) (k : Vec Ideal S1024x128 .bf16) (r : Fin 256) (j : Fin 1024) :
    scM (BitVec.ofNat 32 k0) (BitVec.ofNat 32 q0) q k (ix2 r j)
      = if (k0 + j.val) / 64 ≤ (q0 + r.val) / 64 then ∑ d : Fin 128, q (ix2 r d) * k (ix2 j d) else ⊥ := by
  unfold scM
  rw [select_at, mask_apply k0 q0 hk hq, select_ofBool, sc1_apply]
  by_cases h : (k0 + j.val) / 64 ≤ (q0 + r.val) / 64
  · rw [if_pos h, if_pos (by simpa using h)]
  · rw [if_neg h, if_neg (by simpa using h)]
    rfl

theorem acc2_apply (x : FVec Ideal S256x2048 .f32) (v : Vec Ideal S2048x256 .bf16) (a : Vec Ideal S256x256 .f32) (r c : Fin 256) :
    acc2 x v a (ix2 r c) = a (ix2 r c) + ∑ j : Fin 2048, Ideal.exp2 (x (ix2 r j)) * v (ix2 j c) := by
  pointwise [acc2]
  rfl

theorem acc1_apply (x : FVec Ideal S256x1024 .f32) (v : Vec Ideal S1024x256 .bf16) (a : Vec Ideal S256x256 .f32) (r c : Fin 256) :
    acc1 x v a (ix2 r c) = a (ix2 r c) + ∑ j : Fin 1024, Ideal.exp2 (x (ix2 r j)) * v (ix2 j c) := by
  pointwise [acc1]
  rfl

theorem max2_apply (x : FVec Ideal S256x2048 .f32) (m : Vec Ideal S256x1 .f32) (r : Fin 256) :
    max2 x m (ix2 r 0) = max (m (ix2 r 0)) (Finset.univ.fold max ⊥ fun j : Fin 2048 => x (ix2 r j)) := by
  pointwise [max2]
  rfl

theorem max1_apply (x : FVec Ideal S256x1024 .f32) (m : Vec Ideal S256x1 .f32) (r : Fin 256) :
    max1 x m (ix2 r 0) = max (m (ix2 r 0)) (Finset.univ.fold max ⊥ fun j : Fin 1024 => x (ix2 r j)) := by
  pointwise [max1]
  rfl

theorem sh2_apply (x : FVec Ideal S256x2048 .f32) (m m' : Vec Ideal S256x1 .f32) (v : Vec Ideal S2048x256 .bf16)
    (a : Vec Ideal S256x256 .f32) (r c : Fin 256) :
    sh2 x m m' v a (ix2 r c) = Ideal.exp2 (m (ix2 r 0) - m' (ix2 r 0)) * a (ix2 r c)
      + ∑ j : Fin 2048, Ideal.exp2 (x (ix2 r j) - m' (ix2 r 0)) * v (ix2 j c) := by
  pointwise [sh2]
  rfl

theorem sh1_apply (x : FVec Ideal S256x1024 .f32) (m m' : Vec Ideal S256x1 .f32) (v : Vec Ideal S1024x256 .bf16)
    (a : Vec Ideal S256x256 .f32) (r c : Fin 256) :
    sh1 x m m' v a (ix2 r c) = Ideal.exp2 (m (ix2 r 0) - m' (ix2 r 0)) * a (ix2 r c)
      + ∑ j : Fin 1024, Ideal.exp2 (x (ix2 r j) - m' (ix2 r 0)) * v (ix2 j c) := by
  pointwise [sh1]
  rfl

end Cert.KernelIdeal.Tile

end
-- ==== Proof.Steps.lean ====
module

public import proofs.«01_k».proof.Proof.Algebra
public import proofs.«01_k».proof.Proof.Tiles
public import Idealize.ShloMosaic.Lib.WritesUnit
public import Idealize.ShloMosaic.Lib.Pointwise
public import Idealize.ShloMosaic.Lib.Pipeline.Value
public import Idealize.ShloMosaic.Lib.Pipeline.ValueKit.Tiles

/-!
# One step of the attention, tile by tile

A point of the grid stacks two score maps of 1024 queries into 2048 rows and walks them in eight tiles of 256 rows. A step
takes every tile over the same block of keys. Here is what the accumulators hold after some of the tiles of a step have been
stored, in terms of the mathematical scores and values, and how one more tile carries it on.
-/

@[expose] public section

set_option maxRecDepth 16384

noncomputable section

namespace Cert.KernelIdeal.Steps

open Idealize.ShloMosaic Idealize.ShloMosaic.TcCoe
open Cert.KernelIdeal.Gen Cert.KernelIdeal.Tile Cert.Attn
open scoped BigOperators

/-- The row of the sequence a stacked row stands for. -/
abbrev row (i R : ℕ) : ℕ := 1024 * i + R % 1024

/-- A stacked row sees the keys up to the end of its chunk of 64. -/
abbrev sees (i R j : ℕ) : Prop := j / 64 ≤ row i R / 64

/-- The score of a stacked row against a key. -/
def score (q : ℕ → Fin 128 → ℝ) (K : ℕ → Fin 128 → ℝ) (R j : ℕ) : ℝ := ∑ d, q R d * K j d

/-- The rows of the first `k` tiles at `n'`, the others at `n`. -/
def upto (k n' n : ℕ) (R : ℕ) : ℕ := if R < 256 * k then n' else n

theorem upto_zero (n' n : ℕ) : upto 0 n' n = fun _ => n := by
  funext R; unfold upto; simp

variable (i : ℕ) (q : ℕ → Fin 128 → ℝ) (K : ℕ → Fin 128 → ℝ) (V : ℕ → Fin 256 → ℝ)

/-- An accumulator row `a` holds the weighted sums over the first `n` keys. -/
abbrev PlainRow (R n : ℕ) (a : Fin 256 → EReal) : Prop :=
  ∀ c, Plain (sees i R) (score q K R) (fun j => V j c) n (a c)

/-- The accumulator holds, at every row, the weighted sums over its keys so far. -/
def Held (n : ℕ → ℕ) (S : S2048x256.Idx → EReal) : Prop :=
  ∀ R : Fin 2048, PlainRow i q K V R (n R) fun c => S (ix2 R c)

/-- A maximum `m` and an accumulator row `a` hold the shifted sums over the first `n` keys. -/
abbrev OnlineRow (R n : ℕ) (m : EReal) (a : Fin 256 → EReal) : Prop :=
  Online (sees i R) (score q K R) V n m a

/-- The maxima and the accumulator hold, at every row, the shifted sums over its keys so far. -/
def HeldO (n : ℕ → ℕ) (M : S2048x1.Idx → EReal) (S : S2048x256.Idx → EReal) : Prop :=
  ∀ R : Fin 2048, OnlineRow i q K V R (n R) (M (ix2 R 0)) fun c => S (ix2 R c)

variable {i q K V}

/-! ## The scores of a tile -/

/-- The scores `x` of the tile of rows from `o` on against a block of keys from `n` on. -/
def Scores (i : ℕ) (q K : ℕ → Fin 128 → ℝ) (o n : ℕ) {N : ℕ} (x : Fin 256 → Fin N → EReal) : Prop :=
  ∀ r j, x r j = masked (sees i (o + r.val) (n + j.val)) (score q K (o + r.val) (n + j.val))

/-- The queries of the tile of rows from `o` on. -/
def Queries (q : ℕ → Fin 128 → ℝ) (o : ℕ) (x : Vec Ideal S256x128 .bf16) : Prop :=
  ∀ (r : Fin 256) (d : Fin 128), x (ix2 r d) = ((q (o + r.val) d : ℝ) : EReal)

/-- A block of rows of a matrix from `n` on. -/
def Block {N C : ℕ} (K : ℕ → Fin C → ℝ) (n : ℕ) (x : (⟨2, ![N, C]⟩ : Shape).Idx → EReal) : Prop :=
  ∀ (j : Fin N) (d : Fin C), x (ix2 j d) = ((K (n + j.val) d : ℝ) : EReal)

theorem dot_real (a b : Fin 128 → EReal) (f g : Fin 128 → ℝ) (ha : ∀ d, a d = (f d : EReal)) (hb : ∀ d, b d = (g d : EReal)) :
    ∑ d, a d * b d = ((∑ d, f d * g d : ℝ) : EReal) := by
  rw [← coe_sum]; exact Finset.sum_congr rfl fun d _ => by rw [ha, hb, EReal.coe_mul]

theorem scores_full {o n : ℕ} {x : Vec Ideal S256x128 .bf16} {k : Vec Ideal S2048x128 .bf16} (hn : n + 2048 ≤ 1024 * i)
    (hq : Queries q o x) (hk : Block K n k) : Scores i q K o n fun r j => sc2 x k (ix2 r j) := by
  intro r j
  have hj := j.isLt
  unfold masked
  rw [if_pos (show (n + j.val) / 64 ≤ (1024 * i + (o + r.val) % 1024) / 64 by omega)]
  exact (sc2_apply x k r j).trans (dot_real _ _ _ _ (hq r) (hk j))

theorem scores_half {o n : ℕ} {x : Vec Ideal S256x128 .bf16} {k : Vec Ideal S1024x128 .bf16} (hn : n + 1024 ≤ 1024 * i)
    (hq : Queries q o x) (hk : Block K n k) : Scores i q K o n fun r j => sc1 x k (ix2 r j) := by
  intro r j
  have hj := j.isLt
  unfold masked
  rw [if_pos (show (n + j.val) / 64 ≤ (1024 * i + (o + r.val) % 1024) / 64 by omega)]
  exact (sc1_apply x k r j).trans (dot_real _ _ _ _ (hq r) (hk j))

theorem scores_diag {o : ℕ} {kw qw : BitVec 32} {x : Vec Ideal S256x128 .bf16} {k : Vec Ideal S1024x128 .bf16} (hi : i < 16)
    (ho : o % 256 = 0) (hkw : kw = BitVec.ofNat 32 (1024 * i)) (hqw : qw = BitVec.ofNat 32 (1024 * i + o % 1024))
    (hq : Queries q o x) (hk : Block K (1024 * i) k) : Scores i q K o (1024 * i) fun r j => scM kw qw x k (ix2 r j) := by
  intro r j
  have hj := j.isLt
  have hr := r.isLt
  show scM kw qw x k (ix2 r j) = _
  rw [hkw, hqw, scM_apply _ _ (by omega) (by omega), dot_real _ _ _ _ (hq r) (hk j)]
  unfold masked sees row
  rw [show 1024 * i + o % 1024 + r.val = 1024 * i + (o + r.val) % 1024 by omega]
  rfl

/-! ## The payloads of a tile -/

theorem plain2 {o n : ℕ} {x : FVec Ideal S256x2048 .f32} {v : Vec Ideal S2048x256 .bf16} {a : Vec Ideal S256x256 .f32}
    (hx : Scores i q K o n fun r j => x (ix2 r j)) (hv : Block V n v)
    (ha : ∀ r : Fin 256, PlainRow i q K V (o + r.val) n fun c => a (ix2 r c)) (r : Fin 256) :
    PlainRow i q K V (o + r.val) (n + 2048) fun c => acc2 x v a (ix2 r c) := by
  intro c
  have h := plain_step (sees i (o + r.val)) (score q K (o + r.val)) (ha r c) (fun j => x (ix2 r j)) (fun j => v (ix2 j c))
    (hx r) (fun j => hv j c)
  show Plain _ _ _ _ (acc2 x v a (ix2 r c))
  rw [acc2_apply]; exact h

theorem plain1 {o n : ℕ} {x : FVec Ideal S256x1024 .f32} {v : Vec Ideal S1024x256 .bf16} {a : Vec Ideal S256x256 .f32}
    (hx : Scores i q K o n fun r j => x (ix2 r j)) (hv : Block V n v)
    (ha : ∀ r : Fin 256, PlainRow i q K V (o + r.val) n fun c => a (ix2 r c)) (r : Fin 256) :
    PlainRow i q K V (o + r.val) (n + 1024) fun c => acc1 x v a (ix2 r c) := by
  intro c
  have h := plain_step (sees i (o + r.val)) (score q K (o + r.val)) (ha r c) (fun j => x (ix2 r j)) (fun j => v (ix2 j c))
    (hx r) (fun j => hv j c)
  show Plain _ _ _ _ (acc1 x v a (ix2 r c))
  rw [acc1_apply]; exact h

/-- The new maxima as they are stored, over 2048 keys. -/
def mx2 (x : FVec Ideal S256x2048 .f32) (m : Vec Ideal S256x1 .f32) : FVec Ideal S256x1 .f32 :=
  shapeCast S256x1 (max2 x m) shapeCasts_S256x1_S256x1

/-- The new maxima as they are stored, over 1024 keys. -/
def mx1 (x : FVec Ideal S256x1024 .f32) (m : Vec Ideal S256x1 .f32) : FVec Ideal S256x1 .f32 :=
  shapeCast S256x1 (max1 x m) shapeCasts_S256x1_S256x1

theorem mx2_apply (x : FVec Ideal S256x2048 .f32) (m : Vec Ideal S256x1 .f32) (r : Fin 256) :
    mx2 x m (ix2 r 0) = max2 x m (ix2 r 0) := by
  pointwise [mx2]

theorem mx1_apply (x : FVec Ideal S256x1024 .f32) (m : Vec Ideal S256x1 .f32) (r : Fin 256) :
    mx1 x m (ix2 r 0) = max1 x m (ix2 r 0) := by
  pointwise [mx1]

theorem online2 {o n : ℕ} {x : FVec Ideal S256x2048 .f32} {m : Vec Ideal S256x1 .f32} {v : Vec Ideal S2048x256 .bf16}
    {a : Vec Ideal S256x256 .f32} (hne : n ≤ 1024 * i) (hx : Scores i q K o n fun r j => x (ix2 r j)) (hv : Block V n v)
    (ha : ∀ r : Fin 256, OnlineRow i q K V (o + r.val) n (m (ix2 r 0)) fun c => a (ix2 r c)) (r : Fin 256) :
    OnlineRow i q K V (o + r.val) (n + 2048) (mx2 x m (ix2 r 0)) fun c => sh2 x m (max2 x m) v a (ix2 r c) := by
  have h := online_step (sees i (o + r.val)) (score q K (o + r.val)) (ha r) (fun j => x (ix2 r j)) (fun j c => v (ix2 j c))
    ⟨0, show (n + 0) / 64 ≤ (1024 * i + (o + r.val) % 1024) / 64 by omega⟩ (hx r) hv
  simp only [OnlineRow, mx2_apply, sh2_apply, max2_apply]
  exact h

theorem online1 {o n : ℕ} {x : FVec Ideal S256x1024 .f32} {m : Vec Ideal S256x1 .f32} {v : Vec Ideal S1024x256 .bf16}
    {a : Vec Ideal S256x256 .f32} (hne : n ≤ 1024 * i) (hx : Scores i q K o n fun r j => x (ix2 r j)) (hv : Block V n v)
    (ha : ∀ r : Fin 256, OnlineRow i q K V (o + r.val) n (m (ix2 r 0)) fun c => a (ix2 r c)) (r : Fin 256) :
    OnlineRow i q K V (o + r.val) (n + 1024) (mx1 x m (ix2 r 0)) fun c => sh1 x m (max1 x m) v a (ix2 r c) := by
  have h := online_step (sees i (o + r.val)) (score q K (o + r.val)) (ha r) (fun j => x (ix2 r j)) (fun j c => v (ix2 j c))
    ⟨0, show (n + 0) / 64 ≤ (1024 * i + (o + r.val) % 1024) / 64 by omega⟩ (hx r) hv
  simp only [OnlineRow, mx1_apply, sh1_apply, max1_apply]
  exact h

/-! ## The stores of a tile -/

section Views

variable {sig : RefSig} {κ : Kind} {sp : Space}

/-- A tile of rows stored last, read back at one of its rows. -/
theorem read_tile_of_mem {C : ℕ} {v : View sig κ sp ⟨2, ![2048, C]⟩ .f32} {f : v.ty.Contents (Elt Ideal)}
    {L : List (View.Piece (Elt Ideal) ⟨2, ![2048, C]⟩ .f32)} {o : ℕ} {off : Fin 2 → ℕ} {inb}
    {p : (⟨2, ![256, C]⟩ : Shape).Idx → Elt Ideal .f32} (hoff : off = ![o, 0]) (R : Fin 2048) (r : Fin 256) (c : Fin C)
    (h : R.val = o + r.val) :
    v.read (Elt Ideal) (v.writes (Elt Ideal) f (⟨Rect.unit (s := ⟨2, ![2048, C]⟩) off ![256, C] inb, p⟩ :: L)) (ix2 R c) = p (ix2 r c) :=
  View.read_writes_cons_rows_of_mem v f inb p L (ix2 R c) (ix2 r c) hoff h rfl

/-- A tile of rows stored last, read back at another row. -/
theorem read_tile_of_not_mem {C : ℕ} {v : View sig κ sp ⟨2, ![2048, C]⟩ .f32} {f : v.ty.Contents (Elt Ideal)}
    {L : List (View.Piece (Elt Ideal) ⟨2, ![2048, C]⟩ .f32)} {o : ℕ} {off : Fin 2 → ℕ} {inb}
    {p : (⟨2, ![256, C]⟩ : Shape).Idx → Elt Ideal .f32} (hoff : off = ![o, 0]) (R : Fin 2048) (c : Fin C)
    (h : R.val < o ∨ o + 256 ≤ R.val) :
    v.read (Elt Ideal) (v.writes (Elt Ideal) f (⟨Rect.unit (s := ⟨2, ![2048, C]⟩) off ![256, C] inb, p⟩ :: L)) (ix2 R c)
      = v.read (Elt Ideal) (v.writes (Elt Ideal) f L) (ix2 R c) :=
  View.read_writes_cons_rows_of_not_mem v f inb p L (ix2 R c) hoff rfl h

/-- One more tile stored. -/
theorem held_tile {va : View sig κ sp S2048x256 .f32} {fa : va.ty.Contents (Elt Ideal)}
    {La : List (View.Piece (Elt Ideal) S2048x256 .f32)} {k n n' o : ℕ} {inb} {pa : Vec Ideal S256x256 .f32}
    (h : Held i q K V (upto k n' n) (va.read (Elt Ideal) (va.writes (Elt Ideal) fa La))) (ho : o = 256 * k)
    (hp : ∀ r : Fin 256, PlainRow i q K V (o + r.val) n' fun c => pa (ix2 r c)) :
    Held i q K V (upto (k + 1) n' n)
      (va.read (Elt Ideal) (va.writes (Elt Ideal) fa (⟨Rect.unit (s := S2048x256) ![o, 0] S256x256.size inb, pa⟩ :: La))) := by
  intro R c
  by_cases hm : o ≤ R.val ∧ R.val < o + 256
  · have hr : R.val = o + (⟨R.val - o, by omega⟩ : Fin 256).val := by simp only; omega
    have e := read_tile_of_mem (v := va) (f := fa) (L := La) (inb := inb) (p := pa) rfl R ⟨R.val - o, by omega⟩ c hr
    have hu : upto (k + 1) n' n R = n' := by unfold upto; rw [if_pos (by omega)]
    have h' := hp ⟨R.val - o, by omega⟩ c
    rw [← hr] at h'
    rw [hu]; exact (congrArg (Plain _ _ _ _) e).mpr h'
  · have e := read_tile_of_not_mem (v := va) (f := fa) (L := La) (inb := inb) (p := pa) rfl R c (by omega)
    have hu : upto (k + 1) n' n R = upto k n' n R := by
      unfold upto
      by_cases hk : R.val < 256 * k
      · rw [if_pos hk, if_pos (by omega)]
      · rw [if_neg hk, if_neg (by omega)]
    rw [hu]; exact (congrArg (Plain _ _ _ _) e).mpr (h R c)

/-- One more tile stored, with its maxima. -/
theorem heldO_tile {vm : View sig κ sp S2048x1 .f32} {va : View sig κ sp S2048x256 .f32} {fm : vm.ty.Contents (Elt Ideal)}
    {fa : va.ty.Contents (Elt Ideal)} {Lm : List (View.Piece (Elt Ideal) S2048x1 .f32)}
    {La : List (View.Piece (Elt Ideal) S2048x256 .f32)} {k n n' o : ℕ} {inbm} {inb} {pm : Vec Ideal S256x1 .f32}
    {pa : Vec Ideal S256x256 .f32}
    (h : HeldO i q K V (upto k n' n) (vm.read (Elt Ideal) (vm.writes (Elt Ideal) fm Lm)) (va.read (Elt Ideal) (va.writes (Elt Ideal) fa La)))
    (ho : o = 256 * k)
    (hp : ∀ r : Fin 256, OnlineRow i q K V (o + r.val) n' (pm (ix2 r 0)) fun c => pa (ix2 r c)) :
    HeldO i q K V (upto (k + 1) n' n)
      (vm.read (Elt Ideal) (vm.writes (Elt Ideal) fm (⟨Rect.unit (s := S2048x1) ![o, 0] S256x1.size inbm, pm⟩ :: Lm)))
      (va.read (Elt Ideal) (va.writes (Elt Ideal) fa (⟨Rect.unit (s := S2048x256) ![o, 0] S256x256.size inb, pa⟩ :: La))) := by
  intro R
  by_cases hm : o ≤ R.val ∧ R.val < o + 256
  · have hr : R.val = o + (⟨R.val - o, by omega⟩ : Fin 256).val := by simp only; omega
    have e := fun c => read_tile_of_mem (v := va) (f := fa) (L := La) (inb := inb) (p := pa) rfl R ⟨R.val - o, by omega⟩ c hr
    have e' := read_tile_of_mem (v := vm) (f := fm) (L := Lm) (inb := inbm) (p := pm) rfl R ⟨R.val - o, by omega⟩ 0 hr
    have hu : upto (k + 1) n' n R = n' := by unfold upto; rw [if_pos (by omega)]
    have h' := hp ⟨R.val - o, by omega⟩
    rw [← hr] at h'
    rw [hu]
    refine (show _ = _ from congrArg₂ (OnlineRow i q K V R n') e' (funext e)) ▸ h'
  · have e := fun c => read_tile_of_not_mem (v := va) (f := fa) (L := La) (inb := inb) (p := pa) rfl R c (by omega)
    have e' := read_tile_of_not_mem (v := vm) (f := fm) (L := Lm) (inb := inbm) (p := pm) rfl R 0 (by omega)
    have hu : upto (k + 1) n' n R = upto k n' n R := by
      unfold upto
      by_cases hk : R.val < 256 * k
      · rw [if_pos hk, if_pos (by omega)]
      · rw [if_neg hk, if_neg (by omega)]
    rw [hu]
    refine (show _ = _ from congrArg₂ (OnlineRow i q K V R (upto k n' n R)) e' (funext e)) ▸ h R

/-- A tile not yet stored in this step, read before its own store: its rows are where the step before left them. -/
theorem held_at {va : View sig κ sp S2048x256 .f32} {fa : va.ty.Contents (Elt Ideal)} {k n n' o : ℕ} {inb}
    (h : Held i q K V (upto k n' n) (va.read (Elt Ideal) fa)) (ho : 256 * k ≤ o) (r : Fin 256) :
    PlainRow i q K V (o + r.val) n fun c =>
      va.readAt (Elt Ideal) (Rect.unit (s := S2048x256) ![o, 0] S256x256.size inb).toLoadRect fa (ix2 r c) := by
  intro c
  have hlt : o + 256 ≤ 2048 := inb 0
  have hr := r.isLt
  have e : va.readAt (Elt Ideal) (Rect.unit (s := S2048x256) ![o, 0] S256x256.size inb).toLoadRect fa (ix2 r c)
      = va.read (Elt Ideal) fa (ix2 ⟨o + r.val, by omega⟩ c) := by
    rw [View.readAt_eq_ld]
    refine View.ld_unit_apply_of _ _ _ inb _ _ fun a => ?_
    match a with
    | ⟨0, _⟩ => rfl
    | ⟨1, _⟩ => exact (Nat.zero_add _).symm
  have h' := h ⟨o + r.val, by omega⟩ c
  have hu : upto k n' n (o + r.val) = n := by unfold upto; rw [if_neg (by omega)]
  rw [show upto k n' n (⟨o + r.val, by omega⟩ : Fin 2048) = n from hu] at h'
  exact (congrArg (Plain _ _ _ _) e).mpr h'

theorem heldO_at {vm : View sig κ sp S2048x1 .f32} {va : View sig κ sp S2048x256 .f32} {fm : vm.ty.Contents (Elt Ideal)}
    {fa : va.ty.Contents (Elt Ideal)} {k n n' o : ℕ} {inbm} {inb}
    (h : HeldO i q K V (upto k n' n) (vm.read (Elt Ideal) fm) (va.read (Elt Ideal) fa)) (ho : 256 * k ≤ o) (r : Fin 256) :
    OnlineRow i q K V (o + r.val) n
      (vm.readAt (Elt Ideal) (Rect.unit (s := S2048x1) ![o, 0] S256x1.size inbm).toLoadRect fm (ix2 r 0)) fun c =>
      va.readAt (Elt Ideal) (Rect.unit (s := S2048x256) ![o, 0] S256x256.size inb).toLoadRect fa (ix2 r c) := by
  have hlt : o + 256 ≤ 2048 := inb 0
  have hr := r.isLt
  have e : ∀ c, va.readAt (Elt Ideal) (Rect.unit (s := S2048x256) ![o, 0] S256x256.size inb).toLoadRect fa (ix2 r c)
      = va.read (Elt Ideal) fa (ix2 ⟨o + r.val, by omega⟩ c) := by
    intro c
    rw [View.readAt_eq_ld]
    refine View.ld_unit_apply_of _ _ _ inb _ _ fun a => ?_
    match a with
    | ⟨0, _⟩ => rfl
    | ⟨1, _⟩ => exact (Nat.zero_add _).symm
  have e' : vm.readAt (Elt Ideal) (Rect.unit (s := S2048x1) ![o, 0] S256x1.size inbm).toLoadRect fm (ix2 r 0)
      = vm.read (Elt Ideal) fm (ix2 ⟨o + r.val, by omega⟩ 0) := by
    rw [View.readAt_eq_ld]
    refine View.ld_unit_apply_of _ _ _ inbm _ _ fun a => ?_
    match a with
    | ⟨0, _⟩ => rfl
    | ⟨1, _⟩ => rfl
  have h' := h ⟨o + r.val, by omega⟩
  have hu : upto k n' n (o + r.val) = n := by unfold upto; rw [if_neg (by omega)]
  rw [show upto k n' n (⟨o + r.val, by omega⟩ : Fin 2048) = n from hu] at h'
  exact (congrArg₂ (OnlineRow i q K V (o + r.val) n) e' (funext e)) ▸ h'

/-- The queries of a tile, read from the stacked queries. -/
theorem queries_at {vq : View sig κ sp S2048x128 .bf16} {fq : vq.ty.Contents (Elt Ideal)} {o : ℕ} {inb}
    (h : ∀ (R : Fin 2048) (d : Fin 128), vq.read (Elt Ideal) fq (ix2 R d) = ((q R d : ℝ) : EReal)) :
    Queries q o (vq.readAt (Elt Ideal) (Rect.unit (s := S2048x128) ![o, 0] S256x128.size inb).toLoadRect fq) := by
  intro r d
  have hlt : o + 256 ≤ 2048 := inb 0
  have hr := r.isLt
  rw [View.readAt_eq_ld]
  refine (View.ld_unit_apply_of _ _ _ inb _ (ix2 ⟨o + r.val, by omega⟩ d) fun a => ?_).trans (h _ d)
  match a with
  | ⟨0, _⟩ => rfl
  | ⟨1, _⟩ => exact (Nat.zero_add _).symm

/-- A block of rows of the keys or of the values. -/
theorem block_at {N C : ℕ} {v : View sig κ sp ⟨2, ![16384, C]⟩ .bf16} {f : v.ty.Contents (Elt Ideal)} {n : ℕ} {off : Fin 2 → ℕ} {inb}
    {K : ℕ → Fin C → ℝ} (h : ∀ (j : Fin 16384) (d : Fin C), v.read (Elt Ideal) f (ix2 j d) = ((K j d : ℝ) : EReal))
    (hoff : off = ![n, 0]) :
    Block (N := N) K n (v.readAt (Elt Ideal) (Rect.unit (s := ⟨2, ![16384, C]⟩) off ![N, C] inb).toLoadRect f) := by
  subst hoff
  intro j d
  have hlt : n + N ≤ 16384 := inb 0
  have hj := j.isLt
  rw [View.readAt_eq_ld]
  refine (View.ld_unit_apply_of _ _ _ inb _ (ix2 ⟨n + j.val, by omega⟩ d) fun a => ?_).trans (h _ d)
  match a with
  | ⟨0, _⟩ => rfl
  | ⟨1, _⟩ => exact (Nat.zero_add _).symm

/-! ## A tile of a step, from what it reads -/

/-- The queries, keys and values a point of the grid reads. -/
structure Inputs (q K : ℕ → Fin 128 → ℝ) (V : ℕ → Fin 256 → ℝ) (vq : View sig κ sp S2048x128 .bf16)
    (vk : View sig κ sp S16384x128 .bf16) (vv : View sig κ sp S16384x256 .bf16) (fq : vq.ty.Contents (Elt Ideal))
    (fk : vk.ty.Contents (Elt Ideal)) (fv : vv.ty.Contents (Elt Ideal)) : Prop where
  query : ∀ (R : Fin 2048) (d : Fin 128), vq.read (Elt Ideal) fq (ix2 R d) = ((q R d : ℝ) : EReal)
  key : ∀ (j : Fin 16384) (d : Fin 128), vk.read (Elt Ideal) fk (ix2 j d) = ((K j d : ℝ) : EReal)
  value : ∀ (j : Fin 16384) (c : Fin 256), vv.read (Elt Ideal) fv (ix2 j c) = ((V j c : ℝ) : EReal)

variable {vq : View sig κ sp S2048x128 .bf16} {vk : View sig κ sp S16384x128 .bf16} {vv : View sig κ sp S16384x256 .bf16}
  {fq : vq.ty.Contents (Elt Ideal)} {fk : vk.ty.Contents (Elt Ideal)} {fv : vv.ty.Contents (Elt Ideal)}
  {vm : View sig κ sp S2048x1 .f32} {va : View sig κ sp S2048x256 .f32}
  {fm rm : vm.ty.Contents (Elt Ideal)} {fa ra : va.ty.Contents (Elt Ideal)} {Lm : List (View.Piece (Elt Ideal) S2048x1 .f32)}
  {La : List (View.Piece (Elt Ideal) S2048x256 .f32)} {n o : ℕ} {offk offv : Fin 2 → ℕ} {inbq inbk inbv inba inbm}
  {pm : Vec Ideal S256x1 .f32} {pa : Vec Ideal S256x256 .f32}

/-- A tile of a plain step over 2048 keys. -/
theorem full_tile (k : ℕ) (H : Inputs q K V vq vk vv fq fk fv) (hn : n + 2048 ≤ 1024 * i) (hk : offk = ![n, 0]) (hv : offv = ![n, 0])
    {k' n'' : ℕ} (hr : Held i q K V (upto k' n'' n) (va.read (Elt Ideal) ra)) (hk' : 256 * k' ≤ o)
    (h : Held i q K V (upto k (n + 2048) n) (va.read (Elt Ideal) (va.writes (Elt Ideal) fa La))) (ho : o = 256 * k)
    (hp : pa = acc2
      (sc2 (vq.readAt (Elt Ideal) (Rect.unit (s := S2048x128) ![o, 0] S256x128.size inbq).toLoadRect fq)
        (vk.readAt (Elt Ideal) (Rect.unit (s := S16384x128) offk S2048x128.size inbk).toLoadRect fk))
      (vv.readAt (Elt Ideal) (Rect.unit (s := S16384x256) offv S2048x256.size inbv).toLoadRect fv)
      (va.readAt (Elt Ideal) (Rect.unit (s := S2048x256) ![o, 0] S256x256.size inba).toLoadRect ra)) :
    Held i q K V (upto (k + 1) (n + 2048) n)
      (va.read (Elt Ideal) (va.writes (Elt Ideal) fa (⟨Rect.unit (s := S2048x256) ![o, 0] S256x256.size inba, pa⟩ :: La))) := by
  subst hp
  exact held_tile h ho (plain2 (scores_full hn (queries_at H.query) (block_at H.key hk)) (block_at H.value hv) (held_at hr hk'))

/-- A tile of a plain step over 1024 keys, all of them seen. -/
theorem half_tile (k : ℕ) (H : Inputs q K V vq vk vv fq fk fv) (hn : n + 1024 ≤ 1024 * i) (hk : offk = ![n, 0]) (hv : offv = ![n, 0])
    {k' n'' : ℕ} (hr : Held i q K V (upto k' n'' n) (va.read (Elt Ideal) ra)) (hk' : 256 * k' ≤ o)
    (h : Held i q K V (upto k (n + 1024) n) (va.read (Elt Ideal) (va.writes (Elt Ideal) fa La))) (ho : o = 256 * k)
    (hp : pa = acc1
      (sc1 (vq.readAt (Elt Ideal) (Rect.unit (s := S2048x128) ![o, 0] S256x128.size inbq).toLoadRect fq)
        (vk.readAt (Elt Ideal) (Rect.unit (s := S16384x128) offk S1024x128.size inbk).toLoadRect fk))
      (vv.readAt (Elt Ideal) (Rect.unit (s := S16384x256) offv S1024x256.size inbv).toLoadRect fv)
      (va.readAt (Elt Ideal) (Rect.unit (s := S2048x256) ![o, 0] S256x256.size inba).toLoadRect ra)) :
    Held i q K V (upto (k + 1) (n + 1024) n)
      (va.read (Elt Ideal) (va.writes (Elt Ideal) fa (⟨Rect.unit (s := S2048x256) ![o, 0] S256x256.size inba, pa⟩ :: La))) := by
  subst hp
  exact held_tile h ho (plain1 (scores_half hn (queries_at H.query) (block_at H.key hk)) (block_at H.value hv) (held_at hr hk'))

/-- A tile of the plain step on the diagonal. -/
theorem diag_tile (k : ℕ) (kw qw : BitVec 32) (H : Inputs q K V vq vk vv fq fk fv) (hi : i < 16)
    (hkw : kw = BitVec.ofNat 32 (1024 * i)) (hqw : qw = BitVec.ofNat 32 (1024 * i + o % 1024))
    (hk : offk = ![1024 * i, 0]) (hv : offv = ![1024 * i, 0])
    {k' n'' : ℕ} (hr : Held i q K V (upto k' n'' (1024 * i)) (va.read (Elt Ideal) ra)) (hk' : 256 * k' ≤ o)
    (h : Held i q K V (upto k (1024 * i + 1024) (1024 * i)) (va.read (Elt Ideal) (va.writes (Elt Ideal) fa La))) (ho : o = 256 * k)
    (hp : pa = acc1
      (scM kw qw (vq.readAt (Elt Ideal) (Rect.unit (s := S2048x128) ![o, 0] S256x128.size inbq).toLoadRect fq)
        (vk.readAt (Elt Ideal) (Rect.unit (s := S16384x128) offk S1024x128.size inbk).toLoadRect fk))
      (vv.readAt (Elt Ideal) (Rect.unit (s := S16384x256) offv S1024x256.size inbv).toLoadRect fv)
      (va.readAt (Elt Ideal) (Rect.unit (s := S2048x256) ![o, 0] S256x256.size inba).toLoadRect ra)) :
    Held i q K V (upto (k + 1) (1024 * i + 1024) (1024 * i))
      (va.read (Elt Ideal) (va.writes (Elt Ideal) fa (⟨Rect.unit (s := S2048x256) ![o, 0] S256x256.size inba, pa⟩ :: La))) := by
  subst hp
  exact held_tile h ho (plain1 (scores_diag hi (by omega) hkw hqw (queries_at H.query) (block_at H.key hk)) (block_at H.value hv)
    (held_at hr hk'))

/-- A tile of a shifted step over 2048 keys. -/
theorem full_tileO (k : ℕ) (H : Inputs q K V vq vk vv fq fk fv) (hn : n + 2048 ≤ 1024 * i) (hk : offk = ![n, 0]) (hv : offv = ![n, 0])
    {k' n'' : ℕ} (hr : HeldO i q K V (upto k' n'' n) (vm.read (Elt Ideal) rm) (va.read (Elt Ideal) ra)) (hk' : 256 * k' ≤ o)
    (h : HeldO i q K V (upto k (n + 2048) n) (vm.read (Elt Ideal) (vm.writes (Elt Ideal) fm Lm))
      (va.read (Elt Ideal) (va.writes (Elt Ideal) fa La))) (ho : o = 256 * k)
    (hpm : pm = mx2 (sc2 (vq.readAt (Elt Ideal) (Rect.unit (s := S2048x128) ![o, 0] S256x128.size inbq).toLoadRect fq)
        (vk.readAt (Elt Ideal) (Rect.unit (s := S16384x128) offk S2048x128.size inbk).toLoadRect fk))
      (vm.readAt (Elt Ideal) (Rect.unit (s := S2048x1) ![o, 0] S256x1.size inbm).toLoadRect rm))
    (hpa : pa = sh2
      (sc2 (vq.readAt (Elt Ideal) (Rect.unit (s := S2048x128) ![o, 0] S256x128.size inbq).toLoadRect fq)
        (vk.readAt (Elt Ideal) (Rect.unit (s := S16384x128) offk S2048x128.size inbk).toLoadRect fk))
      (vm.readAt (Elt Ideal) (Rect.unit (s := S2048x1) ![o, 0] S256x1.size inbm).toLoadRect rm)
      (max2 (sc2 (vq.readAt (Elt Ideal) (Rect.unit (s := S2048x128) ![o, 0] S256x128.size inbq).toLoadRect fq)
        (vk.readAt (Elt Ideal) (Rect.unit (s := S16384x128) offk S2048x128.size inbk).toLoadRect fk))
        (vm.readAt (Elt Ideal) (Rect.unit (s := S2048x1) ![o, 0] S256x1.size inbm).toLoadRect rm))
      (vv.readAt (Elt Ideal) (Rect.unit (s := S16384x256) offv S2048x256.size inbv).toLoadRect fv)
      (va.readAt (Elt Ideal) (Rect.unit (s := S2048x256) ![o, 0] S256x256.size inba).toLoadRect ra)) :
    HeldO i q K V (upto (k + 1) (n + 2048) n)
      (vm.read (Elt Ideal) (vm.writes (Elt Ideal) fm (⟨Rect.unit (s := S2048x1) ![o, 0] S256x1.size inbm, pm⟩ :: Lm)))
      (va.read (Elt Ideal) (va.writes (Elt Ideal) fa (⟨Rect.unit (s := S2048x256) ![o, 0] S256x256.size inba, pa⟩ :: La))) := by
  subst hpm hpa
  exact heldO_tile h ho (online2 (by omega) (scores_full hn (queries_at H.query) (block_at H.key hk)) (block_at H.value hv)
    (heldO_at hr hk'))

/-- A tile of a shifted step over 1024 keys, all of them seen. -/
theorem half_tileO (k : ℕ) (H : Inputs q K V vq vk vv fq fk fv) (hn : n + 1024 ≤ 1024 * i) (hk : offk = ![n, 0]) (hv : offv = ![n, 0])
    {k' n'' : ℕ} (hr : HeldO i q K V (upto k' n'' n) (vm.read (Elt Ideal) rm) (va.read (Elt Ideal) ra)) (hk' : 256 * k' ≤ o)
    (h : HeldO i q K V (upto k (n + 1024) n) (vm.read (Elt Ideal) (vm.writes (Elt Ideal) fm Lm))
      (va.read (Elt Ideal) (va.writes (Elt Ideal) fa La))) (ho : o = 256 * k)
    (hpm : pm = mx1 (sc1 (vq.readAt (Elt Ideal) (Rect.unit (s := S2048x128) ![o, 0] S256x128.size inbq).toLoadRect fq)
        (vk.readAt (Elt Ideal) (Rect.unit (s := S16384x128) offk S1024x128.size inbk).toLoadRect fk))
      (vm.readAt (Elt Ideal) (Rect.unit (s := S2048x1) ![o, 0] S256x1.size inbm).toLoadRect rm))
    (hpa : pa = sh1
      (sc1 (vq.readAt (Elt Ideal) (Rect.unit (s := S2048x128) ![o, 0] S256x128.size inbq).toLoadRect fq)
        (vk.readAt (Elt Ideal) (Rect.unit (s := S16384x128) offk S1024x128.size inbk).toLoadRect fk))
      (vm.readAt (Elt Ideal) (Rect.unit (s := S2048x1) ![o, 0] S256x1.size inbm).toLoadRect rm)
      (max1 (sc1 (vq.readAt (Elt Ideal) (Rect.unit (s := S2048x128) ![o, 0] S256x128.size inbq).toLoadRect fq)
        (vk.readAt (Elt Ideal) (Rect.unit (s := S16384x128) offk S1024x128.size inbk).toLoadRect fk))
        (vm.readAt (Elt Ideal) (Rect.unit (s := S2048x1) ![o, 0] S256x1.size inbm).toLoadRect rm))
      (vv.readAt (Elt Ideal) (Rect.unit (s := S16384x256) offv S1024x256.size inbv).toLoadRect fv)
      (va.readAt (Elt Ideal) (Rect.unit (s := S2048x256) ![o, 0] S256x256.size inba).toLoadRect ra)) :
    HeldO i q K V (upto (k + 1) (n + 1024) n)
      (vm.read (Elt Ideal) (vm.writes (Elt Ideal) fm (⟨Rect.unit (s := S2048x1) ![o, 0] S256x1.size inbm, pm⟩ :: Lm)))
      (va.read (Elt Ideal) (va.writes (Elt Ideal) fa (⟨Rect.unit (s := S2048x256) ![o, 0] S256x256.size inba, pa⟩ :: La))) := by
  subst hpm hpa
  exact heldO_tile h ho (online1 (by omega) (scores_half hn (queries_at H.query) (block_at H.key hk)) (block_at H.value hv)
    (heldO_at hr hk'))

/-- A tile of the shifted step on the diagonal. -/
theorem diag_tileO (k : ℕ) (kw qw : BitVec 32) (H : Inputs q K V vq vk vv fq fk fv) (hi : i < 16)
    (hkw : kw = BitVec.ofNat 32 (1024 * i)) (hqw : qw = BitVec.ofNat 32 (1024 * i + o % 1024))
    (hk : offk = ![1024 * i, 0]) (hv : offv = ![1024 * i, 0])
    {k' n'' : ℕ} (hr : HeldO i q K V (upto k' n'' (1024 * i)) (vm.read (Elt Ideal) rm) (va.read (Elt Ideal) ra)) (hk' : 256 * k' ≤ o)
    (h : HeldO i q K V (upto k (1024 * i + 1024) (1024 * i)) (vm.read (Elt Ideal) (vm.writes (Elt Ideal) fm Lm))
      (va.read (Elt Ideal) (va.writes (Elt Ideal) fa La))) (ho : o = 256 * k)
    (hpm : pm = mx1 (scM kw qw (vq.readAt (Elt Ideal) (Rect.unit (s := S2048x128) ![o, 0] S256x128.size inbq).toLoadRect fq)
        (vk.readAt (Elt Ideal) (Rect.unit (s := S16384x128) offk S1024x128.size inbk).toLoadRect fk))
      (vm.readAt (Elt Ideal) (Rect.unit (s := S2048x1) ![o, 0] S256x1.size inbm).toLoadRect rm))
    (hpa : pa = sh1
      (scM kw qw (vq.readAt (Elt Ideal) (Rect.unit (s := S2048x128) ![o, 0] S256x128.size inbq).toLoadRect fq)
        (vk.readAt (Elt Ideal) (Rect.unit (s := S16384x128) offk S1024x128.size inbk).toLoadRect fk))
      (vm.readAt (Elt Ideal) (Rect.unit (s := S2048x1) ![o, 0] S256x1.size inbm).toLoadRect rm)
      (max1 (scM kw qw (vq.readAt (Elt Ideal) (Rect.unit (s := S2048x128) ![o, 0] S256x128.size inbq).toLoadRect fq)
        (vk.readAt (Elt Ideal) (Rect.unit (s := S16384x128) offk S1024x128.size inbk).toLoadRect fk))
        (vm.readAt (Elt Ideal) (Rect.unit (s := S2048x1) ![o, 0] S256x1.size inbm).toLoadRect rm))
      (vv.readAt (Elt Ideal) (Rect.unit (s := S16384x256) offv S1024x256.size inbv).toLoadRect fv)
      (va.readAt (Elt Ideal) (Rect.unit (s := S2048x256) ![o, 0] S256x256.size inba).toLoadRect ra)) :
    HeldO i q K V (upto (k + 1) (1024 * i + 1024) (1024 * i))
      (vm.read (Elt Ideal) (vm.writes (Elt Ideal) fm (⟨Rect.unit (s := S2048x1) ![o, 0] S256x1.size inbm, pm⟩ :: Lm)))
      (va.read (Elt Ideal) (va.writes (Elt Ideal) fa (⟨Rect.unit (s := S2048x256) ![o, 0] S256x256.size inba, pa⟩ :: La))) := by
  subst hpm hpa
  exact heldO_tile h ho (online1 (by omega) (scores_diag hi (by omega) hkw hqw (queries_at H.query) (block_at H.key hk)) (block_at H.value hv)
    (heldO_at hr hk'))

/-- The last tile of the shifted step on the diagonal, whose maxima no one reads again. -/
theorem diag_lastO (k : ℕ) (kw qw : BitVec 32) (H : Inputs q K V vq vk vv fq fk fv) (hi : i < 16)
    (hkw : kw = BitVec.ofNat 32 (1024 * i)) (hqw : qw = BitVec.ofNat 32 (1024 * i + o % 1024))
    (hk : offk = ![1024 * i, 0]) (hv : offv = ![1024 * i, 0])
    {k' n'' : ℕ} (hr : HeldO i q K V (upto k' n'' (1024 * i)) (vm.read (Elt Ideal) rm) (va.read (Elt Ideal) ra)) (hk' : 256 * k' ≤ o)
    (h : HeldO i q K V (upto k (1024 * i + 1024) (1024 * i)) (vm.read (Elt Ideal) (vm.writes (Elt Ideal) fm Lm))
      (va.read (Elt Ideal) (va.writes (Elt Ideal) fa La))) (ho : o = 256 * k)
    (hpa : pa = sh1
      (scM kw qw (vq.readAt (Elt Ideal) (Rect.unit (s := S2048x128) ![o, 0] S256x128.size inbq).toLoadRect fq)
        (vk.readAt (Elt Ideal) (Rect.unit (s := S16384x128) offk S1024x128.size inbk).toLoadRect fk))
      (vm.readAt (Elt Ideal) (Rect.unit (s := S2048x1) ![o, 0] S256x1.size inbm).toLoadRect rm)
      (max1 (scM kw qw (vq.readAt (Elt Ideal) (Rect.unit (s := S2048x128) ![o, 0] S256x128.size inbq).toLoadRect fq)
        (vk.readAt (Elt Ideal) (Rect.unit (s := S16384x128) offk S1024x128.size inbk).toLoadRect fk))
        (vm.readAt (Elt Ideal) (Rect.unit (s := S2048x1) ![o, 0] S256x1.size inbm).toLoadRect rm))
      (vv.readAt (Elt Ideal) (Rect.unit (s := S16384x256) offv S1024x256.size inbv).toLoadRect fv)
      (va.readAt (Elt Ideal) (Rect.unit (s := S2048x256) ![o, 0] S256x256.size inba).toLoadRect ra)) :
    ∃ M, HeldO i q K V (upto (k + 1) (1024 * i + 1024) (1024 * i)) M
      (va.read (Elt Ideal) (va.writes (Elt Ideal) fa (⟨Rect.unit (s := S2048x256) ![o, 0] S256x256.size inba, pa⟩ :: La))) :=
  ⟨_, diag_tileO k kw qw H hi hkw hqw hk hv hr hk' h ho rfl hpa⟩

end Views

/-- All eight tiles stored: the step is done. -/
theorem held_done {n n' : ℕ} {S : S2048x256.Idx → EReal} (h : Held i q K V (upto 8 n' n) S) : Held i q K V (fun _ => n') S := by
  intro R
  have h' := h R
  rwa [show upto 8 n' n R = n' from if_pos (by have := R.isLt; omega)] at h'

theorem heldO_done {n n' : ℕ} {M : S2048x1.Idx → EReal} {S : S2048x256.Idx → EReal} (h : HeldO i q K V (upto 8 n' n) M S) :
    HeldO i q K V (fun _ => n') M S := by
  intro R
  have h' := h R
  rwa [show upto 8 n' n R = n' from if_pos (by have := R.isLt; omega)] at h'

/-- Before the first tile of a step. -/
theorem held_start (n' : ℕ) {n : ℕ} {S : S2048x256.Idx → EReal} (h : Held i q K V (fun _ => n) S) : Held i q K V (upto 0 n' n) S := by
  rw [upto_zero]; exact h

theorem heldO_start (n' : ℕ) {n : ℕ} {M : S2048x1.Idx → EReal} {S : S2048x256.Idx → EReal} (h : HeldO i q K V (fun _ => n) M S) :
    HeldO i q K V (upto 0 n' n) M S := by
  rw [upto_zero]; exact h

end Cert.KernelIdeal.Steps

end

end
-- ==== Proof.Trips.lean ====
module

public import proofs.«01_k».proof.Proof.Steps
public import proofs.«01_k».proof.Proof.Ideal.Skel

/-!
# The loops over blocks of keys

The words a point of the grid computes its blocks from, and what the accumulators hold after the loop over the blocks of 2048
keys that lie wholly before the point's own rows.
-/

@[expose] public section

set_option maxRecDepth 16384

noncomputable section

namespace Cert.KernelIdeal.Steps

open Idealize.ShloMosaic Idealize.ShloMosaic.TcCoe
open Cert.KernelIdeal.Gen Cert.KernelIdeal.Tile Cert.Attn

/-! ## The words of a point -/

/-- The point of the grid with second coordinate `n`. -/
abbrev at1 (n : Fin 16) : grid0.Coords := fun a => match a with
  | ⟨0, _⟩ => (0 : Fin 8)
  | ⟨1, _⟩ => n

/-- The second coordinate of a point: which 1024 rows it computes. -/
abbrev rowsOf (i : grid0.Coords) : ℕ := (i 1).val

theorem rowsOf_lt (i : grid0.Coords) : rowsOf i < 16 := (i 1).isLt

theorem off7 (i : grid0.Coords) : k0_off7 i = ![1024 * rowsOf i, 0] :=
  (by decide +kernel : ∀ n : Fin 16, k0_off7 (at1 n) = ![1024 * n.val, 0]) (i 1)

theorem off8 (i : grid0.Coords) : k0_off8 i = ![1024 * rowsOf i, 0] :=
  (by decide +kernel : ∀ n : Fin 16, k0_off8 (at1 n) = ![1024 * n.val, 0]) (i 1)

theorem off15 (i : grid0.Coords) : k0_off15 i = ![1024 * rowsOf i, 0] :=
  (by decide +kernel : ∀ n : Fin 16, k0_off15 (at1 n) = ![1024 * n.val, 0]) (i 1)

theorem off16 (i : grid0.Coords) : k0_off16 i = ![1024 * rowsOf i, 0] :=
  (by decide +kernel : ∀ n : Fin 16, k0_off16 (at1 n) = ![1024 * n.val, 0]) (i 1)

theorem off5 (i : grid0.Coords) : k0_off5 i = ![2048 * (rowsOf i / 2), 0] :=
  (by decide +kernel : ∀ n : Fin 16, k0_off5 (at1 n) = ![2048 * (n.val / 2), 0]) (i 1)

theorem off6 (i : grid0.Coords) : k0_off6 i = ![2048 * (rowsOf i / 2), 0] :=
  (by decide +kernel : ∀ n : Fin 16, k0_off6 (at1 n) = ![2048 * (n.val / 2), 0]) (i 1)

theorem off13 (i : grid0.Coords) : k0_off13 i = ![2048 * (rowsOf i / 2), 0] :=
  (by decide +kernel : ∀ n : Fin 16, k0_off13 (at1 n) = ![2048 * (n.val / 2), 0]) (i 1)

theorem off14 (i : grid0.Coords) : k0_off14 i = ![2048 * (rowsOf i / 2), 0] :=
  (by decide +kernel : ∀ n : Fin 16, k0_off14 (at1 n) = ![2048 * (n.val / 2), 0]) (i 1)

theorem trips1 (i : grid0.Coords) : (k0_t1_loop i).trips = rowsOf i / 2 :=
  (by decide +kernel : ∀ n : Fin 16, (k0_t1_loop (at1 n)).trips = n.val / 2) (i 1)

theorem trips2 (i : grid0.Coords) : (k0_t2_loop i).trips = 0 :=
  (by decide +kernel : ∀ n : Fin 16, (k0_t2_loop (at1 n)).trips = 0) (i 1)

theorem trips3 (i : grid0.Coords) : (k0_t3_loop i).trips = rowsOf i / 2 :=
  (by decide +kernel : ∀ n : Fin 16, (k0_t3_loop (at1 n)).trips = n.val / 2) (i 1)

theorem trips4 (i : grid0.Coords) : (k0_t4_loop i).trips = 0 :=
  (by decide +kernel : ∀ n : Fin 16, (k0_t4_loop (at1 n)).trips = 0) (i 1)

/-- The first key of a block of 2048. -/
theorem block_word : ∀ k : Fin 8, (Scalar.muli (Scf.iv 0#32 1#32 k.val) 2048#32).toNat = 2048 * k.val := by decide +kernel

theorem off1 (i : grid0.Coords) (k : Fin (k0_t1_loop i).trips) : k0_off1 i k = ![2048 * k.val, 0] :=
  congrArg (fun x => ![x, 0])
    (block_word ⟨k.val, lt_of_lt_of_le k.isLt (by rw [trips1]; have := rowsOf_lt i; omega)⟩)

theorem off2 (i : grid0.Coords) (k : Fin (k0_t1_loop i).trips) : k0_off2 i k = ![2048 * k.val, 0] := off1 i k

theorem off9 (i : grid0.Coords) (k : Fin (k0_t3_loop i).trips) : k0_off9 i k = ![2048 * k.val, 0] :=
  congrArg (fun x => ![x, 0])
    (block_word ⟨k.val, lt_of_lt_of_le k.isLt (by rw [trips3]; have := rowsOf_lt i; omega)⟩)

theorem off10 (i : grid0.Coords) (k : Fin (k0_t3_loop i).trips) : k0_off10 i k = ![2048 * k.val, 0] := off9 i k

/-- The first key of the block on the diagonal, and the first row of a tile there. -/
theorem diag_key (i : grid0.Coords) :
    Scalar.muli (BitVec.ofNat 32 (i 1).val) 1024#32 = BitVec.ofNat 32 (1024 * rowsOf i) :=
  (by decide +kernel : ∀ n : Fin 16, Scalar.muli (BitVec.ofNat 32 n.val) 1024#32 = BitVec.ofNat 32 (1024 * n.val)) (i 1)

theorem diag_row (i : grid0.Coords) (o : ℕ) :
    Scalar.addi (Scalar.muli (BitVec.ofNat 32 (i 1).val) 1024#32) (BitVec.ofNat 32 o) = BitVec.ofNat 32 (1024 * rowsOf i + o) := by
  rw [diag_key, BitVec.ofNat_add]; rfl

/-! ## What the runs start from -/

theorem odd1 (i : grid0.Coords) : cond0_1 i ↔ rowsOf i % 2 = 1 := by
  have h : ∀ n : Fin 16, cond0_1 (at1 n) ↔ n.val % 2 = 1 := by unfold cond0_1; decide +kernel
  exact h (i 1)

theorem odd3 (i : grid0.Coords) : cond0_3 i ↔ rowsOf i % 2 = 1 := by
  have h : ∀ n : Fin 16, cond0_3 (at1 n) ↔ n.val % 2 = 1 := by unfold cond0_3; decide +kernel
  exact h (i 1)

/-- A whole buffer stored at once, read back. -/
theorem read_whole {sg : RefSig} {κ : Kind} {sp : Space} {N C : ℕ} {e : EltTy} (v : View sg κ sp ⟨2, ![N, C]⟩ e)
    (f : v.ty.Contents (Elt Ideal)) (inb) (p : (⟨2, ![N, C]⟩ : Shape).Idx → Elt Ideal e) (R : Fin N) (c : Fin C) :
    v.read (Elt Ideal) (v.writes (Elt Ideal) f [⟨Rect.unit (s := ⟨2, ![N, C]⟩) ![0, 0] ![N, C] inb, p⟩]) (ix2 R c) = p (ix2 R c) :=
  View.read_writes_cons_rows_of_mem v f inb p [] (ix2 R c) (ix2 R c) rfl (Nat.zero_add _).symm rfl

/-- A load of a whole buffer. -/
theorem load_whole {sg : RefSig} {κ : Kind} {sp : Space} {N C : ℕ} {e : EltTy} (v : View sg κ sp ⟨2, ![N, C]⟩ e)
    (f : v.ty.Contents (Elt Ideal)) (inb) (R : Fin N) (c : Fin C) :
    v.readAt (Elt Ideal) (Rect.unit (s := ⟨2, ![N, C]⟩) ![0, 0] ![N, C] inb).toLoadRect f (ix2 R c)
      = v.read (Elt Ideal) f (ix2 R c) := by
  rw [View.readAt_eq_ld]
  refine View.ld_unit_apply_of _ _ _ inb _ (ix2 R c) fun a => ?_
  match a with
  | ⟨0, _⟩ => exact (Nat.zero_add _).symm
  | ⟨1, _⟩ => exact (Nat.zero_add _).symm

/-- The accumulator starts at zero. -/
theorem held_zero {q K : ℕ → Fin 128 → ℝ} {V : ℕ → Fin 256 → ℝ} {i : ℕ} {sg : RefSig} {κ : Kind} {sp : Space}
    (v : View sg κ sp S2048x256 .f32) (f : v.ty.Contents (Elt Ideal)) (inb) :
    Held i q K V (fun _ => 0)
      (v.read (Elt Ideal) (v.writes (Elt Ideal) f [⟨Rect.unit (s := S2048x256) ![0, 0] S2048x256.size inb, k0_pay274 (F := Ideal)⟩])) := by
  intro R c
  have e := read_whole v f inb (k0_pay274 (F := Ideal)) R c
  have z : (k0_pay274 : FVec Ideal S2048x256 .f32) (ix2 R c) = 0 := by pointwise [k0_pay274]
  exact (congrArg (Plain _ _ _ _) (e.trans z)).mpr (plain_zero _ _ _)

/-- The maxima start at `⊥`, the accumulator at zero. -/
theorem heldO_zero {q K : ℕ → Fin 128 → ℝ} {V : ℕ → Fin 256 → ℝ} {i : ℕ} {sg : RefSig} {κ : Kind} {sp : Space}
    (vm : View sg κ sp S2048x1 .f32) (fm : vm.ty.Contents (Elt Ideal)) (inbm)
    (v : View sg κ sp S2048x256 .f32) (f : v.ty.Contents (Elt Ideal)) (inb) :
    HeldO i q K V (fun _ => 0)
      (vm.read (Elt Ideal) (vm.writes (Elt Ideal) fm [⟨Rect.unit (s := S2048x1) ![0, 0] S2048x1.size inbm, k0_pay188 (F := Ideal)⟩]))
      (v.read (Elt Ideal) (v.writes (Elt Ideal) f [⟨Rect.unit (s := S2048x256) ![0, 0] S2048x256.size inb, k0_pay274 (F := Ideal)⟩])) := by
  intro R
  have e := fun c => read_whole v f inb (k0_pay274 (F := Ideal)) R c
  have e' := read_whole vm fm inbm (k0_pay188 (F := Ideal)) R 0
  have z : ∀ c, (k0_pay274 : FVec Ideal S2048x256 .f32) (ix2 R c) = 0 := by intro c; pointwise [k0_pay274]
  have z' : (k0_pay188 : FVec Ideal S2048x1 .f32) (ix2 R 0) = ⊥ := by
    pointwise [k0_pay188]
    rfl
  exact (congrArg₂ (OnlineRow i q K V R 0) (e'.trans z') (funext fun c => (e c).trans (z c))).mpr (online_zero _ _ _)

/-! ## The loops -/

variable {q K : ℕ → Fin 128 → ℝ} {V : ℕ → Fin 256 → ℝ}
variable (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole)
  (arg1 v38 : BitVec 32) (X9 : BufTy.Contents (Elt Ideal) arg9.view.ty) (X10 : BufTy.Contents (Elt Ideal) arg10.view.ty)
  (X12 : BufTy.Contents (Elt Ideal) arg12.view.ty)

/-- One trip of the plain loop: one more block of 2048 keys at every row. -/
theorem trip_plain (H : Inputs q K V arg12.view arg9.view arg10.view X12 X9 X10) (k : Fin (k0_t1_loop i).trips)
    (f : BufTy.Contents (Elt Ideal) arg14.view.ty)
    (h : Held (rowsOf i) q K V (fun _ => 2048 * k.val) (arg14.view.read (Elt Ideal) f)) :
    Held (rowsOf i) q K V (fun _ => 2048 * k.val + 2048) (arg14.view.read (Elt Ideal) (arg14.view.writes (Elt Ideal) f
      (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 k f))) := by
  have hn : 2048 * k.val + 2048 ≤ 1024 * rowsOf i := by
    have := lt_of_lt_of_eq k.isLt (trips1 i); omega
  have hr := held_start (2048 * k.val + 2048) h
  have h0 : Held (rowsOf i) q K V (upto 0 (2048 * k.val + 2048) (2048 * k.val))
      (arg14.view.read (Elt Ideal) (arg14.view.writes (Elt Ideal) f [])) := hr
  unfold tripL_k0_t1 trip_k0_t1
  dsimp only
  exact held_done (full_tile 7 H hn (off1 i k) (off2 i k) hr (Nat.zero_le _)
    (full_tile 6 H hn (off1 i k) (off2 i k) hr (Nat.zero_le _)
    (full_tile 5 H hn (off1 i k) (off2 i k) hr (Nat.zero_le _)
    (full_tile 4 H hn (off1 i k) (off2 i k) hr (Nat.zero_le _)
    (full_tile 3 H hn (off1 i k) (off2 i k) hr (Nat.zero_le _)
    (full_tile 2 H hn (off1 i k) (off2 i k) hr (Nat.zero_le _)
    (full_tile 1 H hn (off1 i k) (off2 i k) hr (Nat.zero_le _)
    (full_tile 0 H hn (off1 i k) (off2 i k) hr (Nat.zero_le _)
    h0 rfl rfl) rfl rfl) rfl rfl) rfl rfl) rfl rfl) rfl rfl) rfl rfl) rfl rfl)

/-- One trip of the shifted loop: one more block of 2048 keys at every row. -/
theorem trip_online (H : Inputs q K V arg12.view arg9.view arg10.view X12 X9 X10) (k : Fin (k0_t3_loop i).trips)
    (fm : BufTy.Contents (Elt Ideal) arg13.view.ty) (f : BufTy.Contents (Elt Ideal) arg14.view.ty)
    (h : HeldO (rowsOf i) q K V (fun _ => 2048 * k.val) (arg13.view.read (Elt Ideal) fm) (arg14.view.read (Elt Ideal) f)) :
    HeldO (rowsOf i) q K V (fun _ => 2048 * k.val + 2048)
      (arg13.view.read (Elt Ideal) (arg13.view.writes (Elt Ideal) fm (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 k fm f).1))
      (arg14.view.read (Elt Ideal) (arg14.view.writes (Elt Ideal) f (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 k fm f).2)) := by
  have hn : 2048 * k.val + 2048 ≤ 1024 * rowsOf i := by
    have := lt_of_lt_of_eq k.isLt (trips3 i); omega
  have hr := heldO_start (2048 * k.val + 2048) h
  have h0 : HeldO (rowsOf i) q K V (upto 0 (2048 * k.val + 2048) (2048 * k.val))
      (arg13.view.read (Elt Ideal) (arg13.view.writes (Elt Ideal) fm []))
      (arg14.view.read (Elt Ideal) (arg14.view.writes (Elt Ideal) f [])) := hr
  unfold tripL_k0_t3 trip_k0_t3
  dsimp only
  exact heldO_done (full_tileO 7 H hn (off9 i k) (off10 i k) hr (Nat.zero_le _)
    (full_tileO 6 H hn (off9 i k) (off10 i k) hr (Nat.zero_le _)
    (full_tileO 5 H hn (off9 i k) (off10 i k) hr (Nat.zero_le _)
    (full_tileO 4 H hn (off9 i k) (off10 i k) hr (Nat.zero_le _)
    (full_tileO 3 H hn (off9 i k) (off10 i k) hr (Nat.zero_le _)
    (full_tileO 2 H hn (off9 i k) (off10 i k) hr (Nat.zero_le _)
    (full_tileO 1 H hn (off9 i k) (off10 i k) hr (Nat.zero_le _)
    (full_tileO 0 H hn (off9 i k) (off10 i k) hr (Nat.zero_le _)
    h0 rfl rfl rfl) rfl rfl rfl) rfl rfl rfl) rfl rfl rfl) rfl rfl rfl) rfl rfl rfl) rfl rfl rfl) rfl rfl rfl)

/-- The plain loop, trip by trip. -/
theorem loop_plain (H : Inputs q K V arg12.view arg9.view arg10.view X12 X9 X10) (G : BufTy.Contents (Elt Ideal) arg14.view.ty)
    (h : Held (rowsOf i) q K V (fun _ => 0) (arg14.view.read (Elt Ideal) G)) (k : ℕ) (hk : k ≤ (k0_t1_loop i).trips) :
    Held (rowsOf i) q K V (fun _ => 2048 * k) (arg14.view.read (Elt Ideal) (arg14.view.writes (Elt Ideal) G
      (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 G k))) := by
  induction k with
  | zero => exact h
  | succ k ih =>
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 G ⟨k, hk⟩
    rw [e, View.writes_append]
    exact trip_plain c i arg2 harg2 arg3 harg3 arg4 harg4 arg5 harg5 arg6 harg6 arg7 harg7 arg8 harg8 arg9 harg9 arg10 harg10 arg11 harg11 arg12 harg12 arg13 harg13 arg14 harg14 arg1 v38 X9 X10 X12 H ⟨k, hk⟩ _ (ih (by omega))

/-- The shifted loop, trip by trip. -/
theorem loop_online (H : Inputs q K V arg12.view arg9.view arg10.view X12 X9 X10) (Gm : BufTy.Contents (Elt Ideal) arg13.view.ty)
    (G : BufTy.Contents (Elt Ideal) arg14.view.ty)
    (h : HeldO (rowsOf i) q K V (fun _ => 0) (arg13.view.read (Elt Ideal) Gm) (arg14.view.read (Elt Ideal) G))
    (k : ℕ) (hk : k ≤ (k0_t3_loop i).trips) :
    HeldO (rowsOf i) q K V (fun _ => 2048 * k)
      (arg13.view.read (Elt Ideal) (arg13.view.writes (Elt Ideal) Gm (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 Gm G k).1))
      (arg14.view.read (Elt Ideal) (arg14.view.writes (Elt Ideal) G (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 Gm G k).2)) := by
  induction k with
  | zero => exact h
  | succ k ih =>
    have e := pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v38 X9 X10 X12 Gm G ⟨k, hk⟩
    rw [e]
    dsimp only
    rw [View.writes_append, View.writes_append]
    exact trip_online c i arg2 harg2 arg3 harg3 arg4 harg4 arg5 harg5 arg6 harg6 arg7 harg7 arg8 harg8 arg9 harg9 arg10 harg10 arg11 harg11 arg12 harg12 arg13 harg13 arg14 harg14 arg1 v38 X9 X10 X12 H ⟨k, hk⟩ _ _ (ih (by omega))

end Cert.KernelIdeal.Steps

end

end
-- ==== Proof.Spec.lean ====
module

public import proofs.«01_k».proof.Proof.Algebra

/-!
# What a row of the attention is

A row of the result from real queries, keys and values: two quotients of weighted sums, the second one's share taken away,
then the norm over the head's columns. Both programs are shown to compute this.
-/

@[expose] public section

noncomputable section

namespace Cert.Attn

open Idealize.ShloMosaic
open scoped BigOperators

/-- The factor of the scores in base two. -/
def scale : ℝ := 8⁻¹ * (Real.log 2)⁻¹

/-- A base-two score is the natural one. -/
theorem two_pow_scale (x : ℝ) : (2 : ℝ) ^ (x * scale) = Real.exp (x * (1 / 8)) := by
  have hl : Real.log 2 ≠ 0 := (Real.log_pos (by norm_num)).ne'
  rw [Real.rpow_def_of_pos (by norm_num)]
  congr 1
  unfold scale
  field_simp

/-- The score of query `r` against key `j`, in base two. -/
def sigma (q k : ℕ → Fin 64 → ℝ) (r j : ℕ) : ℝ := (∑ d, q r d * k j d) * scale

/-- The weighted mean of a column over the keys that query `r` sees. -/
def mean (q k : ℕ → Fin 64 → ℝ) (v : ℕ → ℝ) (r : ℕ) : ℝ :=
  WSum (fun j => j / 64 ≤ r / 64) (sigma q k r) v 16384 / WSum (fun j => j / 64 ≤ r / 64) (sigma q k r) (fun _ => 1) 16384

/-- The two maps' means, the second one's share `l` taken away. -/
def blend (q0 k0 q1 k1 : ℕ → Fin 64 → ℝ) (l : ℝ) (v : ℕ → ℝ) (r : ℕ) : ℝ := mean q0 k0 v r - l * mean q1 k1 v r

/-- The norm of a head's row `o`, at column `e` with the column's gain `g`. -/
def norm (o : Fin 128 → EReal) (g : EReal) (e : Fin 128) : EReal :=
  o e * Ideal.rsqrt (Ideal.div (∑ x, o x * o x) (Ideal.ofBits .f32 0x43000000#32) + Ideal.ofBits .f32 0x358637BD#32) * g
    * Ideal.ofBits .f32 0x3F4CCCCD#32

/-- The share of the second map. -/
def share (a1 a2 a3 a4 : Fin 64 → EReal) : EReal :=
  Ideal.exp (∑ x, a1 x * a2 x) - Ideal.exp (∑ x, a3 x * a4 x) + Ideal.ofBits .f32 0x3E4CCCCD#32

theorem ofBits_eighth : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_fifth : ∃ x : ℝ, Ideal.ofBits .f32 0x3E4CCCCD#32 = (x : EReal) := by
  simp only [Ideal.ofBits, Ideal.ieee]
  simp [-EReal.coe_mul]

/-- A sum of products of real numbers. -/
theorem sum_mul_real {ι : Type} [Fintype ι] (a b : ι → EReal) (f g : ι → ℝ) (ha : ∀ d, a d = (f d : EReal)) (hb : ∀ d, b d = (g d : EReal)) :
    ∑ d, a d * b d = ((∑ d, f d * g d : ℝ) : EReal) := by
  rw [← coe_sum]
  exact Finset.sum_congr rfl fun d _ => by rw [ha, hb, EReal.coe_mul]

/-- The share is a real number where its inputs are. -/
theorem share_real (a1 a2 a3 a4 : Fin 64 → EReal) (f1 f2 f3 f4 : Fin 64 → ℝ) (h1 : ∀ x, a1 x = (f1 x : EReal))
    (h2 : ∀ x, a2 x = (f2 x : EReal)) (h3 : ∀ x, a3 x = (f3 x : EReal)) (h4 : ∀ x, a4 x = (f4 x : EReal)) :
    ∃ l : ℝ, share a1 a2 a3 a4 = (l : EReal) := by
  obtain ⟨x, hx⟩ := ofBits_fifth
  unfold share
  rw [sum_mul_real _ _ _ _ h1 h2, sum_mul_real _ _ _ _ h3 h4, hx, Ideal.exp_coe, Ideal.exp_coe, ← EReal.coe_sub, ← EReal.coe_add]
  exact ⟨_, rfl⟩

/-- The sum of weights over the keys `Fin N`. -/
theorem sum_fin (b : ℕ → Prop) [∀ j, Decidable (b j)] (s : ℕ → ℝ) (V : ℕ → ℝ) (N : ℕ) :
    ∑ j : Fin N, wt (b j) (s j) * V j = WSum b s V N := by
  unfold WSum
  exact Fin.sum_univ_eq_sum_range (fun j => wt (b j) (s j) * V j) N

/-- A weight of a softmax over masked scores. -/
theorem softmax_weight {N : ℕ} (b : ℕ → Prop) [∀ j, Decidable (b j)] (s s' : ℕ → ℝ) (hs : ∀ j, (2 : ℝ) ^ s j = Real.exp (s' j))
    (ν : ℝ) (hb : ∃ j, j < N ∧ b j) (x : Fin N → EReal) (hx : ∀ j, x j = Ideal.exp (masked (b j) (s' j) - (ν : EReal))) (j : Fin N) :
    Ideal.div (x j) (∑ i, x i) = ((wt (b j) (s j) / WSum b s (fun _ => 1) N : ℝ) : EReal) := by
  have hx' : ∀ j : Fin N, x j = ((wt (b j) (s j) * Real.exp (-ν) : ℝ) : EReal) := fun j => by
    rw [hx, exp_masked_sub (b j) (s j) (s' j) ν (hs j)]
  have hsum : ∑ i, x i = ((WSum b s (fun _ => 1) N * Real.exp (-ν) : ℝ) : EReal) := by
    rw [Finset.sum_congr rfl fun i _ => hx' i, coe_sum, ← Finset.sum_mul, ← sum_fin]
    simp only [mul_one]
  rw [hsum, hx', div_scaled (wsum_pos b s (fun _ => rfl) hb) (Real.exp_pos _)]

/-- The values weighed by two softmaxes, the second one's share taken away before the sum. -/
theorem weighed {N : ℕ} (b : ℕ → Prop) [∀ j, Decidable (b j)] (s0 s1 : ℕ → ℝ) (l : ℝ) (V : ℕ → ℝ) (v w : Fin N → EReal) (W0 W1 : ℝ)
    (hv : ∀ j, v j = ((V j : ℝ) : EReal))
    (hw : ∀ j : Fin N, w j = ((wt (b j) (s0 j) / W0 : ℝ) : EReal) - (l : EReal) * ((wt (b j) (s1 j) / W1 : ℝ) : EReal)) :
    ∑ j, v j * w j = ((WSum b s0 V N / W0 - l * (WSum b s1 V N / W1) : ℝ) : EReal) := by
  have h : ∀ j : Fin N, v j * w j = ((wt (b j) (s0 j) * V j / W0 - l * (wt (b j) (s1 j) * V j / W1) : ℝ) : EReal) := fun j => by
    rw [hv, hw, ← EReal.coe_mul, ← EReal.coe_sub, ← EReal.coe_mul]; congr 1; ring
  rw [Finset.sum_congr rfl fun j _ => h j, coe_sum, Finset.sum_sub_distrib, ← Finset.sum_div, ← Finset.mul_sum, ← Finset.sum_div,
    sum_fin, sum_fin]

end Cert.Attn
-- ==== Proof.Blocks.lean ====
module

public import proofs.«01_k».proof.Proof.Ideal.Frame
public import proofs.«01_k».proof.Proof.Trips
public import proofs.«01_k».proof.Proof.Spec
public import Idealize.ShloMosaic.Lib.Pointwise
public import Idealize.ShloMosaic.Lib.Pipeline.ValueKit
public import Idealize.ShloMosaic.Lib.WordCmp

/-!
# The kernel's inputs and its epilogue

The blocks a grid point is given, in terms of the arguments; what the accumulators hold in terms of the attention; and what the
epilogue makes of them.
-/

@[expose] public section

set_option maxRecDepth 16384

noncomputable section

namespace Cert.KernelIdeal.Steps

open Cert.KernelIdeal.Gen Cert.KernelIdeal.Tile Cert.Attn
open Idealize.ShloMosaic Idealize.ShloMosaic.TcCoe Idealize.ShloMosaic.WordCmp
open scoped BigOperators

/-! ## The payloads around the loops -/

/-- The stacked queries: the first map's lanes in the first half of the rows, the second map's in the second, scaled. -/
theorem pay273_apply (q : Vec Ideal S1024x128 .f32) (R : Fin 2048) (d : Fin 128) :
    k0_pay273 q (ix2 R d) = if R.val / 1024 = d.val / 64 then q (ix2 ⟨R.val % 1024, by omega⟩ d) * ((scale : ℝ) : EReal) else 0 := by
  have hn : (Named.named κ "qk_scale" 0x3E38AA3B#32 : Ideal .f32) = ((scale : ℝ) : EReal) := rfl
  have hR := R.isLt
  have hd := d.isLt
  pointwise [k0_pay273]
  rw [hn, show (64#32 : BitVec 32) = BitVec.ofNat 32 64 from rfl, cmpi_slt_ofNat (by omega) (by omega),
    cmpi_sge_ofNat (by omega) (by omega)]
  split
  · rename_i h
    have h : R.val < 1024 := h
    have e : (⟨R.val, h⟩ : Fin 1024) = ⟨R.val % 1024, by omega⟩ := Fin.ext (by show R.val = R.val % 1024; omega)
    rw [select_ofBool, e]
    by_cases hd' : d.val < 64
    · rw [if_pos (by simpa using hd'), if_pos (by omega)]
    · rw [if_neg (by simpa using hd'), if_neg (by omega)]
  · rename_i h
    have h : ¬R.val < 1024 := h
    have e : (⟨R.val - 1024, by omega⟩ : Fin 1024) = ⟨R.val % 1024, by omega⟩ := Fin.ext (by show R.val - 1024 = R.val % 1024; omega)
    rw [select_ofBool, e]
    by_cases hd' : 64 ≤ d.val
    · rw [if_pos (by simpa using hd'), if_pos (by omega)]
    · rw [if_neg (by simpa using hd'), if_neg (by omega)]

theorem pay278_apply (a b a' b' : Vec Ideal S1x64 .f32) (z : Vec Ideal S2048x256 .f32) (r : Fin 1024) (e : Fin 128) :
    k0_pay278 a b a' b' z (ix2 r e) = Ideal.div (z (ix2 ⟨r.val, by omega⟩ ⟨e.val, by omega⟩)) (z (ix2 ⟨r.val, by omega⟩ 128))
      - share (fun x => a (ix2 (0 : Fin 1) x)) (fun x => b (ix2 (0 : Fin 1) x)) (fun x => a' (ix2 (0 : Fin 1) x))
          (fun x => b' (ix2 (0 : Fin 1) x))
        * Ideal.div (z (ix2 ⟨1024 + r.val, by omega⟩ ⟨e.val, by omega⟩)) (z (ix2 ⟨1024 + r.val, by omega⟩ 128)) := by
  pointwise [k0_pay278]
  rfl

theorem pay1_apply (g : Vec Ideal S1x128 .f32) (o s : FVec Ideal S1024x128 .f32) (r : Fin 1024) (e : Fin 128)
    (h : ∀ i, s i = o i * o i) : k0_pay1 g o s (ix2 r e) = norm (fun x => o (ix2 r x)) (g (ix2 (0 : Fin 1) e)) e := by
  pointwise [k0_pay1]
  simp only [h]
  rfl

/-! ## The accumulators' quotients -/

variable {i : ℕ} {q k : Fin 2 → ℕ → Fin 64 → ℝ} {v : Fin 128 → ℕ → ℝ}

/-- The stacked queries as real numbers. -/
def stacked (q : Fin 2 → ℕ → Fin 64 → ℝ) (i : ℕ) (R : ℕ) (d : Fin 128) : ℝ :=
  if R / 1024 = d.val / 64 then q ⟨d.val / 64, by omega⟩ (row i R) ⟨d.val % 64, by omega⟩ * scale else 0

/-- The keys of the two maps side by side. -/
def sided (k : Fin 2 → ℕ → Fin 64 → ℝ) (j : ℕ) (d : Fin 128) : ℝ := k ⟨d.val / 64, by omega⟩ j ⟨d.val % 64, by omega⟩

/-- The values beside a block of ones. -/
def withOnes (v : Fin 128 → ℕ → ℝ) (j : ℕ) (c : Fin 256) : ℝ := if h : c.val < 128 then v ⟨c.val, h⟩ j else 1

theorem sum_halves (f : Fin 128 → ℝ) : ∑ d, f d = ∑ d : Fin 64, f ⟨d.val, by omega⟩ + ∑ d : Fin 64, f ⟨64 + d.val, by omega⟩ :=
  Fin.sum_univ_add (a := 64) (b := 64) f

/-- A stacked row's score is its map's. -/
theorem score_stacked (p : Fin 2) (r j : ℕ) (hr : r < 1024) :
    score (stacked q i) (sided k) (1024 * p.val + r) j = sigma (q p) (k p) (1024 * i + r) j := by
  have h0 : ∀ d : Fin 64, (64 + d.val) % 64 = d.val := fun d => by omega
  have h1 : ∀ d : Fin 64, d.val % 64 = d.val := fun d => by omega
  have h2 : ∀ d : Fin 64, d.val / 64 = 0 := fun d => by omega
  have h3 : ∀ d : Fin 64, (64 + d.val) / 64 = 1 := fun d => by omega
  have h4 : (1024 * p.val + r) / 1024 = p.val := by omega
  have h5 : (1024 * p.val + r) % 1024 = r := by omega
  unfold score sigma stacked sided row
  rw [sum_halves, Finset.sum_mul]
  simp only [h0, h1, h2, h3, h4, h5, Fin.eta]
  match p with
  | ⟨0, _⟩ =>
    rw [Finset.sum_eq_zero (f := fun d : Fin 64 => (if 0 = 1 then _ else 0) * _) (fun d _ => by rw [if_neg (by decide), zero_mul]), add_zero]
    exact Finset.sum_congr rfl fun d _ => by rw [if_pos rfl]; ring
  | ⟨1, _⟩ =>
    rw [Finset.sum_eq_zero (f := fun d : Fin 64 => (if 1 = 0 then _ else 0) * _) (fun d _ => by rw [if_neg (by decide), zero_mul]), zero_add]
    exact Finset.sum_congr rfl fun d _ => by rw [if_pos rfl]; ring

/-- The accumulator's columns over its column of weights are the sums over the point's keys. -/
def Quotients (i : ℕ) (q k : Fin 2 → ℕ → Fin 64 → ℝ) (v : Fin 128 → ℕ → ℝ) (z : S2048x256.Idx → EReal) : Prop :=
  ∀ (R : Fin 2048) (c : Fin 256), Ideal.div (z (ix2 R c)) (z (ix2 R 128))
    = ((WSum (sees i R) (score (stacked q i) (sided k) R) (fun j => withOnes v j c) (1024 * i + 1024)
        / WSum (sees i R) (score (stacked q i) (sided k) R) (fun _ => 1) (1024 * i + 1024) : ℝ) : EReal)

theorem sees_self (i R : ℕ) : ∃ j, j < 1024 * i + 1024 ∧ sees i R j := ⟨row i R, by unfold row; omega, le_rfl⟩

theorem ones_last (j : ℕ) : withOnes v j 128 = 1 := by unfold withOnes; rw [dif_neg (by decide)]

theorem quotients_plain {z : S2048x256.Idx → EReal} (h : Held i (stacked q i) (sided k) (withOnes v) (fun _ => 1024 * i + 1024) z) :
    Quotients i q k v z := fun R c => plain_quotient _ _ (h R c) (h R 128) (sees_self i R) ones_last

theorem quotients_online {z : S2048x256.Idx → EReal} {M : S2048x1.Idx → EReal}
    (h : HeldO i (stacked q i) (sided k) (withOnes v) (fun _ => 1024 * i + 1024) M z) :
    Quotients i q k v z := fun R c => online_quotient _ _ (h R) (sees_self i R) c 128 ones_last

/-- A quotient is a mean. -/
theorem quotient_mean (hi : i < 16) {z : S2048x256.Idx → EReal} (h : Quotients i q k v z) (p : Fin 2) (r : Fin 1024) (e : Fin 128) (R : Fin 2048)
    (hR : R.val = 1024 * p.val + r.val) (e' : Fin 256) (he : e'.val = e.val) :
    Ideal.div (z (ix2 R e')) (z (ix2 R 128)) = ((mean (q p) (k p) (v e) (1024 * i + r.val) : ℝ) : EReal) := by
  have hr := r.isLt
  have hs : score (stacked q i) (sided k) R = sigma (q p) (k p) (1024 * i + r.val) := funext fun j => by
    rw [hR, score_stacked p r.val j hr]
  have hb : sees i R = fun j => j / 64 ≤ (1024 * i + r.val) / 64 := funext fun j => by
    unfold sees row; rw [hR, show (1024 * p.val + r.val) % 1024 = r.val by omega]
  have hv : (fun j => withOnes v j e') = v e := funext fun j => by
    unfold withOnes; rw [dif_pos (by have := e.isLt; omega)]; congr 1; exact Fin.ext he
  have hm : ∀ j, 1024 * i + 1024 ≤ j → ¬ j / 64 ≤ (1024 * i + r.val) / 64 := fun j hj => by omega
  rw [h R e', hs, hv]
  unfold mean
  rw [wsum_mono _ _ (V := v e) (by omega : 1024 * i + 1024 ≤ 16384) hm, wsum_mono _ _ (V := fun _ => 1) (by omega : 1024 * i + 1024 ≤ 16384) hm]
  simp only [hb]

/-- The epilogue: from the accumulator's quotients to a row of the result. -/
theorem epilogue (hi : i < 16) {z : Vec Ideal S2048x256 .f32} (h : Quotients i q k v z) (a b a' b' : Vec Ideal S1x64 .f32) (g : Vec Ideal S1x128 .f32)
    (l : ℝ) (hl : share (fun x => a (ix2 (0 : Fin 1) x)) (fun x => b (ix2 (0 : Fin 1) x)) (fun x => a' (ix2 (0 : Fin 1) x))
      (fun x => b' (ix2 (0 : Fin 1) x)) = (l : EReal)) (r : Fin 1024) (e : Fin 128) :
    k0_pay1 g (k0_pay278 a b a' b' z) (k0_pay279 a b a' b' z) (ix2 r e)
      = norm (fun x => ((blend (q 0) (k 0) (q 1) (k 1) l (v x) (1024 * i + r.val) : ℝ) : EReal)) (g (ix2 (0 : Fin 1) e)) e := by
  rw [pay1_apply g (k0_pay278 a b a' b' z) (k0_pay279 a b a' b' z) r e fun _ => rfl]
  congr 1
  funext x
  rw [pay278_apply, hl, quotient_mean hi h 0 r x _ (by show r.val = 1024 * 0 + r.val; omega) _ rfl,
    quotient_mean hi h 1 r x _ (by show 1024 + r.val = 1024 * 1 + r.val; omega) _ rfl, ← EReal.coe_mul, ← EReal.coe_sub]
  rfl

/-! ## The blocks as real numbers -/

/-- The blocks of queries, keys and values hold the real numbers `q`, `k` and `v`. -/
structure Data (i : ℕ) (q k : Fin 2 → ℕ → Fin 64 → ℝ) (v : Fin 128 → ℕ → ℝ) (x6 : Vec Ideal S1024x128 .f32)
    (x7 : Vec Ideal S16384x128 .bf16) (x8 : Vec Ideal S16384x256 .bf16) : Prop where
  query : ∀ (r : Fin 1024) (d : Fin 128),
    x6 (ix2 r d) = ((q ⟨d.val / 64, by omega⟩ (1024 * i + r.val) ⟨d.val % 64, by omega⟩ : ℝ) : EReal)
  key : ∀ (j : Fin 16384) (d : Fin 128), x7 (ix2 j d) = ((sided k j d : ℝ) : EReal)
  value : ∀ (j : Fin 16384) (c : Fin 256), x8 (ix2 j c) = ((withOnes v j c : ℝ) : EReal)

/-- A load of a whole buffer that holds `x`. -/
theorem load_unread {sg : RefSig} {κ : Kind} {sp : Space} {N C : ℕ} {e : EltTy} {a : Memref sg κ sp ⟨2, ![N, C]⟩ e} (ha : a.IsWhole)
    (x : (⟨2, ![N, C]⟩ : Shape).Idx → Elt Ideal e) (inb) :
    a.view.readAt (Elt Ideal) (Rect.unit (s := ⟨2, ![N, C]⟩) ![0, 0] ![N, C] inb).toLoadRect (ha.unread x) = x := by
  funext y
  obtain ⟨R, d, rfl⟩ : ∃ (R : Fin N) (d : Fin C), y = ix2 R d := ⟨y 0, y 1, eq_ix2 y⟩
  exact (load_whole a.view _ inb R d).trans (congrFun (ha.read_unread x) _)

theorem inputs_of {x6 : Vec Ideal S1024x128 .f32} {x7 : Vec Ideal S16384x128 .bf16} {x8 : Vec Ideal S16384x256 .bf16}
    (D : Data i q k v x6 x7 x8) {arg8 : Memref sig .tc .vmem S1024x128 .f32} (harg8 : arg8.IsWhole)
    {arg9 : Memref sig .tc .vmem S16384x128 .bf16} (harg9 : arg9.IsWhole) {arg10 : Memref sig .tc .vmem S16384x256 .bf16}
    (harg10 : arg10.IsWhole) (arg12 : Memref sig .tc .vmem S2048x128 .bf16) (f : arg12.view.ty.Contents (Elt Ideal)) (inb inb') :
    Inputs (stacked q i) (sided k) (withOnes v) arg12.view arg9.view arg10.view
      (arg12.view.writes (Elt Ideal) f [⟨Rect.unit (s := S2048x128) ![0, 0] S2048x128.size inb,
        k0_pay273 (arg8.view.readAt (Elt Ideal) (Rect.unit (s := S1024x128) ![0, 0] S1024x128.size inb').toLoadRect (harg8.unread x6))⟩])
      (harg9.unread x7) (harg10.unread x8) where
  query R d := by
    refine (read_whole arg12.view f inb _ R d).trans ?_
    rw [load_unread harg8 x6 inb', pay273_apply]
    unfold stacked row
    by_cases h : R.val / 1024 = d.val / 64
    · rw [if_pos h, if_pos h, D.query, EReal.coe_mul]
    · rw [if_neg h, if_neg h, EReal.coe_zero]
  key j d := by rw [harg9.read_unread]; exact D.key j d
  value j c := by rw [harg10.read_unread]; exact D.value j c

end Cert.KernelIdeal.Steps
-- ==== Proof.Entry.lean ====
module

public import proofs.«01_k».proof.Proof.Blocks

/-!
# The blocks of the arguments

What the windows of a grid point show of the arguments.
-/

@[expose] public section

set_option maxRecDepth 16384

noncomputable section

namespace Cert.KernelIdeal.Steps

open Cert.KernelIdeal.Gen Cert.Attn
open Idealize.ShloMosaic Idealize.ShloMosaic.TcCoe Idealize.ShloMosaic.WordCmp
open scoped BigOperators

/-- Which block each window shows at a point. -/
theorem idx : ∀ t : Fin cfg0.N, win0_1.index t = ![0, 0] ∧ win0_2.index t = ![0, 0] ∧ win0_3.index t = ![0, 0]
    ∧ win0_4.index t = ![0, 0] ∧ win0_5.index t = ![0, 0] ∧ win0_6.index t = ![(grid0.coords t 1).val, (grid0.coords t 0).val]
    ∧ win0_7.index t = ![0, (grid0.coords t 0).val] ∧ win0_8.index t = ![0, (grid0.coords t 0).val]
    ∧ win0_9.index t = ![(grid0.coords t 1).val, (grid0.coords t 0).val] :=
  (by decide +kernel : ∀ t : Fin grid0.N, _)

variable (m : (ℓ : Loc nD τ sig) → Buf (Elt Ideal) ℓ) (c : Dev nD) (t : Fin cfg0.N)

/-- The arguments of queries, keys and values. -/
abbrev argQ : Vec Ideal S1x16384x8x2x64 .f32 := m ((c.tc : Thread nD τ).loc main_arg6)
abbrev argK : Vec Ideal S1x16384x8x2x64 .f32 := m ((c.tc : Thread nD τ).loc main_arg7)
abbrev argV : Vec Ideal S1x16384x8x128 .f32 := m ((c.tc : Thread nD τ).loc main_arg8)

/-- A grid point's head. -/
def headOf (i : grid0.Coords) : Fin 8 := ⟨(i 0).val, (i 0).isLt⟩

theorem block1 (d : Fin 64) : iblk m c 1 t (ix2 (0 : Fin 1) d) = m ((c.tc : Thread nD τ).loc main_arg1) (ix2 (0 : Fin 1) d) := by
  blk_ext [iblk, V, idx t]

theorem block2 (d : Fin 64) : iblk m c 2 t (ix2 (0 : Fin 1) d) = m ((c.tc : Thread nD τ).loc main_arg2) (ix2 (0 : Fin 1) d) := by
  blk_ext [iblk, V, idx t]

theorem block3 (d : Fin 64) : iblk m c 3 t (ix2 (0 : Fin 1) d) = m ((c.tc : Thread nD τ).loc main_arg3) (ix2 (0 : Fin 1) d) := by
  blk_ext [iblk, V, idx t]

theorem block4 (d : Fin 64) : iblk m c 4 t (ix2 (0 : Fin 1) d) = m ((c.tc : Thread nD τ).loc main_arg4) (ix2 (0 : Fin 1) d) := by
  blk_ext [iblk, V, idx t]

theorem block5 (d : Fin 128) : iblk m c 5 t (ix2 (0 : Fin 1) d) = m ((c.tc : Thread nD τ).loc main_arg5) (ix2 (0 : Fin 1) d) := by
  blk_ext [iblk, V, idx t]

/-! ## What the region is entered with -/

theorem entry_query (r : Fin 16384) (h : Fin 8) (d : Fin 128) :
    (V m c main_v0 : Vec Ideal S16384x1024 .f32) (ix2 r ⟨128 * h.val + d.val, by omega⟩)
      = argQ m c
        (ix5 (0 : Fin 1) r h ⟨d.val / 64, by omega⟩ ⟨d.val % 64, by omega⟩) := by
  entry_read
  pointwise
  blk_ext []

theorem entry_key (r : Fin 16384) (h : Fin 8) (d : Fin 128) :
    (V m c main_v2 : Vec Ideal S16384x1024 .bf16) (ix2 r ⟨128 * h.val + d.val, by omega⟩)
      = argK m c
        (ix5 (0 : Fin 1) r h ⟨d.val / 64, by omega⟩ ⟨d.val % 64, by omega⟩) := by
  entry_read
  pointwise
  blk_ext []

theorem entry_value (r : Fin 16384) (h : Fin 8) (d : Fin 256) :
    (V m c main_v7 : Vec Ideal S16384x2048 .bf16) (ix2 r ⟨256 * h.val + d.val, by omega⟩)
      = (if hd : d.val < 128 then argV m c (ix4 (0 : Fin 1) r h ⟨d.val, hd⟩)
        else (1 : EReal) : EReal) := by
  entry_read
  pointwise

/-! ## The windows of queries, keys and values -/

theorem block6 (r : Fin 1024) (d : Fin 128) : iblk m c 6 t (ix2 r d) = argQ m c
    (ix5 (0 : Fin 1) ⟨1024 * rowsOf (grid0.coords t) + r.val, by have := rowsOf_lt (grid0.coords t); omega⟩ (headOf (grid0.coords t))
      ⟨d.val / 64, by omega⟩ ⟨d.val % 64, by omega⟩) := by
  refine Eq.trans ?_ (entry_query m c _ (headOf (grid0.coords t)) d)
  show (V m c main_v0 : Vec Ideal S16384x1024 .f32) _ = (V m c main_v0 : Vec Ideal S16384x1024 .f32) _
  blk_ext [idx t, rowsOf, headOf]

theorem block7 (j : Fin 16384) (d : Fin 128) : iblk m c 7 t (ix2 j d) = argK m c
    (ix5 (0 : Fin 1) j (headOf (grid0.coords t)) ⟨d.val / 64, by omega⟩ ⟨d.val % 64, by omega⟩) := by
  refine Eq.trans ?_ (entry_key m c _ (headOf (grid0.coords t)) d)
  show (V m c main_v2 : Vec Ideal S16384x1024 .bf16) _ = (V m c main_v2 : Vec Ideal S16384x1024 .bf16) _
  blk_ext [idx t, headOf]

theorem block8 (j : Fin 16384) (d : Fin 256) : iblk m c 8 t (ix2 j d)
    = (if hd : d.val < 128 then argV m c
        (ix4 (0 : Fin 1) j (headOf (grid0.coords t)) ⟨d.val, hd⟩) else (1 : EReal) : EReal) := by
  refine Eq.trans ?_ (entry_value m c _ (headOf (grid0.coords t)) d)
  show (V m c main_v7 : Vec Ideal S16384x2048 .bf16) _ = (V m c main_v7 : Vec Ideal S16384x2048 .bf16) _
  blk_ext [idx t, headOf]

end Cert.KernelIdeal.Steps
-- ==== Proof.AccB.lean ====
module

public import proofs.«01_k».proof.Proof.Trips
public import proofs.«01_k».proof.Proof.Ideal.RunB

/-!
# The accumulators at an even point, the plain way

The accumulator that the epilogue reads holds, at every row, the sums over all the keys up to the end of the point's own rows.
-/

@[expose] public section

set_option maxRecDepth 16384

noncomputable section

namespace Cert.KernelIdeal.Steps

open Idealize.ShloMosaic Idealize.ShloMosaic.TcCoe
open Cert.KernelIdeal.Gen Cert.KernelIdeal.Tile Cert.Attn

variable {q K : ℕ → Fin 128 → ℝ} {V : ℕ → Fin 256 → ℝ}
variable (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole)
  (x6 : Vec Ideal S1024x128 .f32) (x7 : Vec Ideal S16384x128 .bf16) (x8 : Vec Ideal S16384x256 .bf16)

/-- Before the last blocks: the loop over blocks of 2048 keys is done. -/
theorem base_B (H : Inputs q K V arg12.view arg9.view arg10.view
      (arg12.view.writes (Elt Ideal) arg12.view.junk (kernelRun0_B.sl.HS0_1 (F := Ideal) c arg8 harg8 x6)) (harg9.unread x7) (harg10.unread x8)) :
    Held (rowsOf i) q K V (fun _ => 2048 * (rowsOf i / 2))
      (arg14.view.read (Elt Ideal) (arg14.view.writes (Elt Ideal) arg14.view.junk (kernelRun0_B.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x6 x7 x8).tail)) := by
  unfold kernelRun0_B.sl.HS2_1_1
  rw [List.tail_cons, show Scf.trips (k0_t2_loop i).lb (k0_t2_loop i).ub (k0_t2_loop i).st = 0 from trips2 i, pb_k0_t2.eq_1,
    List.nil_append, View.writes_append]
  have h := loop_plain c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.v38 i) _ _ _ H _ (held_zero arg14.view arg14.view.junk inb_S2048x256_S2048x256_0_0) (k0_t1_loop i).trips le_rfl
  have e : (fun _ : ℕ => 2048 * (k0_t1_loop i).trips) = fun _ => 2048 * (rowsOf i / 2) := by rw [trips1]
  rw [e] at h
  exact h

/-- The accumulator after the block on the diagonal. -/
theorem final_B (H : Inputs q K V arg12.view arg9.view arg10.view
      (arg12.view.writes (Elt Ideal) arg12.view.junk (kernelRun0_B.sl.HS0_1 (F := Ideal) c arg8 harg8 x6)) (harg9.unread x7) (harg10.unread x8)) (hev : rowsOf i % 2 = 0) :
    Held (rowsOf i) q K V (fun _ => 1024 * rowsOf i + 1024)
      (kernelRun0_B.sl.v62 (F := Ideal) c i arg2 harg2 arg3 harg3 arg4 harg4 arg5 harg5 arg6 harg6 arg7 harg7 arg8 harg8 arg9 harg9 arg10 harg10 arg11 harg11 arg12 harg12 arg13 harg13 arg14 harg14 x6 x7 x8) := by
  have hi := rowsOf_lt i
  have e0 : 2048 * (rowsOf i / 2) = 1024 * rowsOf i := by omega
  have g := base_B c i arg2 harg2 arg3 harg3 arg4 harg4 arg5 harg5 arg6 harg6 arg7 harg7 arg8 harg8 arg9 harg9 arg10 harg10 arg11 harg11 arg12 harg12 arg13 harg13 arg14 harg14 x6 x7 x8 H
  rw [e0] at g
  have g0 := held_start (1024 * rowsOf i + 1024) g
  have g1 : Held (rowsOf i) q K V (upto 1 (1024 * rowsOf i + 1024) (1024 * rowsOf i))
      (arg14.view.read (Elt Ideal) (arg14.view.writes (Elt Ideal) arg14.view.junk (kernelRun0_B.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 0 (Scalar.muli (BitVec.ofNat 32 (i 1).val) 1024#32)
      (Scalar.addi (Scalar.muli (BitVec.ofNat 32 (i 1).val) 1024#32) 0#32) H hi (diag_key i) (diag_row i 0) (off7 i) (off8 i) g0 (by omega) g0 rfl rfl
  have g2 : Held (rowsOf i) q K V (upto 2 (1024 * rowsOf i + 1024) (1024 * rowsOf i))
      (arg14.view.read (Elt Ideal) (arg14.view.writes (Elt Ideal) arg14.view.junk (kernelRun0_B.sl.HS2_2 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 1 (Scalar.muli (BitVec.ofNat 32 (i 1).val) 1024#32)
      (Scalar.addi (Scalar.muli (BitVec.ofNat 32 (i 1).val) 1024#32) 256#32) H hi (diag_key i) (diag_row i 256) (off7 i) (off8 i) g1 (by omega) g1 rfl rfl
  have g3 : Held (rowsOf i) q K V (upto 3 (1024 * rowsOf i + 1024) (1024 * rowsOf i))
      (arg14.view.read (Elt Ideal) (arg14.view.writes (Elt Ideal) arg14.view.junk (kernelRun0_B.sl.HS2_3 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 2 (Scalar.muli (BitVec.ofNat 32 (i 1).val) 1024#32)
      (Scalar.addi (Scalar.muli (BitVec.ofNat 32 (i 1).val) 1024#32) 512#32) H hi (diag_key i) (diag_row i 512) (off7 i) (off8 i) g2 (by omega) g2 rfl rfl
  have g4 : Held (rowsOf i) q K V (upto 4 (1024 * rowsOf i + 1024) (1024 * rowsOf i))
      (arg14.view.read (Elt Ideal) (arg14.view.writes (Elt Ideal) arg14.view.junk (kernelRun0_B.sl.HS2_4 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 3 (Scalar.muli (BitVec.ofNat 32 (i 1).val) 1024#32)
      (Scalar.addi (Scalar.muli (BitVec.ofNat 32 (i 1).val) 1024#32) 768#32) H hi (diag_key i) (diag_row i 768) (off7 i) (off8 i) g3 (by omega) g3 rfl rfl
  have g5 : Held (rowsOf i) q K V (upto 5 (1024 * rowsOf i + 1024) (1024 * rowsOf i))
      (arg14.view.read (Elt Ideal) (arg14.view.writes (Elt Ideal) arg14.view.junk (kernelRun0_B.sl.HS2_5 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 4 (Scalar.muli (BitVec.ofNat 32 (i 1).val) 1024#32)
      (Scalar.addi (Scalar.muli (BitVec.ofNat 32 (i 1).val) 1024#32) 0#32) H hi (diag_key i) (diag_row i 0) (off7 i) (off8 i) g4 (by omega) g4 rfl rfl
  have g6 : Held (rowsOf i) q K V (upto 6 (1024 * rowsOf i + 1024) (1024 * rowsOf i))
      (arg14.view.read (Elt Ideal) (arg14.view.writes (Elt Ideal) arg14.view.junk (kernelRun0_B.sl.HS2_6 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 5 (Scalar.muli (BitVec.ofNat 32 (i 1).val) 1024#32)
      (Scalar.addi (Scalar.muli (BitVec.ofNat 32 (i 1).val) 1024#32) 256#32) H hi (diag_key i) (diag_row i 256) (off7 i) (off8 i) g5 (by omega) g5 rfl rfl
  have g7 : Held (rowsOf i) q K V (upto 7 (1024 * rowsOf i + 1024) (1024 * rowsOf i))
      (arg14.view.read (Elt Ideal) (arg14.view.writes (Elt Ideal) arg14.view.junk (kernelRun0_B.sl.HS2_7 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 6 (Scalar.muli (BitVec.ofNat 32 (i 1).val) 1024#32)
      (Scalar.addi (Scalar.muli (BitVec.ofNat 32 (i 1).val) 1024#32) 512#32) H hi (diag_key i) (diag_row i 512) (off7 i) (off8 i) g6 (by omega) g6 rfl rfl
  have g8 : Held (rowsOf i) q K V (upto 8 (1024 * rowsOf i + 1024) (1024 * rowsOf i))
      (arg14.view.read (Elt Ideal) (arg14.view.writes (Elt Ideal) arg14.view.junk (kernelRun0_B.sl.HS2_8 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tile 7 (Scalar.muli (BitVec.ofNat 32 (i 1).val) 1024#32)
      (Scalar.addi (Scalar.muli (BitVec.ofNat 32 (i 1).val) 1024#32) 768#32) H hi (diag_key i) (diag_row i 768) (off7 i) (off8 i) g7 (by omega) g7 rfl rfl
  intro R d
  have h := held_done g8 R d
  exact (congrArg (Plain _ _ _ _) (load_whole arg14.view _ inb_S2048x256_S2048x256_0_0 R d)).mpr h

end Cert.KernelIdeal.Steps

end

end
-- ==== Proof.AccC.lean ====
module

public import proofs.«01_k».proof.Proof.Trips
public import proofs.«01_k».proof.Proof.Ideal.RunC

/-!
# The accumulators at an even point, the shifted way

The accumulator that the epilogue reads holds, at every row, the sums over all the keys up to the end of the point's own rows.
-/

@[expose] public section

set_option maxRecDepth 16384

noncomputable section

namespace Cert.KernelIdeal.Steps

open Idealize.ShloMosaic Idealize.ShloMosaic.TcCoe
open Cert.KernelIdeal.Gen Cert.KernelIdeal.Tile Cert.Attn

variable {q K : ℕ → Fin 128 → ℝ} {V : ℕ → Fin 256 → ℝ}
variable (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole)
  (x6 : Vec Ideal S1024x128 .f32) (x7 : Vec Ideal S16384x128 .bf16) (x8 : Vec Ideal S16384x256 .bf16)

/-- Before the last blocks: the loop over blocks of 2048 keys is done. -/
theorem base_C (H : Inputs q K V arg12.view arg9.view arg10.view
      (arg12.view.writes (Elt Ideal) arg12.view.junk (kernelRun0_C.sl.HS0_1 (F := Ideal) c arg8 harg8 x6)) (harg9.unread x7) (harg10.unread x8)) :
    HeldO (rowsOf i) q K V (fun _ => 2048 * (rowsOf i / 2))
      (arg13.view.read (Elt Ideal) (arg13.view.writes (Elt Ideal) arg13.view.junk (kernelRun0_C.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 x6 x7 x8).tail))
      (arg14.view.read (Elt Ideal) (arg14.view.writes (Elt Ideal) arg14.view.junk (kernelRun0_C.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x6 x7 x8).tail)) := by
  unfold kernelRun0_C.sl.HS1_1_1 kernelRun0_C.sl.HS2_1_1
  rw [List.tail_cons, List.tail_cons, show Scf.trips (k0_t4_loop i).lb (k0_t4_loop i).ub (k0_t4_loop i).st = 0 from trips4 i,
    pb_k0_t4.eq_1]
  dsimp only
  rw [List.nil_append, List.nil_append, View.writes_append, View.writes_append]
  have h := loop_online c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.v38 i) _ _ _ H _ _
    (heldO_zero arg13.view arg13.view.junk inb_S2048x1_S2048x1_0_0 arg14.view arg14.view.junk
      inb_S2048x256_S2048x256_0_0) (k0_t3_loop i).trips le_rfl
  have e : (fun _ : ℕ => 2048 * (k0_t3_loop i).trips) = fun _ => 2048 * (rowsOf i / 2) := by rw [trips3]
  rw [e] at h
  exact h

/-- The accumulator after the block on the diagonal. -/
theorem final_C (H : Inputs q K V arg12.view arg9.view arg10.view
      (arg12.view.writes (Elt Ideal) arg12.view.junk (kernelRun0_C.sl.HS0_1 (F := Ideal) c arg8 harg8 x6)) (harg9.unread x7) (harg10.unread x8)) (hev : rowsOf i % 2 = 0) :
    ∃ M, HeldO (rowsOf i) q K V (fun _ => 1024 * rowsOf i + 1024) M
      (kernelRun0_C.sl.v62 (F := Ideal) c i arg2 harg2 arg3 harg3 arg4 harg4 arg5 harg5 arg6 harg6 arg7 harg7 arg8 harg8 arg9 harg9 arg10 harg10 arg11 harg11 arg12 harg12 arg13 harg13 arg14 harg14 x6 x7 x8) := by
  have hi := rowsOf_lt i
  have e0 : 2048 * (rowsOf i / 2) = 1024 * rowsOf i := by omega
  have g := base_C c i arg2 harg2 arg3 harg3 arg4 harg4 arg5 harg5 arg6 harg6 arg7 harg7 arg8 harg8 arg9 harg9 arg10 harg10 arg11 harg11 arg12 harg12 arg13 harg13 arg14 harg14 x6 x7 x8 H
  rw [e0] at g
  have g0 := heldO_start (1024 * rowsOf i + 1024) g
  have g1 : HeldO (rowsOf i) q K V (upto 1 (1024 * rowsOf i + 1024) (1024 * rowsOf i))
      (arg13.view.read (Elt Ideal) (arg13.view.writes (Elt Ideal) arg13.view.junk (kernelRun0_C.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 x6 x7 x8)))
      (arg14.view.read (Elt Ideal) (arg14.view.writes (Elt Ideal) arg14.view.junk (kernelRun0_C.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tileO 0 (Scalar.muli (BitVec.ofNat 32 (i 1).val) 1024#32)
      (Scalar.addi (Scalar.muli (BitVec.ofNat 32 (i 1).val) 1024#32) 0#32) H hi (diag_key i) (diag_row i 0) (off15 i) (off16 i) g0 (by omega) g0 rfl rfl rfl
  have g2 : HeldO (rowsOf i) q K V (upto 2 (1024 * rowsOf i + 1024) (1024 * rowsOf i))
      (arg13.view.read (Elt Ideal) (arg13.view.writes (Elt Ideal) arg13.view.junk (kernelRun0_C.sl.HS1_2 (F := Ideal) c i arg2 harg2 arg3 harg3 arg4 harg4 arg5 harg5 arg6 harg6 arg7 harg7 arg8 harg8 arg9 harg9 arg10 harg10 arg11 harg11 arg12 harg12 arg13 harg13 arg14 harg14 x6 x7 x8)))
      (arg14.view.read (Elt Ideal) (arg14.view.writes (Elt Ideal) arg14.view.junk (kernelRun0_C.sl.HS2_2 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tileO 1 (Scalar.muli (BitVec.ofNat 32 (i 1).val) 1024#32)
      (Scalar.addi (Scalar.muli (BitVec.ofNat 32 (i 1).val) 1024#32) 256#32) H hi (diag_key i) (diag_row i 256) (off15 i) (off16 i) g1 (by omega) g1 rfl rfl rfl
  have g3 : HeldO (rowsOf i) q K V (upto 3 (1024 * rowsOf i + 1024) (1024 * rowsOf i))
      (arg13.view.read (Elt Ideal) (arg13.view.writes (Elt Ideal) arg13.view.junk (kernelRun0_C.sl.HS1_3 (F := Ideal) c i arg2 harg2 arg3 harg3 arg4 harg4 arg5 harg5 arg6 harg6 arg7 harg7 arg8 harg8 arg9 harg9 arg10 harg10 arg11 harg11 arg12 harg12 arg13 harg13 arg14 harg14 x6 x7 x8)))
      (arg14.view.read (Elt Ideal) (arg14.view.writes (Elt Ideal) arg14.view.junk (kernelRun0_C.sl.HS2_3 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tileO 2 (Scalar.muli (BitVec.ofNat 32 (i 1).val) 1024#32)
      (Scalar.addi (Scalar.muli (BitVec.ofNat 32 (i 1).val) 1024#32) 512#32) H hi (diag_key i) (diag_row i 512) (off15 i) (off16 i) g2 (by omega) g2 rfl rfl rfl
  have g4 : HeldO (rowsOf i) q K V (upto 4 (1024 * rowsOf i + 1024) (1024 * rowsOf i))
      (arg13.view.read (Elt Ideal) (arg13.view.writes (Elt Ideal) arg13.view.junk (kernelRun0_C.sl.HS1_4 (F := Ideal) c i arg2 harg2 arg3 harg3 arg4 harg4 arg5 harg5 arg6 harg6 arg7 harg7 arg8 harg8 arg9 harg9 arg10 harg10 arg11 harg11 arg12 harg12 arg13 harg13 arg14 harg14 x6 x7 x8)))
      (arg14.view.read (Elt Ideal) (arg14.view.writes (Elt Ideal) arg14.view.junk (kernelRun0_C.sl.HS2_4 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tileO 3 (Scalar.muli (BitVec.ofNat 32 (i 1).val) 1024#32)
      (Scalar.addi (Scalar.muli (BitVec.ofNat 32 (i 1).val) 1024#32) 768#32) H hi (diag_key i) (diag_row i 768) (off15 i) (off16 i) g3 (by omega) g3 rfl rfl rfl
  have g5 : HeldO (rowsOf i) q K V (upto 5 (1024 * rowsOf i + 1024) (1024 * rowsOf i))
      (arg13.view.read (Elt Ideal) (arg13.view.writes (Elt Ideal) arg13.view.junk (kernelRun0_C.sl.HS1_5 (F := Ideal) c i arg2 harg2 arg3 harg3 arg4 harg4 arg5 harg5 arg6 harg6 arg7 harg7 arg8 harg8 arg9 harg9 arg10 harg10 arg11 harg11 arg12 harg12 arg13 harg13 arg14 harg14 x6 x7 x8)))
      (arg14.view.read (Elt Ideal) (arg14.view.writes (Elt Ideal) arg14.view.junk (kernelRun0_C.sl.HS2_5 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tileO 4 (Scalar.muli (BitVec.ofNat 32 (i 1).val) 1024#32)
      (Scalar.addi (Scalar.muli (BitVec.ofNat 32 (i 1).val) 1024#32) 0#32) H hi (diag_key i) (diag_row i 0) (off15 i) (off16 i) g4 (by omega) g4 rfl rfl rfl
  have g6 : HeldO (rowsOf i) q K V (upto 6 (1024 * rowsOf i + 1024) (1024 * rowsOf i))
      (arg13.view.read (Elt Ideal) (arg13.view.writes (Elt Ideal) arg13.view.junk (kernelRun0_C.sl.HS1_6 (F := Ideal) c i arg2 harg2 arg3 harg3 arg4 harg4 arg5 harg5 arg6 harg6 arg7 harg7 arg8 harg8 arg9 harg9 arg10 harg10 arg11 harg11 arg12 harg12 arg13 harg13 arg14 harg14 x6 x7 x8)))
      (arg14.view.read (Elt Ideal) (arg14.view.writes (Elt Ideal) arg14.view.junk (kernelRun0_C.sl.HS2_6 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tileO 5 (Scalar.muli (BitVec.ofNat 32 (i 1).val) 1024#32)
      (Scalar.addi (Scalar.muli (BitVec.ofNat 32 (i 1).val) 1024#32) 256#32) H hi (diag_key i) (diag_row i 256) (off15 i) (off16 i) g5 (by omega) g5 rfl rfl rfl
  have g7 : HeldO (rowsOf i) q K V (upto 7 (1024 * rowsOf i + 1024) (1024 * rowsOf i))
      (arg13.view.read (Elt Ideal) (arg13.view.writes (Elt Ideal) arg13.view.junk (kernelRun0_C.sl.HS1_7 (F := Ideal) c i arg2 harg2 arg3 harg3 arg4 harg4 arg5 harg5 arg6 harg6 arg7 harg7 arg8 harg8 arg9 harg9 arg10 harg10 arg11 harg11 arg12 harg12 arg13 harg13 arg14 harg14 x6 x7 x8)))
      (arg14.view.read (Elt Ideal) (arg14.view.writes (Elt Ideal) arg14.view.junk (kernelRun0_C.sl.HS2_7 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_tileO 6 (Scalar.muli (BitVec.ofNat 32 (i 1).val) 1024#32)
      (Scalar.addi (Scalar.muli (BitVec.ofNat 32 (i 1).val) 1024#32) 512#32) H hi (diag_key i) (diag_row i 512) (off15 i) (off16 i) g6 (by omega) g6 rfl rfl rfl
  obtain ⟨M, g8⟩ : ∃ M, HeldO (rowsOf i) q K V (upto 8 (1024 * rowsOf i + 1024) (1024 * rowsOf i)) M
      (arg14.view.read (Elt Ideal) (arg14.view.writes (Elt Ideal) arg14.view.junk (kernelRun0_C.sl.HS2_8 (F := Ideal) c i arg2 harg2 arg3 harg3 arg4 harg4 arg5 harg5 arg6 harg6 arg7 harg7 arg8 harg8 arg9 harg9 arg10 harg10 arg11 harg11 arg12 harg12 arg13 harg13 arg14 harg14 x6 x7 x8))) :=
    diag_lastO (inbm := inb_S2048x1_S256x1_1792_0) 7 (Scalar.muli (BitVec.ofNat 32 (i 1).val) 1024#32)
      (Scalar.addi (Scalar.muli (BitVec.ofNat 32 (i 1).val) 1024#32) 768#32) H hi (diag_key i) (diag_row i 768) (off15 i) (off16 i) g7 (by omega) g7 rfl rfl
  refine ⟨M, fun R => ?_⟩
  have h := heldO_done g8 R
  exact (congrArg (OnlineRow _ _ _ _ _ _ _) (funext fun d => load_whole arg14.view _ inb_S2048x256_S2048x256_0_0 R d)).mpr h

end Cert.KernelIdeal.Steps

end

end
-- ==== Proof.AccF.lean ====
module

public import proofs.«01_k».proof.Proof.Trips
public import proofs.«01_k».proof.Proof.Ideal.RunF

/-!
# The accumulators at an odd point, the plain way

The accumulator that the epilogue reads holds, at every row, the sums over all the keys up to the end of the point's own rows.
-/

@[expose] public section

set_option maxRecDepth 16384

noncomputable section

namespace Cert.KernelIdeal.Steps

open Idealize.ShloMosaic Idealize.ShloMosaic.TcCoe
open Cert.KernelIdeal.Gen Cert.KernelIdeal.Tile Cert.Attn

variable {q K : ℕ → Fin 128 → ℝ} {V : ℕ → Fin 256 → ℝ}
variable (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole)
  (x6 : Vec Ideal S1024x128 .f32) (x7 : Vec Ideal S16384x128 .bf16) (x8 : Vec Ideal S16384x256 .bf16)

/-- Before the last blocks: the loop over blocks of 2048 keys is done. -/
theorem base_F (H : Inputs q K V arg12.view arg9.view arg10.view
      (arg12.view.writes (Elt Ideal) arg12.view.junk (kernelRun0_F.sl.HS0_1 (F := Ideal) c arg8 harg8 x6)) (harg9.unread x7) (harg10.unread x8)) (hc1 : cond0_1 i) :
    Held (rowsOf i) q K V (fun _ => 2048 * (rowsOf i / 2))
      (arg14.view.read (Elt Ideal) (arg14.view.writes (Elt Ideal) arg14.view.junk (kernelRun0_F.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8).tail)) := by
  unfold kernelRun0_F.sl.HS2_1_1
  rw [List.tail_cons, show Scf.trips (k0_t2_loop i).lb (k0_t2_loop i).ub (k0_t2_loop i).st = 0 from trips2 i, pb_k0_t2.eq_1,
    List.nil_append, View.writes_append]
  have h := loop_plain c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_F.sl.v38 i) _ _ _ H _ (held_zero arg14.view arg14.view.junk inb_S2048x256_S2048x256_0_0) (k0_t1_loop i).trips le_rfl
  have e : (fun _ : ℕ => 2048 * (k0_t1_loop i).trips) = fun _ => 2048 * (rowsOf i / 2) := by rw [trips1]
  rw [e] at h
  exact h

/-- The accumulator after the block on the diagonal. -/
theorem final_F (H : Inputs q K V arg12.view arg9.view arg10.view
      (arg12.view.writes (Elt Ideal) arg12.view.junk (kernelRun0_F.sl.HS0_1 (F := Ideal) c arg8 harg8 x6)) (harg9.unread x7) (harg10.unread x8)) (hc1 : cond0_1 i) :
    Held (rowsOf i) q K V (fun _ => 1024 * rowsOf i + 1024)
      (kernelRun0_F.sl.v62 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8) := by
  have hi := rowsOf_lt i
  have hodd := (odd1 i).1 hc1
  have e0 : 2048 * (rowsOf i / 2) + 1024 = 1024 * rowsOf i := by omega
  have h0 := held_start (2048 * (rowsOf i / 2) + 1024) (base_F c i arg2 harg2 arg3 harg3 arg4 harg4 arg5 harg5 arg6 harg6 arg7 harg7 arg8 harg8 arg9 harg9 arg10 harg10 arg11 harg11 arg12 harg12 arg13 harg13 arg14 harg14 x6 x7 x8 H hc1)
  have h1 : Held (rowsOf i) q K V (upto 1 (2048 * (rowsOf i / 2) + 1024) (2048 * (rowsOf i / 2)))
      (arg14.view.read (Elt Ideal) (arg14.view.writes (Elt Ideal) arg14.view.junk (kernelRun0_F.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 0 H (by omega) (off5 i) (off6 i) h0 (by omega) h0 rfl rfl
  have h2 : Held (rowsOf i) q K V (upto 2 (2048 * (rowsOf i / 2) + 1024) (2048 * (rowsOf i / 2)))
      (arg14.view.read (Elt Ideal) (arg14.view.writes (Elt Ideal) arg14.view.junk (kernelRun0_F.sl.HS2_2 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 1 H (by omega) (off5 i) (off6 i) h1 (by omega) h1 rfl rfl
  have h3 : Held (rowsOf i) q K V (upto 3 (2048 * (rowsOf i / 2) + 1024) (2048 * (rowsOf i / 2)))
      (arg14.view.read (Elt Ideal) (arg14.view.writes (Elt Ideal) arg14.view.junk (kernelRun0_F.sl.HS2_3 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 2 H (by omega) (off5 i) (off6 i) h2 (by omega) h2 rfl rfl
  have h4 : Held (rowsOf i) q K V (upto 4 (2048 * (rowsOf i / 2) + 1024) (2048 * (rowsOf i / 2)))
      (arg14.view.read (Elt Ideal) (arg14.view.writes (Elt Ideal) arg14.view.junk (kernelRun0_F.sl.HS2_4 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 3 H (by omega) (off5 i) (off6 i) h3 (by omega) h3 rfl rfl
  have h5 : Held (rowsOf i) q K V (upto 5 (2048 * (rowsOf i / 2) + 1024) (2048 * (rowsOf i / 2)))
      (arg14.view.read (Elt Ideal) (arg14.view.writes (Elt Ideal) arg14.view.junk (kernelRun0_F.sl.HS2_5 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 4 H (by omega) (off5 i) (off6 i) h4 (by omega) h4 rfl rfl
  have h6 : Held (rowsOf i) q K V (upto 6 (2048 * (rowsOf i / 2) + 1024) (2048 * (rowsOf i / 2)))
      (arg14.view.read (Elt Ideal) (arg14.view.writes (Elt Ideal) arg14.view.junk (kernelRun0_F.sl.HS2_6 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 5 H (by omega) (off5 i) (off6 i) h5 (by omega) h5 rfl rfl
  have h7 : Held (rowsOf i) q K V (upto 7 (2048 * (rowsOf i / 2) + 1024) (2048 * (rowsOf i / 2)))
      (arg14.view.read (Elt Ideal) (arg14.view.writes (Elt Ideal) arg14.view.junk (kernelRun0_F.sl.HS2_7 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 6 H (by omega) (off5 i) (off6 i) h6 (by omega) h6 rfl rfl
  have h8 : Held (rowsOf i) q K V (upto 8 (2048 * (rowsOf i / 2) + 1024) (2048 * (rowsOf i / 2)))
      (arg14.view.read (Elt Ideal) (arg14.view.writes (Elt Ideal) arg14.view.junk (kernelRun0_F.sl.HS2_8 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    half_tile 7 H (by omega) (off5 i) (off6 i) h7 (by omega) h7 rfl rfl
  have g := held_done h8
  rw [e0] at g
  have g0 := held_start (1024 * rowsOf i + 1024) g
  have g1 : Held (rowsOf i) q K V (upto 1 (1024 * rowsOf i + 1024) (1024 * rowsOf i))
      (arg14.view.read (Elt Ideal) (arg14.view.writes (Elt Ideal) arg14.view.junk (kernelRun0_F.sl.HS2_9 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 0 (Scalar.muli (BitVec.ofNat 32 (i 1).val) 1024#32)
      (Scalar.addi (Scalar.muli (BitVec.ofNat 32 (i 1).val) 1024#32) 0#32) H hi (diag_key i) (diag_row i 0) (off7 i) (off8 i) g0 (by omega) g0 rfl rfl
  have g2 : Held (rowsOf i) q K V (upto 2 (1024 * rowsOf i + 1024) (1024 * rowsOf i))
      (arg14.view.read (Elt Ideal) (arg14.view.writes (Elt Ideal) arg14.view.junk (kernelRun0_F.sl.HS2_10 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 1 (Scalar.muli (BitVec.ofNat 32 (i 1).val) 1024#32)
      (Scalar.addi (Scalar.muli (BitVec.ofNat 32 (i 1).val) 1024#32) 256#32) H hi (diag_key i) (diag_row i 256) (off7 i) (off8 i) g1 (by omega) g1 rfl rfl
  have g3 : Held (rowsOf i) q K V (upto 3 (1024 * rowsOf i + 1024) (1024 * rowsOf i))
      (arg14.view.read (Elt Ideal) (arg14.view.writes (Elt Ideal) arg14.view.junk (kernelRun0_F.sl.HS2_11 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 2 (Scalar.muli (BitVec.ofNat 32 (i 1).val) 1024#32)
      (Scalar.addi (Scalar.muli (BitVec.ofNat 32 (i 1).val) 1024#32) 512#32) H hi (diag_key i) (diag_row i 512) (off7 i) (off8 i) g2 (by omega) g2 rfl rfl
  have g4 : Held (rowsOf i) q K V (upto 4 (1024 * rowsOf i + 1024) (1024 * rowsOf i))
      (arg14.view.read (Elt Ideal) (arg14.view.writes (Elt Ideal) arg14.view.junk (kernelRun0_F.sl.HS2_12 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 3 (Scalar.muli (BitVec.ofNat 32 (i 1).val) 1024#32)
      (Scalar.addi (Scalar.muli (BitVec.ofNat 32 (i 1).val) 1024#32) 768#32) H hi (diag_key i) (diag_row i 768) (off7 i) (off8 i) g3 (by omega) g3 rfl rfl
  have g5 : Held (rowsOf i) q K V (upto 5 (1024 * rowsOf i + 1024) (1024 * rowsOf i))
      (arg14.view.read (Elt Ideal) (arg14.view.writes (Elt Ideal) arg14.view.junk (kernelRun0_F.sl.HS2_13 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 4 (Scalar.muli (BitVec.ofNat 32 (i 1).val) 1024#32)
      (Scalar.addi (Scalar.muli (BitVec.ofNat 32 (i 1).val) 1024#32) 0#32) H hi (diag_key i) (diag_row i 0) (off7 i) (off8 i) g4 (by omega) g4 rfl rfl
  have g6 : Held (rowsOf i) q K V (upto 6 (1024 * rowsOf i + 1024) (1024 * rowsOf i))
      (arg14.view.read (Elt Ideal) (arg14.view.writes (Elt Ideal) arg14.view.junk (kernelRun0_F.sl.HS2_14 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 5 (Scalar.muli (BitVec.ofNat 32 (i 1).val) 1024#32)
      (Scalar.addi (Scalar.muli (BitVec.ofNat 32 (i 1).val) 1024#32) 256#32) H hi (diag_key i) (diag_row i 256) (off7 i) (off8 i) g5 (by omega) g5 rfl rfl
  have g7 : Held (rowsOf i) q K V (upto 7 (1024 * rowsOf i + 1024) (1024 * rowsOf i))
      (arg14.view.read (Elt Ideal) (arg14.view.writes (Elt Ideal) arg14.view.junk (kernelRun0_F.sl.HS2_15 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 6 (Scalar.muli (BitVec.ofNat 32 (i 1).val) 1024#32)
      (Scalar.addi (Scalar.muli (BitVec.ofNat 32 (i 1).val) 1024#32) 512#32) H hi (diag_key i) (diag_row i 512) (off7 i) (off8 i) g6 (by omega) g6 rfl rfl
  have g8 : Held (rowsOf i) q K V (upto 8 (1024 * rowsOf i + 1024) (1024 * rowsOf i))
      (arg14.view.read (Elt Ideal) (arg14.view.writes (Elt Ideal) arg14.view.junk (kernelRun0_F.sl.HS2_16 (F := Ideal) c i arg2 harg2 arg3 harg3 arg4 harg4 arg5 harg5 arg6 harg6 arg7 harg7 arg8 harg8 arg9 harg9 arg10 harg10 arg11 harg11 arg12 harg12 arg13 harg13 arg14 harg14 hc1 x6 x7 x8))) :=
    diag_tile 7 (Scalar.muli (BitVec.ofNat 32 (i 1).val) 1024#32)
      (Scalar.addi (Scalar.muli (BitVec.ofNat 32 (i 1).val) 1024#32) 768#32) H hi (diag_key i) (diag_row i 768) (off7 i) (off8 i) g7 (by omega) g7 rfl rfl
  intro R d
  have h := held_done g8 R d
  exact (congrArg (Plain _ _ _ _) (load_whole arg14.view _ inb_S2048x256_S2048x256_0_0 R d)).mpr h

end Cert.KernelIdeal.Steps

end

end
-- ==== Proof.AccG.lean ====
module

public import proofs.«01_k».proof.Proof.Trips
public import proofs.«01_k».proof.Proof.Ideal.RunG

/-!
# The accumulators at an odd point, the shifted way

The accumulator that the epilogue reads holds, at every row, the sums over all the keys up to the end of the point's own rows.
-/

@[expose] public section

set_option maxRecDepth 16384

noncomputable section

namespace Cert.KernelIdeal.Steps

open Idealize.ShloMosaic Idealize.ShloMosaic.TcCoe
open Cert.KernelIdeal.Gen Cert.KernelIdeal.Tile Cert.Attn

variable {q K : ℕ → Fin 128 → ℝ} {V : ℕ → Fin 256 → ℝ}
variable (c : Dev nD) (i : grid0.Coords) (arg2 : Memref sig .tc .smem S1 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S16384x128 .bf16) (harg9 : arg9.IsWhole) (arg10 : Memref sig .tc .vmem S16384x256 .bf16) (harg10 : arg10.IsWhole) (arg11 : Memref sig .tc .vmem S1024x128 .f32) (harg11 : arg11.IsWhole) (arg12 : Memref sig .tc .vmem S2048x128 .bf16) (harg12 : arg12.IsWhole) (arg13 : Memref sig .tc .vmem S2048x1 .f32) (harg13 : arg13.IsWhole) (arg14 : Memref sig .tc .vmem S2048x256 .f32) (harg14 : arg14.IsWhole)
  (x6 : Vec Ideal S1024x128 .f32) (x7 : Vec Ideal S16384x128 .bf16) (x8 : Vec Ideal S16384x256 .bf16)

/-- Before the last blocks: the loop over blocks of 2048 keys is done. -/
theorem base_G (H : Inputs q K V arg12.view arg9.view arg10.view
      (arg12.view.writes (Elt Ideal) arg12.view.junk (kernelRun0_G.sl.HS0_1 (F := Ideal) c arg8 harg8 x6)) (harg9.unread x7) (harg10.unread x8)) (hc3 : cond0_3 i) :
    HeldO (rowsOf i) q K V (fun _ => 2048 * (rowsOf i / 2))
      (arg13.view.read (Elt Ideal) (arg13.view.writes (Elt Ideal) arg13.view.junk (kernelRun0_G.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8).tail))
      (arg14.view.read (Elt Ideal) (arg14.view.writes (Elt Ideal) arg14.view.junk (kernelRun0_G.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8).tail)) := by
  unfold kernelRun0_G.sl.HS1_1_1 kernelRun0_G.sl.HS2_1_1
  rw [List.tail_cons, List.tail_cons, show Scf.trips (k0_t4_loop i).lb (k0_t4_loop i).ub (k0_t4_loop i).st = 0 from trips4 i,
    pb_k0_t4.eq_1]
  dsimp only
  rw [List.nil_append, List.nil_append, View.writes_append, View.writes_append]
  have h := loop_online c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_G.sl.v38 i) _ _ _ H _ _
    (heldO_zero arg13.view arg13.view.junk inb_S2048x1_S2048x1_0_0 arg14.view arg14.view.junk
      inb_S2048x256_S2048x256_0_0) (k0_t3_loop i).trips le_rfl
  have e : (fun _ : ℕ => 2048 * (k0_t3_loop i).trips) = fun _ => 2048 * (rowsOf i / 2) := by rw [trips3]
  rw [e] at h
  exact h

/-- The accumulator after the block on the diagonal. -/
theorem final_G (H : Inputs q K V arg12.view arg9.view arg10.view
      (arg12.view.writes (Elt Ideal) arg12.view.junk (kernelRun0_G.sl.HS0_1 (F := Ideal) c arg8 harg8 x6)) (harg9.unread x7) (harg10.unread x8)) (hc3 : cond0_3 i) :
    ∃ M, HeldO (rowsOf i) q K V (fun _ => 1024 * rowsOf i + 1024) M
      (kernelRun0_G.sl.v62 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8) := by
  have hi := rowsOf_lt i
  have hodd := (odd3 i).1 hc3
  have e0 : 2048 * (rowsOf i / 2) + 1024 = 1024 * rowsOf i := by omega
  have h0 := heldO_start (2048 * (rowsOf i / 2) + 1024) (base_G c i arg2 harg2 arg3 harg3 arg4 harg4 arg5 harg5 arg6 harg6 arg7 harg7 arg8 harg8 arg9 harg9 arg10 harg10 arg11 harg11 arg12 harg12 arg13 harg13 arg14 harg14 x6 x7 x8 H hc3)
  have h1 : HeldO (rowsOf i) q K V (upto 1 (2048 * (rowsOf i / 2) + 1024) (2048 * (rowsOf i / 2)))
      (arg13.view.read (Elt Ideal) (arg13.view.writes (Elt Ideal) arg13.view.junk (kernelRun0_G.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 0 H (by omega) (off13 i) (off14 i) h0 (by omega) h0 rfl rfl rfl
  have h2 : HeldO (rowsOf i) q K V (upto 2 (2048 * (rowsOf i / 2) + 1024) (2048 * (rowsOf i / 2)))
      (arg13.view.read (Elt Ideal) (arg13.view.writes (Elt Ideal) arg13.view.junk (kernelRun0_G.sl.HS1_2 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_2 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 1 H (by omega) (off13 i) (off14 i) h1 (by omega) h1 rfl rfl rfl
  have h3 : HeldO (rowsOf i) q K V (upto 3 (2048 * (rowsOf i / 2) + 1024) (2048 * (rowsOf i / 2)))
      (arg13.view.read (Elt Ideal) (arg13.view.writes (Elt Ideal) arg13.view.junk (kernelRun0_G.sl.HS1_3 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_3 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 2 H (by omega) (off13 i) (off14 i) h2 (by omega) h2 rfl rfl rfl
  have h4 : HeldO (rowsOf i) q K V (upto 4 (2048 * (rowsOf i / 2) + 1024) (2048 * (rowsOf i / 2)))
      (arg13.view.read (Elt Ideal) (arg13.view.writes (Elt Ideal) arg13.view.junk (kernelRun0_G.sl.HS1_4 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_4 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 3 H (by omega) (off13 i) (off14 i) h3 (by omega) h3 rfl rfl rfl
  have h5 : HeldO (rowsOf i) q K V (upto 5 (2048 * (rowsOf i / 2) + 1024) (2048 * (rowsOf i / 2)))
      (arg13.view.read (Elt Ideal) (arg13.view.writes (Elt Ideal) arg13.view.junk (kernelRun0_G.sl.HS1_5 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_5 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 4 H (by omega) (off13 i) (off14 i) h4 (by omega) h4 rfl rfl rfl
  have h6 : HeldO (rowsOf i) q K V (upto 6 (2048 * (rowsOf i / 2) + 1024) (2048 * (rowsOf i / 2)))
      (arg13.view.read (Elt Ideal) (arg13.view.writes (Elt Ideal) arg13.view.junk (kernelRun0_G.sl.HS1_6 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_6 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 5 H (by omega) (off13 i) (off14 i) h5 (by omega) h5 rfl rfl rfl
  have h7 : HeldO (rowsOf i) q K V (upto 7 (2048 * (rowsOf i / 2) + 1024) (2048 * (rowsOf i / 2)))
      (arg13.view.read (Elt Ideal) (arg13.view.writes (Elt Ideal) arg13.view.junk (kernelRun0_G.sl.HS1_7 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_7 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 6 H (by omega) (off13 i) (off14 i) h6 (by omega) h6 rfl
      (by unfold kernelRun0_G.sl.r_8 k0_pay183 k0_pay181 k0_pay180 k0_pay179 mx1 max1 sc1; rfl)
      (by unfold kernelRun0_G.sl.r_7 kernelRun0_G.sl.r_8 k0_pay182 k0_pay181 k0_pay180 k0_pay179 sh1 max1 sc1; rfl)
  have h8 : HeldO (rowsOf i) q K V (upto 8 (2048 * (rowsOf i / 2) + 1024) (2048 * (rowsOf i / 2)))
      (arg13.view.read (Elt Ideal) (arg13.view.writes (Elt Ideal) arg13.view.junk (kernelRun0_G.sl.HS1_8 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_8 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    half_tileO 7 H (by omega) (off13 i) (off14 i) h7 (by omega) h7 rfl rfl rfl
  have g := heldO_done h8
  rw [e0] at g
  have g0 := heldO_start (1024 * rowsOf i + 1024) g
  have g1 : HeldO (rowsOf i) q K V (upto 1 (1024 * rowsOf i + 1024) (1024 * rowsOf i))
      (arg13.view.read (Elt Ideal) (arg13.view.writes (Elt Ideal) arg13.view.junk (kernelRun0_G.sl.HS1_9 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_9 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_tileO 0 (Scalar.muli (BitVec.ofNat 32 (i 1).val) 1024#32)
      (Scalar.addi (Scalar.muli (BitVec.ofNat 32 (i 1).val) 1024#32) 0#32) H hi (diag_key i) (diag_row i 0) (off15 i) (off16 i) g0 (by omega) g0 rfl rfl rfl
  have g2 : HeldO (rowsOf i) q K V (upto 2 (1024 * rowsOf i + 1024) (1024 * rowsOf i))
      (arg13.view.read (Elt Ideal) (arg13.view.writes (Elt Ideal) arg13.view.junk (kernelRun0_G.sl.HS1_10 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_10 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_tileO 1 (Scalar.muli (BitVec.ofNat 32 (i 1).val) 1024#32)
      (Scalar.addi (Scalar.muli (BitVec.ofNat 32 (i 1).val) 1024#32) 256#32) H hi (diag_key i) (diag_row i 256) (off15 i) (off16 i) g1 (by omega) g1 rfl rfl rfl
  have g3 : HeldO (rowsOf i) q K V (upto 3 (1024 * rowsOf i + 1024) (1024 * rowsOf i))
      (arg13.view.read (Elt Ideal) (arg13.view.writes (Elt Ideal) arg13.view.junk (kernelRun0_G.sl.HS1_11 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_11 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_tileO 2 (Scalar.muli (BitVec.ofNat 32 (i 1).val) 1024#32)
      (Scalar.addi (Scalar.muli (BitVec.ofNat 32 (i 1).val) 1024#32) 512#32) H hi (diag_key i) (diag_row i 512) (off15 i) (off16 i) g2 (by omega) g2 rfl rfl rfl
  have g4 : HeldO (rowsOf i) q K V (upto 4 (1024 * rowsOf i + 1024) (1024 * rowsOf i))
      (arg13.view.read (Elt Ideal) (arg13.view.writes (Elt Ideal) arg13.view.junk (kernelRun0_G.sl.HS1_12 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_12 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_tileO 3 (Scalar.muli (BitVec.ofNat 32 (i 1).val) 1024#32)
      (Scalar.addi (Scalar.muli (BitVec.ofNat 32 (i 1).val) 1024#32) 768#32) H hi (diag_key i) (diag_row i 768) (off15 i) (off16 i) g3 (by omega) g3 rfl rfl rfl
  have g5 : HeldO (rowsOf i) q K V (upto 5 (1024 * rowsOf i + 1024) (1024 * rowsOf i))
      (arg13.view.read (Elt Ideal) (arg13.view.writes (Elt Ideal) arg13.view.junk (kernelRun0_G.sl.HS1_13 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_13 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_tileO 4 (Scalar.muli (BitVec.ofNat 32 (i 1).val) 1024#32)
      (Scalar.addi (Scalar.muli (BitVec.ofNat 32 (i 1).val) 1024#32) 0#32) H hi (diag_key i) (diag_row i 0) (off15 i) (off16 i) g4 (by omega) g4 rfl rfl rfl
  have g6 : HeldO (rowsOf i) q K V (upto 6 (1024 * rowsOf i + 1024) (1024 * rowsOf i))
      (arg13.view.read (Elt Ideal) (arg13.view.writes (Elt Ideal) arg13.view.junk (kernelRun0_G.sl.HS1_14 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_14 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_tileO 5 (Scalar.muli (BitVec.ofNat 32 (i 1).val) 1024#32)
      (Scalar.addi (Scalar.muli (BitVec.ofNat 32 (i 1).val) 1024#32) 256#32) H hi (diag_key i) (diag_row i 256) (off15 i) (off16 i) g5 (by omega) g5 rfl rfl rfl
  have g7 : HeldO (rowsOf i) q K V (upto 7 (1024 * rowsOf i + 1024) (1024 * rowsOf i))
      (arg13.view.read (Elt Ideal) (arg13.view.writes (Elt Ideal) arg13.view.junk (kernelRun0_G.sl.HS1_15 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8)))
      (arg14.view.read (Elt Ideal) (arg14.view.writes (Elt Ideal) arg14.view.junk (kernelRun0_G.sl.HS2_15 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_tileO 6 (Scalar.muli (BitVec.ofNat 32 (i 1).val) 1024#32)
      (Scalar.addi (Scalar.muli (BitVec.ofNat 32 (i 1).val) 1024#32) 512#32) H hi (diag_key i) (diag_row i 512) (off15 i) (off16 i) g6 (by omega) g6 rfl rfl rfl
  obtain ⟨M, g8⟩ : ∃ M, HeldO (rowsOf i) q K V (upto 8 (1024 * rowsOf i + 1024) (1024 * rowsOf i)) M
      (arg14.view.read (Elt Ideal) (arg14.view.writes (Elt Ideal) arg14.view.junk (kernelRun0_G.sl.HS2_16 (F := Ideal) c i arg2 harg2 arg3 harg3 arg4 harg4 arg5 harg5 arg6 harg6 arg7 harg7 arg8 harg8 arg9 harg9 arg10 harg10 arg11 harg11 arg12 harg12 arg13 harg13 arg14 harg14 hc3 x6 x7 x8))) :=
    diag_lastO (inbm := inb_S2048x1_S256x1_1792_0) 7 (Scalar.muli (BitVec.ofNat 32 (i 1).val) 1024#32)
      (Scalar.addi (Scalar.muli (BitVec.ofNat 32 (i 1).val) 1024#32) 768#32) H hi (diag_key i) (diag_row i 768) (off15 i) (off16 i) g7 (by omega) g7 rfl rfl
  refine ⟨M, fun R => ?_⟩
  have h := heldO_done g8 R
  exact (congrArg (OnlineRow _ _ _ _ _ _ _) (funext fun d => load_whole arg14.view _ inb_S2048x256_S2048x256_0_0 R d)).mpr h

end Cert.KernelIdeal.Steps

end

end
-- ==== Proof.Out.lean ====
module

public import proofs.«01_k».proof.Proof.Entry
public import proofs.«01_k».proof.Proof.AccB
public import proofs.«01_k».proof.Proof.AccC
public import proofs.«01_k».proof.Proof.AccF
public import proofs.«01_k».proof.Proof.AccG

/-!
# The output blocks

In each of the four cases the output block of a grid point holds the attention's rows.
-/

@[expose] public section

set_option maxRecDepth 16384

noncomputable section

namespace Cert.KernelIdeal.Steps

open Cert.KernelIdeal.Gen Cert.KernelIdeal.Attn Cert.Attn
open Idealize.ShloMosaic Idealize.ShloMosaic.TcCoe Idealize.ShloMosaic.WordCmp
open scoped BigOperators

/-- Every element is a real number. -/
def IsReal {s : Shape} (A : s.Idx → EReal) : Prop := ∀ i, A i = ((A i).toReal : EReal)

/-- A head's queries, or keys, as real numbers: map, row, lane. -/
def mapsOf (A : S1x16384x8x2x64.Idx → EReal) (h : Fin 8) (p : Fin 2) (r : ℕ) (d : Fin 64) : ℝ :=
  (A (ix5 (0 : Fin 1) ⟨r % 16384, Nat.mod_lt _ (by decide)⟩ h p d)).toReal

/-- A head's values as real numbers: column, row. -/
def valuesOf (A : S1x16384x8x128.Idx → EReal) (h : Fin 8) (e : Fin 128) (r : ℕ) : ℝ :=
  (A (ix4 (0 : Fin 1) ⟨r % 16384, Nat.mod_lt _ (by decide)⟩ h e)).toReal

theorem mapsOf_eq {A : S1x16384x8x2x64.Idx → EReal} (hA : IsReal A) (h : Fin 8) (p : Fin 2) (r : Fin 16384) (d : Fin 64) :
    A (ix5 (0 : Fin 1) r h p d) = ((mapsOf A h p r.val d : ℝ) : EReal) := by
  have e : (⟨r.val % 16384, Nat.mod_lt _ (by decide)⟩ : Fin 16384) = r := Fin.ext (Nat.mod_eq_of_lt r.isLt)
  unfold mapsOf
  rw [e, ← hA]

theorem valuesOf_eq {A : S1x16384x8x128.Idx → EReal} (hA : IsReal A) (h : Fin 8) (e : Fin 128) (r : Fin 16384) :
    A (ix4 (0 : Fin 1) r h e) = ((valuesOf A h e r.val : ℝ) : EReal) := by
  have e' : (⟨r.val % 16384, Nat.mod_lt _ (by decide)⟩ : Fin 16384) = r := Fin.ext (Nat.mod_eq_of_lt r.isLt)
  unfold valuesOf
  rw [e', ← hA]

variable (m : (ℓ : Loc nD τ sig) → Buf (Elt Ideal) ℓ) (c : Dev nD) (t : Fin cfg0.N)

/-- The share of the second map, from the arguments. -/
def shareOf : EReal :=
  share (fun x => m ((c.tc : Thread nD τ).loc main_arg1) (ix2 (0 : Fin 1) x)) (fun x => m ((c.tc : Thread nD τ).loc main_arg2) (ix2 (0 : Fin 1) x))
    (fun x => m ((c.tc : Thread nD τ).loc main_arg3) (ix2 (0 : Fin 1) x)) (fun x => m ((c.tc : Thread nD τ).loc main_arg4) (ix2 (0 : Fin 1) x))

/-- A row of the result, from the arguments: head `h`, row `r`, column `e`. -/
def rowOf (l : ℝ) (h : Fin 8) (r : ℕ) (e : Fin 128) : EReal :=
  norm (fun x => ((blend (mapsOf (argQ m c) h 0) (mapsOf (argK m c) h 0) (mapsOf (argQ m c) h 1) (mapsOf (argK m c) h 1) l
    (valuesOf (argV m c) h x) r : ℝ) : EReal)) (m ((c.tc : Thread nD τ).loc main_arg5) (ix2 (0 : Fin 1) e)) e

/-- The blocks of a point hold the head's numbers. -/
theorem data_of (hQ : IsReal (argQ m c)) (hK : IsReal (argK m c)) (hV : IsReal (argV m c)) :
    Data (rowsOf (grid0.coords t)) (mapsOf (argQ m c) (headOf (grid0.coords t))) (mapsOf (argK m c) (headOf (grid0.coords t)))
      (valuesOf (argV m c) (headOf (grid0.coords t))) (iblk m c 6 t) (iblk m c 7 t) (iblk m c 8 t) where
  query r d := (block6 m c t r d).trans (mapsOf_eq hQ _ _ _ _)
  key j d := (block7 m c t j d).trans (mapsOf_eq hK _ _ _ _)
  value j d := by
    refine (block8 m c t j d).trans ?_
    unfold withOnes
    by_cases h : d.val < 128
    · rw [dif_pos h, dif_pos h, valuesOf_eq hV]
    · rw [dif_neg h, dif_neg h, EReal.coe_one]

/-- An output block that the epilogue wrote from an accumulator with the right quotients. -/
theorem out_of {z : Vec Ideal S2048x256 .f32} (L : List (View.Piece (Elt Ideal) S1024x128 .f32)) (inb inb1 inb2 inb3 inb4 inb5)
    (hL : L = [⟨Rect.unit (s := S1024x128) ![0, 0] S1024x128.size inb,
      k0_pay1 ((ms0_5 t).view.readAt (Elt Ideal) (Rect.unit (s := S1x128) ![0, 0] S1x128.size inb5).toLoadRect ((hs0_5 t).unread (iblk m c 5 t)))
        (k0_pay278 ((ms0_1 t).view.readAt (Elt Ideal) (Rect.unit (s := S1x64) ![0, 0] S1x64.size inb1).toLoadRect ((hs0_1 t).unread (iblk m c 1 t)))
          ((ms0_2 t).view.readAt (Elt Ideal) (Rect.unit (s := S1x64) ![0, 0] S1x64.size inb2).toLoadRect ((hs0_2 t).unread (iblk m c 2 t)))
          ((ms0_3 t).view.readAt (Elt Ideal) (Rect.unit (s := S1x64) ![0, 0] S1x64.size inb3).toLoadRect ((hs0_3 t).unread (iblk m c 3 t)))
          ((ms0_4 t).view.readAt (Elt Ideal) (Rect.unit (s := S1x64) ![0, 0] S1x64.size inb4).toLoadRect ((hs0_4 t).unread (iblk m c 4 t))) z)
        (k0_pay279 ((ms0_1 t).view.readAt (Elt Ideal) (Rect.unit (s := S1x64) ![0, 0] S1x64.size inb1).toLoadRect ((hs0_1 t).unread (iblk m c 1 t)))
          ((ms0_2 t).view.readAt (Elt Ideal) (Rect.unit (s := S1x64) ![0, 0] S1x64.size inb2).toLoadRect ((hs0_2 t).unread (iblk m c 2 t)))
          ((ms0_3 t).view.readAt (Elt Ideal) (Rect.unit (s := S1x64) ![0, 0] S1x64.size inb3).toLoadRect ((hs0_3 t).unread (iblk m c 3 t)))
          ((ms0_4 t).view.readAt (Elt Ideal) (Rect.unit (s := S1x64) ![0, 0] S1x64.size inb4).toLoadRect ((hs0_4 t).unread (iblk m c 4 t))) z)⟩])
    (hz : Quotients (rowsOf (grid0.coords t)) (mapsOf (argQ m c) (headOf (grid0.coords t))) (mapsOf (argK m c) (headOf (grid0.coords t)))
      (valuesOf (argV m c) (headOf (grid0.coords t))) z) (l : ℝ) (hl : shareOf m c = (l : EReal)) (r : Fin 1024) (e : Fin 128) :
    VO0_9.read (Elt Ideal) (VO0_9.writes (Elt Ideal) VO0_9.junk L) (ix2 r e)
      = rowOf m c l (headOf (grid0.coords t)) (1024 * rowsOf (grid0.coords t) + r.val) e := by
  rw [hL]
  refine (read_whole VO0_9 VO0_9.junk inb _ r e).trans ?_
  rw [load_unread (hs0_5 t) (iblk m c 5 t) inb5, load_unread (hs0_1 t) (iblk m c 1 t) inb1, load_unread (hs0_2 t) (iblk m c 2 t) inb2,
    load_unread (hs0_3 t) (iblk m c 3 t) inb3, load_unread (hs0_4 t) (iblk m c 4 t) inb4]
  have hl' : share (fun x => iblk m c 1 t (ix2 (0 : Fin 1) x)) (fun x => iblk m c 2 t (ix2 (0 : Fin 1) x))
      (fun x => iblk m c 3 t (ix2 (0 : Fin 1) x)) (fun x => iblk m c 4 t (ix2 (0 : Fin 1) x)) = (l : EReal) := by
    rw [← hl]
    unfold shareOf
    simp only [block1, block2, block3, block4]
  refine (epilogue (rowsOf_lt _) hz (iblk m c 1 t) (iblk m c 2 t) (iblk m c 3 t) (iblk m c 4 t) (iblk m c 5 t) l hl' r e).trans ?_
  unfold rowOf
  rw [block5]

section Cases

variable (hQ : IsReal (argQ m c)) (hK : IsReal (argK m c)) (hV : IsReal (argV m c)) (l : ℝ) (hl : shareOf m c = (l : EReal))

include hQ hK hV hl in
/-- The output block in the plain way at an even point. -/
theorem out_B (h : ¬cond0_1 (grid0.coords t)) (h0 : cond0_0 (grid0.coords t) (word m c t)) (r : Fin 1024) (e : Fin 128) :
    VO0_9.read (Elt Ideal) (VO0_9.writes (Elt Ideal) VO0_9.junk (piecesB m c t h h0)) (ix2 r e)
      = rowOf m c l (headOf (grid0.coords t)) (1024 * rowsOf (grid0.coords t) + r.val) e := by
  have g := final_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) scM0_0 (Memref.isWhole_whole _) scM0_1 (Memref.isWhole_whole _) scM0_2 (Memref.isWhole_whole _)
    (iblk m c 6 t) (iblk m c 7 t) (iblk m c 8 t)
    (inputs_of (data_of m c t hQ hK hV) (hs0_6 t) (hs0_7 t) (hs0_8 t) _ _ _ _) (by have := (odd1 (grid0.coords t)).not.mp h; omega)
  exact out_of m c t _ _ _ _ _ _ _ rfl (quotients_plain g) l hl r e

include hQ hK hV hl in
/-- The output block in the plain way at an odd point. -/
theorem out_F (h : cond0_1 (grid0.coords t)) (h0 : cond0_0 (grid0.coords t) (word m c t)) (r : Fin 1024) (e : Fin 128) :
    VO0_9.read (Elt Ideal) (VO0_9.writes (Elt Ideal) VO0_9.junk (piecesF m c t h h0)) (ix2 r e)
      = rowOf m c l (headOf (grid0.coords t)) (1024 * rowsOf (grid0.coords t) + r.val) e := by
  have g := final_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) scM0_0 (Memref.isWhole_whole _) scM0_1 (Memref.isWhole_whole _) scM0_2 (Memref.isWhole_whole _)
    (iblk m c 6 t) (iblk m c 7 t) (iblk m c 8 t)
    (inputs_of (data_of m c t hQ hK hV) (hs0_6 t) (hs0_7 t) (hs0_8 t) _ _ _ _) h
  exact out_of m c t _ _ _ _ _ _ _ rfl (quotients_plain g) l hl r e

include hQ hK hV hl in
/-- The output block in the shifted way at an even point. -/
theorem out_C (h : ¬cond0_3 (grid0.coords t)) (h0 : ¬cond0_0 (grid0.coords t) (word m c t)) (r : Fin 1024) (e : Fin 128) :
    VO0_9.read (Elt Ideal) (VO0_9.writes (Elt Ideal) VO0_9.junk (piecesC m c t h h0)) (ix2 r e)
      = rowOf m c l (headOf (grid0.coords t)) (1024 * rowsOf (grid0.coords t) + r.val) e := by
  have g := final_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) scM0_0 (Memref.isWhole_whole _) scM0_1 (Memref.isWhole_whole _) scM0_2 (Memref.isWhole_whole _)
    (iblk m c 6 t) (iblk m c 7 t) (iblk m c 8 t)
    (inputs_of (data_of m c t hQ hK hV) (hs0_6 t) (hs0_7 t) (hs0_8 t) _ _ _ _) (by have := (odd3 (grid0.coords t)).not.mp h; omega)
  obtain ⟨M, g⟩ := g
  exact out_of m c t _ _ _ _ _ _ _ rfl (quotients_online g) l hl r e

include hQ hK hV hl in
/-- The output block in the shifted way at an odd point. -/
theorem out_G (h : cond0_3 (grid0.coords t)) (h0 : ¬cond0_0 (grid0.coords t) (word m c t)) (r : Fin 1024) (e : Fin 128) :
    VO0_9.read (Elt Ideal) (VO0_9.writes (Elt Ideal) VO0_9.junk (piecesG m c t h h0)) (ix2 r e)
      = rowOf m c l (headOf (grid0.coords t)) (1024 * rowsOf (grid0.coords t) + r.val) e := by
  have g := final_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) scM0_0 (Memref.isWhole_whole _) scM0_1 (Memref.isWhole_whole _) scM0_2 (Memref.isWhole_whole _)
    (iblk m c 6 t) (iblk m c 7 t) (iblk m c 8 t)
    (inputs_of (data_of m c t hQ hK hV) (hs0_6 t) (hs0_7 t) (hs0_8 t) _ _ _ _) h
  obtain ⟨M, g⟩ := g
  exact out_of m c t _ _ _ _ _ _ _ rfl (quotients_online g) l hl r e

include hQ hK hV hl in
/-- The output block of a point. -/
theorem outAt_apply (r : Fin 1024) (e : Fin 128) :
    outAt m c t (ix2 r e) = rowOf m c l (headOf (grid0.coords t)) (1024 * rowsOf (grid0.coords t) + r.val) e := by
  unfold outAt pieces
  split
  · split
    · exact out_F m c t hQ hK hV l hl _ _ r e
    · exact out_B m c t hQ hK hV l hl _ _ r e
  · split
    · exact out_G m c t hQ hK hV l hl _ _ r e
    · exact out_C m c t hQ hK hV l hl _ _ r e

end Cases

end Cert.KernelIdeal.Steps
-- ==== Proof.Finite.lean ====
module

public import proofs.«01_k».proof.Pre_finite
public import proofs.«01_k».proof.Proof.Out
public import Idealize.ShloMosaic.Lib.ReduceAll

/-!
# What the precondition says

Each element of the arrays it names is a real number.
-/

@[expose] public section

set_option maxRecDepth 16384

noncomputable section

namespace Cert.Pre_finite

open Idealize.ShloMosaic Idealize.ShloMosaic.TcCoe
open Cert.KernelIdeal.Steps (IsReal)

/-- The shape relations that the precondition's operations take. -/
instance facts : Facts where
  bcast_S_S1x64 := by decide
  reducesTo_S1x64_S_d0_1 := by decide
  h_S_ := by decide
  bcast_S_S1x16384x8x2x64 := by decide
  reducesTo_S1x16384x8x2x64_S_d0_1_2_3_4 := by decide
  bcast_S_S1x16384x8x128 := by decide
  reducesTo_S1x16384x8x128_S_d0_1_2_3 := by decide

instance : Subsingleton S_.Idx := ⟨fun a b => funext fun i => i.elim0⟩

/-- An extended real whose absolute value is below infinity is a real number. -/
theorem real_of_lt (a : EReal) (h : Ideal.cmp .olt (max a (-a)) (Ideal.ofBits .f32 0x7F800000#32) = 1#1) :
    a = (a.toReal : EReal) := by
  have ht : Ideal.ofBits .f32 0x7F800000#32 = ⊤ := by simp [Ideal.ofBits, Ideal.ieee]
  rw [ht] at h
  have hlt : max a (-a) < ⊤ := by
    by_contra hn
    simp [Ideal.cmp, hn] at h
  refine (EReal.coe_toReal (fun e => ?_) (fun e => ?_)).symm <;> simp [e] at hlt

/-- An array that passes the precondition's test of it is real. -/
theorem real_of_all {s : Shape} {axes : List (Fin s.rank)} (a : FVec Ideal s .f32) (hb : S_.BroadcastsInDim s (![] : Fin 0 → Fin s.rank))
    (h : s.ReducesTo axes S_) (j : S_.Idx)
    (e : Host.reduce IntOp.andi (cmpf .olt (Host.absf a) (broadcastInDim s ![] hb (constant S_ .f32 0x7F800000#32))) (constantI S_ 1 1#1) h Facts.h_S_ j = 1#1) :
    IsReal a := fun i => real_of_lt (a i) (Host.reduce_andi_all _ _ h Facts.h_S_ j e i)

theorem real_of_pre (a0 : IVec S1 32) (a1 a2 a3 a4 : FVec Ideal S1x64 .f32) (a5 : FVec Ideal S1x128 .f32)
    (a6 a7 : FVec Ideal S1x16384x8x2x64 .f32) (a8 : FVec Ideal S1x16384x8x128 .f32)
    (h : fn a0 a1 a2 a3 a4 a5 a6 a7 a8 = fun _ => 1#1) :
    IsReal a1 ∧ IsReal a2 ∧ IsReal a3 ∧ IsReal a4 ∧ IsReal a6 ∧ IsReal a7 ∧ IsReal a8 := by
  have h0 := congrFun h ix0
  dsimp only [fn, fn_part1, fn_part2] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨-, h1⟩ := IntOp.andi_eq_one.1 h0
  exact ⟨real_of_all a1 _ _ _ h1, real_of_all a2 _ _ _ h2, real_of_all a3 _ _ _ h3, real_of_all a4 _ _ _ h4,
    real_of_all a6 _ _ _ h6, real_of_all a7 _ _ _ h7, real_of_all a8 _ _ _ h8⟩

end Cert.Pre_finite
-- ==== Proof.Ref.lean ====
module

public import proofs.«01_k».proof.Proof.Gen.ReferenceIdeal.Run
public import proofs.«01_k».proof.Proof.Spec
public import Idealize.ShloMosaic.Lib.Pointwise
public import Idealize.ShloMosaic.Lib.WordCmp

/-!
# The reference, in pieces

The reference's result as a composition of its stages, and each stage at an index.
-/

@[expose] public section

set_option maxRecDepth 16384

noncomputable section

namespace Cert.ReferenceIdeal.Stage

open Cert.ReferenceIdeal Cert.ReferenceIdeal.Gen Cert.Attn Idealize.ShloMosaic Idealize.ShloMosaic.TcCoe Idealize.ShloMosaic.WordCmp
open scoped BigOperators

/-- A key's chunk, along the columns. -/
def keyChunk : IVec S1x16384 32 :=
  (select (andi (cmpi .ne (signi (broadcastInDim S1x16384 ![1] bcast_S16384_S1x16384_1 (iotaInDim S16384 32 0))) (broadcastInDim S1x16384 ![] bcast_S_S1x16384 (signi (id (constantI S_ 32 64#32))))) (cmpi .ne (Host.remsi (broadcastInDim S1x16384 ![1] bcast_S16384_S1x16384_1 (iotaInDim S16384 32 0)) (broadcastInDim S1x16384 ![] bcast_S_S1x16384 (id (constantI S_ 32 64#32)))) (broadcastInDim S1x16384 ![] bcast_S_S1x16384 (constantI S_ 32 0#32)))) (subi (Host.divsi (broadcastInDim S1x16384 ![1] bcast_S16384_S1x16384_1 (iotaInDim S16384 32 0)) (broadcastInDim S1x16384 ![] bcast_S_S1x16384 (id (constantI S_ 32 64#32)))) (broadcastInDim S1x16384 ![] bcast_S_S1x16384 (constantI S_ 32 1#32))) (Host.divsi (broadcastInDim S1x16384 ![1] bcast_S16384_S1x16384_1 (iotaInDim S16384 32 0)) (broadcastInDim S1x16384 ![] bcast_S_S1x16384 (id (constantI S_ 32 64#32)))))

/-- A query's chunk, down the rows. -/
def queryChunk : IVec S16384x1 32 :=
  (select (andi (cmpi .ne (signi (broadcastInDim S16384x1 ![0] bcast_S16384_S16384x1_0 (iotaInDim S16384 32 0))) (broadcastInDim S16384x1 ![] bcast_S_S16384x1 (signi (id (constantI S_ 32 64#32))))) (cmpi .ne (Host.remsi (broadcastInDim S16384x1 ![0] bcast_S16384_S16384x1_0 (iotaInDim S16384 32 0)) (broadcastInDim S16384x1 ![] bcast_S_S16384x1 (id (constantI S_ 32 64#32)))) (broadcastInDim S16384x1 ![] bcast_S_S16384x1 (constantI S_ 32 0#32)))) (subi (Host.divsi (broadcastInDim S16384x1 ![0] bcast_S16384_S16384x1_0 (iotaInDim S16384 32 0)) (broadcastInDim S16384x1 ![] bcast_S_S16384x1 (id (constantI S_ 32 64#32)))) (broadcastInDim S16384x1 ![] bcast_S_S16384x1 (constantI S_ 32 1#32))) (Host.divsi (broadcastInDim S16384x1 ![0] bcast_S16384_S16384x1_0 (iotaInDim S16384 32 0)) (broadcastInDim S16384x1 ![] bcast_S_S16384x1 (id (constantI S_ 32 64#32)))))

/-- Which keys a query sees. -/
def seen : IVec S16384x16384 1 :=
  cmpi .sle (broadcastInDim S16384x16384 ![0, 1] bcast_S1x16384_S16384x16384_0_1 keyChunk)
    (broadcastInDim S16384x16384 ![0, 1] bcast_S16384x1_S16384x16384_0_1 queryChunk)

/-- The scores, the unseen ones at −∞. -/
def scores (q k : FVec Ideal S1x16384x8x2x64 .f32) : FVec Ideal S1x2x8x16384x16384 .f32 :=
  select (broadcastInDim S1x2x8x16384x16384 ![3, 4] bcast_S16384x16384_S1x2x8x16384x16384_3_4 seen)
    (mulf (Host.dotGeneral dot_S1x16384x8x2x64_S1x16384x8x2x64_S1x2x8x16384x16384_4_4_1_1_032_032 none q k) (broadcastInDim S1x2x8x16384x16384 ![] bcast_S_S1x2x8x16384x16384 (constant S_ .f32 0x3E000000#32)))
    (broadcastInDim S1x2x8x16384x16384 ![] bcast_S_S1x2x8x16384x16384 (id (constant S_ .f32 0xFF800000#32)))

/-- The greatest score of a row. -/
def greatest (s : FVec Ideal S1x2x8x16384x16384 .f32) : FVec Ideal S1x2x8x16384 .f32 :=
  maximumf (broadcastInDim S1x2x8x16384 ![] bcast_S_S1x2x8x16384 (constant S_ .f32 0xFF800000#32))
    (Host.reduce FloatOps.maximumf s (constant S_ .f32 0xFF800000#32) reducesTo_S1x2x8x16384x16384_S1x2x8x16384_d4 h_S_)

/-- The exponentials of the scores less the greatest one `g`. -/
def exps (s : FVec Ideal S1x2x8x16384x16384 .f32) (g : FVec Ideal S1x2x8x16384 .f32) : FVec Ideal S1x2x8x16384x16384 .f32 :=
  Host.exp (subf s (broadcastInDim S1x2x8x16384x16384 ![0, 1, 2, 3, 4] bcast_S1x2x8x16384x1_S1x2x8x16384x16384_0_1_2_3_4
    (broadcastInDim S1x2x8x16384x1 ![0, 1, 2, 3] bcast_S1x2x8x16384_S1x2x8x16384x1_0_1_2_3 g)))

/-- The weights. -/
def weights (e : FVec Ideal S1x2x8x16384x16384 .f32) : FVec Ideal S1x2x8x16384x16384 .f32 :=
  Host.divf e (broadcastInDim S1x2x8x16384x16384 ![0, 1, 2, 3, 4] bcast_S1x2x8x16384x1_S1x2x8x16384x16384_0_1_2_3_4
    (broadcastInDim S1x2x8x16384x1 ![0, 1, 2, 3] bcast_S1x2x8x16384_S1x2x8x16384x1_0_1_2_3
      (Host.reduceAdd e (constant S_ .f32 0x00000000#32) reducesTo_S1x2x8x16384x16384_S1x2x8x16384_d4 h_S_)))

/-- The factor of the second map. -/
def lam (a1 a2 a3 a4 : FVec Ideal S1x64 .f32) : FVec Ideal S_ .f32 :=
  addf (subf (Host.exp (Host.reduceAdd (mulf (shapeCast S64 a1 shapeCasts_S1x64_S64) (shapeCast S64 a2 shapeCasts_S1x64_S64)) (constant S_ .f32 0x00000000#32) reducesTo_S64_S_d0 h_S_))
    (Host.exp (Host.reduceAdd (mulf (shapeCast S64 a3 shapeCasts_S1x64_S64) (shapeCast S64 a4 shapeCasts_S1x64_S64)) (constant S_ .f32 0x00000000#32) reducesTo_S64_S_d0 h_S_)))
    (constant S_ .f32 0x3E4CCCCD#32)

/-- The two maps, combined. -/
def combined (w : FVec Ideal S1x2x8x16384x16384 .f32) (l : FVec Ideal S_ .f32) : FVec Ideal S1x8x16384x16384 .f32 :=
  subf (shapeCast S1x8x16384x16384 (extractStridedSlice S1x1x8x16384x16384 ![0, 0, 0, 0, 0] w slices_S1x2x8x16384x16384_S1x1x8x16384x16384_0_0_0_0_0) shapeCasts_S1x1x8x16384x16384_S1x8x16384x16384)
    (mulf (broadcastInDim S1x8x16384x16384 ![] bcast_S_S1x8x16384x16384 l)
      (shapeCast S1x8x16384x16384 (extractStridedSlice S1x1x8x16384x16384 ![0, 1, 0, 0, 0] w slices_S1x2x8x16384x16384_S1x1x8x16384x16384_0_1_0_0_0) shapeCasts_S1x1x8x16384x16384_S1x8x16384x16384))

/-- The values, weighed. -/
def mixed (v : FVec Ideal S1x16384x8x128 .f32) (a : FVec Ideal S1x8x16384x16384 .f32) : FVec Ideal S1x16384x8x128 .f32 :=
  transpose S1x16384x8x128 [0, 3, 1, 2] (Host.dotGeneral dot_S1x16384x8x128_S1x8x16384x16384_S1x8x128x16384_1_3_3_2_02_01 none v a) transposes_S1x8x128x16384_S1x16384x8x128_0_3_1_2

/-- The norm over a head's columns. -/
def normed (o : FVec Ideal S1x16384x8x128 .f32) (g : FVec Ideal S1x128 .f32) : FVec Ideal S16384x1024 .f32 :=
  shapeCast S16384x1024 (mulf (mulf (mulf o
      (broadcastInDim S1x16384x8x128 ![0, 1, 2, 3] bcast_S1x16384x8x1_S1x16384x8x128_0_1_2_3 (Host.rsqrt (addf (Host.divf (broadcastInDim S1x16384x8x1 ![0, 1, 2] bcast_S1x16384x8_S1x16384x8x1_0_1_2 (Host.reduceAdd (mulf o o) (constant S_ .f32 0x00000000#32) reducesTo_S1x16384x8x128_S1x16384x8_d3 h_S_)) (broadcastInDim S1x16384x8x1 ![] bcast_S_S1x16384x8x1 (constant S_ .f32 0x43000000#32))) (broadcastInDim S1x16384x8x1 ![] bcast_S_S1x16384x8x1 (constant S_ .f32 0x358637BD#32))))))
      (broadcastInDim S1x16384x8x128 ![0, 1, 2, 3] bcast_S1x1x1x128_S1x16384x8x128_0_1_2_3 (broadcastInDim S1x1x1x128 ![3] bcast_S128_S1x1x1x128_3 (shapeCast S128 g shapeCasts_S1x128_S128))))
      (broadcastInDim S1x16384x8x128 ![] bcast_S_S1x16384x8x128 (constant S_ .f32 0x3F4CCCCD#32))) shapeCasts_S1x16384x8x128_S16384x1024

/-- The reference's result is its stages composed. -/
theorem result_eq (m : (ℓ : Loc nD τ sig) → Buf (Elt Ideal) ℓ) (c : Dev nD) :
    Cert.ReferenceIdeal.Value.res_main_v61 m c =
      normed (mixed (m ((c.tc : Thread nD τ).loc main_arg8))
        (combined (weights (exps (scores (m ((c.tc : Thread nD τ).loc main_arg6)) (m ((c.tc : Thread nD τ).loc main_arg7)))
            (greatest (scores (m ((c.tc : Thread nD τ).loc main_arg6)) (m ((c.tc : Thread nD τ).loc main_arg7))))))
          (lam (m ((c.tc : Thread nD τ).loc main_arg1)) (m ((c.tc : Thread nD τ).loc main_arg2)) (m ((c.tc : Thread nD τ).loc main_arg3)) (m ((c.tc : Thread nD τ).loc main_arg4)))))
        (m ((c.tc : Thread nD τ).loc main_arg5)) := by
  unfold Cert.ReferenceIdeal.Value.res_main_v61
  rfl

end Cert.ReferenceIdeal.Stage
-- ==== Proof.RefAt.lean ====
module

public import proofs.«01_k».proof.Proof.Ref
public import proofs.«01_k».proof.Proof.Spec
public import Idealize.ShloMosaic.Lib.Pointwise
public import Idealize.ShloMosaic.Lib.WordCmp

/-!
# The reference's stages at an index
-/

@[expose] public section

set_option maxRecDepth 16384

noncomputable section

namespace Cert.ReferenceIdeal.Stage

open Cert.ReferenceIdeal Cert.ReferenceIdeal.Gen Cert.Attn Idealize.ShloMosaic Idealize.ShloMosaic.TcCoe Idealize.ShloMosaic.WordCmp
open scoped BigOperators

/-! ## The stages at an index -/

/-- Floor division by 64 as the host prints it. -/
def floor64 (x : BitVec 32) : BitVec 32 :=
  Scalar.select
      (IntOp.andi
        (IntOp.cmpi CmpIPredicate.ne
          (if x = 0 then 0 else if x.msb = true then -1 else 1)
          (if (64#32 : BitVec 32) = 0 then 0
          else if (64#32 : BitVec 32).msb = true then -1 else (1 : BitVec 32)))
        (IntOp.cmpi CmpIPredicate.ne (IntOp.remsi ArithUnit.host x 64#32)
          0#32))
      (IntOp.subi (IntOp.divsi ArithUnit.host x 64#32) 1#32)
      (IntOp.divsi ArithUnit.host x 64#32)

theorem floor64_ofNat (n : ℕ) (hn : n < 16384) : floor64 (BitVec.ofNat 32 n) = BitVec.ofNat 32 (n / 64) := by
  unfold floor64
  rcases Nat.eq_zero_or_pos n with rfl | hpos
  · decide
  have hm : (BitVec.ofNat 32 n).msb = false := by
    rw [BitVec.msb_eq_false_iff_two_mul_lt, BitVec.toNat_ofNat]; omega
  have h0 : BitVec.ofNat 32 n ≠ 0 := fun h => by
    have := congrArg BitVec.toNat h
    rw [BitVec.toNat_ofNat, Nat.mod_eq_of_lt (by omega)] at this
    simp at this; omega
  have hc : ∀ c : BitVec 1, ¬IntOp.andi (IntOp.cmpi CmpIPredicate.ne (1 : BitVec 32) 1) c = 1 := by decide
  rw [if_neg h0, if_neg (by rw [hm]; exact Bool.false_ne_true), if_neg (by decide), if_neg (by decide)]
  show (if _ then _ else _) = _
  rw [if_neg (hc _)]
  unfold IntOp.divsi
  rw [if_neg (IntOp.not_corner_of_pos (by decide))]
  rw [BitVec.sdiv_eq, hm, show (64#32 : BitVec 32).msb = false from rfl]
  apply BitVec.eq_of_toNat_eq
  simp only [BitVec.udiv_eq, BitVec.toNat_udiv, BitVec.toNat_ofNat]
  rw [Nat.mod_eq_of_lt (a := n) (by omega), Nat.mod_eq_of_lt (a := 64) (by omega), Nat.mod_eq_of_lt (a := n / 64) (by omega)]

theorem keyChunk_apply (j : Fin 16384) : keyChunk (ix2 (0 : Fin 1) j) = BitVec.ofNat 32 (j.val / 64) := by
  pointwise [keyChunk]
  exact floor64_ofNat j.val j.isLt

theorem queryChunk_apply (j : Fin 16384) : queryChunk (ix2 j (0 : Fin 1)) = BitVec.ofNat 32 (j.val / 64) := by
  pointwise [queryChunk]
  exact floor64_ofNat j.val j.isLt

theorem scores_apply (q k : FVec Ideal S1x16384x8x2x64 .f32) (p : Fin 2) (h : Fin 8) (r j : Fin 16384) (f g : Fin 64 → ℝ)
    (hq : ∀ d, q (ix5 (0 : Fin 1) r h p d) = (f d : EReal)) (hk : ∀ d, k (ix5 (0 : Fin 1) j h p d) = (g d : EReal)) :
    scores q k (ix5 (0 : Fin 1) p h r j) = masked (j.val / 64 ≤ r.val / 64) ((∑ d, f d * g d) * (1 / 8)) := by
  pointwise [scores, seen]
  rw [keyChunk_apply, queryChunk_apply, cmpi_sle_ofNat (by omega) (by omega), select_ofBool, sum_mul_real _ _ _ _ hq hk, ofBits_eighth,
    ← EReal.coe_mul]
  unfold masked
  by_cases hs : j.val / 64 ≤ r.val / 64
  · rw [if_pos hs, if_pos (by simpa using hs)]
  · rw [if_neg hs, if_neg (by simpa using hs)]
    exact ofBits_bot

theorem exps_apply (s : FVec Ideal S1x2x8x16384x16384 .f32) (g : FVec Ideal S1x2x8x16384 .f32) (p : Fin 2) (h : Fin 8) (r j : Fin 16384) :
    exps s g (ix5 (0 : Fin 1) p h r j) = Ideal.exp (s (ix5 (0 : Fin 1) p h r j) - g (ix4 (0 : Fin 1) p h r)) := by
  pointwise [exps]

theorem weights_apply (s : FVec Ideal S1x2x8x16384x16384 .f32) (p : Fin 2) (h : Fin 8) (r j : Fin 16384) :
    weights s (ix5 (0 : Fin 1) p h r j) = Ideal.div (s (ix5 (0 : Fin 1) p h r j)) (∑ x, s (ix5 (0 : Fin 1) p h r x)) := by
  pointwise [weights]

theorem lam_apply (a1 a2 a3 a4 : FVec Ideal S1x64 .f32) :
    lam a1 a2 a3 a4 ix0 = share (fun x => a1 (ix2 (0 : Fin 1) x)) (fun x => a2 (ix2 (0 : Fin 1) x)) (fun x => a3 (ix2 (0 : Fin 1) x))
      (fun x => a4 (ix2 (0 : Fin 1) x)) := by
  pointwise [lam]
  rfl

theorem combined_apply (w : FVec Ideal S1x2x8x16384x16384 .f32) (l : FVec Ideal S_ .f32) (h : Fin 8) (r j : Fin 16384) :
    combined w l (ix4 (0 : Fin 1) h r j) = w (ix5 (0 : Fin 1) (0 : Fin 2) h r j) - l ix0 * w (ix5 (0 : Fin 1) (1 : Fin 2) h r j) := by
  pointwise [combined]

theorem mixed_apply (v : FVec Ideal S1x16384x8x128 .f32) (a : FVec Ideal S1x8x16384x16384 .f32) (r : Fin 16384) (h : Fin 8) (e : Fin 128) :
    mixed v a (ix4 (0 : Fin 1) r h e) = ∑ j, v (ix4 (0 : Fin 1) j h e) * a (ix4 (0 : Fin 1) h r j) := by
  pointwise [mixed]

theorem normed_apply (o : FVec Ideal S1x16384x8x128 .f32) (g : FVec Ideal S1x128 .f32) (r : Fin 16384) (h : Fin 8) (e : Fin 128)
    (hl : 128 * h.val + e.val < 1024) :
    normed o g (ix2 r ⟨128 * h.val + e.val, hl⟩) = norm (fun x => o (ix4 (0 : Fin 1) r h x)) (g (ix2 (0 : Fin 1) e)) e := by
  have h1 : (128 * h.val + e.val) / 128 = h.val := by omega
  have h2 : (128 * h.val + e.val) % 128 = e.val := by omega
  pointwise [normed]
  rfl

/-! ## The greatest score of a row -/

/-- The greatest of an array's fiber of masked scores, one of them let through, is a real number. -/
theorem reduce_max_real {s t u : Shape} {axes : List (Fin s.rank)} (x : FVec Ideal s .f32) (h : s.ReducesTo axes t) (hu : 0 < u.numel)
    (j : t.Idx) (B : FVec Ideal t .f32) (hB : B j = ⊥) (hx : ∀ i, h.drop i = j → ∃ (b : Prop) (_ : Decidable b) (y : ℝ), x i = masked b y) (i0 : s.Idx) (hi0 : h.drop i0 = j)
    (y0 : ℝ) (h0 : x i0 = (y0 : EReal)) :
    ∃ μ : ℝ, maximumf B (Host.reduce FloatOps.maximumf x (constant u .f32 0xFF800000#32) h hu) j = (μ : EReal) := by
  classical
  show ∃ μ : ℝ, max (B j) (Host.reduce FloatOps.maximumf x (constant u .f32 0xFF800000#32) h hu j) = (μ : EReal)
  rw [hB, Host.reduce_eq_fold]
  show ∃ μ : ℝ, max ⊥ (Finset.fold max (Ideal.ofBits .f32 0xFF800000#32) x _) = (μ : EReal)
  rw [ofBits_bot]
  have hmem : i0 ∈ Finset.univ.filter fun i => h.drop i = j := Finset.mem_filter.mpr ⟨Finset.mem_univ _, hi0⟩
  have e : Finset.fold max ⊥ x (Finset.univ.filter fun i => h.drop i = j)
      = Finset.fold max ⊥ (fun i => masked (x i ≠ ⊥) (x i).toReal) (Finset.univ.filter fun i => h.drop i = j) := by
    apply Finset.fold_congr
    intro i hi
    obtain ⟨b, hb, y, hy⟩ := hx i (Finset.mem_filter.mp hi).2
    rw [hy]
    unfold masked
    by_cases hbb : b
    · rw [if_pos hbb, if_pos (EReal.coe_ne_bot y), EReal.toReal_coe]
    · rw [if_neg hbb, if_neg (by simp)]
  rw [e]
  exact fold_masked _ (fun i => x i ≠ ⊥) (fun i => (x i).toReal) ⊥ (Or.inl rfl) (Or.inr ⟨i0, hmem, by rw [h0]; exact EReal.coe_ne_bot _⟩)

theorem drop_row (p : Fin 2) (h : Fin 8) (r j : Fin 16384) :
    (reducesTo_S1x2x8x16384x16384_S1x2x8x16384_d4).drop (ix5 (0 : Fin 1) p h r j) = ix4 (0 : Fin 1) p h r := by
  funext b
  apply Fin.ext
  match b with
  | ⟨0, _⟩ => exact Shape.ReducesTo.drop_apply_val_of_eq reducesTo_S1x2x8x16384x16384_S1x2x8x16384_d4 _ 0 0
  | ⟨1, _⟩ => exact Shape.ReducesTo.drop_apply_val_of_eq reducesTo_S1x2x8x16384x16384_S1x2x8x16384_d4 _ 1 1
  | ⟨2, _⟩ => exact Shape.ReducesTo.drop_apply_val_of_eq reducesTo_S1x2x8x16384x16384_S1x2x8x16384_d4 _ 2 2
  | ⟨3, _⟩ => exact Shape.ReducesTo.drop_apply_val_of_eq reducesTo_S1x2x8x16384x16384_S1x2x8x16384_d4 _ 3 3

end Cert.ReferenceIdeal.Stage
-- ==== Proof.RefRow.lean ====
module

public import proofs.«01_k».proof.Proof.RefAt
public import proofs.«01_k».proof.Proof.Spec
public import Idealize.ShloMosaic.Lib.Pointwise
public import Idealize.ShloMosaic.Lib.WordCmp

/-!
# The reference's result at an index
-/

@[expose] public section

set_option maxRecDepth 16384

noncomputable section

namespace Cert.ReferenceIdeal.Stage

open Cert.ReferenceIdeal Cert.ReferenceIdeal.Gen Cert.Attn Idealize.ShloMosaic Idealize.ShloMosaic.TcCoe Idealize.ShloMosaic.WordCmp
open scoped BigOperators

/-! ## The greatest score of a row -/

theorem greatest_real (s : FVec Ideal S1x2x8x16384x16384 .f32) (p : Fin 2) (h : Fin 8) (r : Fin 16384)
    (hx : ∀ j, ∃ (b : Prop) (_ : Decidable b) (y : ℝ), s (ix5 (0 : Fin 1) p h r j) = masked b y) (y0 : ℝ)
    (h0 : s (ix5 (0 : Fin 1) p h r r) = (y0 : EReal)) :
    ∃ μ : ℝ, greatest s (ix4 (0 : Fin 1) p h r) = (μ : EReal) := by
  unfold greatest
  refine reduce_max_real s reducesTo_S1x2x8x16384x16384_S1x2x8x16384_d4 h_S_ (ix4 (0 : Fin 1) p h r) _ ofBits_bot
    (fun i hi => ?_) (ix5 (0 : Fin 1) p h r r) (drop_row p h r r) y0 h0
  obtain ⟨a, p', h', r', j, rfl⟩ : ∃ (a : Fin 1) (p' : Fin 2) (h' : Fin 8) (r' j : Fin 16384), i = ix5 a p' h' r' j :=
    ⟨i 0, i 1, i 2, i 3, i 4, eq_ix5 i⟩
  obtain rfl : a = 0 := Subsingleton.elim _ _
  rw [drop_row] at hi
  obtain ⟨-, rfl, rfl, rfl⟩ := (ix4_inj ..).mp hi
  exact hx j

/-! ## The result at an index -/

section Result

variable {q k : FVec Ideal S1x16384x8x2x64 .f32} {v : FVec Ideal S1x16384x8x128 .f32} {h : Fin 8}
  {qr kr : Fin 2 → ℕ → Fin 64 → ℝ} {vr : Fin 128 → ℕ → ℝ}
  (hq : ∀ (p : Fin 2) (r : Fin 16384) d, q (ix5 (0 : Fin 1) r h p d) = ((qr p r d : ℝ) : EReal))
  (hk : ∀ (p : Fin 2) (j : Fin 16384) d, k (ix5 (0 : Fin 1) j h p d) = ((kr p j d : ℝ) : EReal))
  (hv : ∀ (e : Fin 128) (j : Fin 16384), v (ix4 (0 : Fin 1) j h e) = ((vr e j : ℝ) : EReal))

include hq hk in
theorem softmax_apply (p : Fin 2) (r j : Fin 16384) :
    weights (exps (scores q k) (greatest (scores q k))) (ix5 (0 : Fin 1) p h r j)
      = ((wt (j.val / 64 ≤ r.val / 64) (sigma (qr p) (kr p) r j)
          / WSum (fun j => j / 64 ≤ r.val / 64) (sigma (qr p) (kr p) r) (fun _ => 1) 16384 : ℝ) : EReal) := by
  have hs := fun j : Fin 16384 => scores_apply q k p h r j (qr p r) (kr p j) (hq p r) (hk p j)
  obtain ⟨ν, hν⟩ := greatest_real (scores q k) p h r (fun j => ⟨_, _, _, hs j⟩) _ (by rw [hs]; unfold masked; rw [if_pos le_rfl])
  rw [weights_apply]
  exact softmax_weight (fun j => j / 64 ≤ r.val / 64) (sigma (qr p) (kr p) r) (fun j => (∑ d, qr p r d * kr p j d) * (1 / 8))
    (fun j => two_pow_scale _) ν ⟨r.val, r.isLt, le_rfl⟩
    (fun j => exps (scores q k) (greatest (scores q k)) (ix5 (0 : Fin 1) p h r j))
    (fun j => by rw [exps_apply, hν, hs]) j

include hq hk hv in
theorem mixed_real (l : FVec Ideal S_ .f32) (lr : ℝ) (hl : l ix0 = (lr : EReal)) (r : Fin 16384) (e : Fin 128) :
    mixed v (combined (weights (exps (scores q k) (greatest (scores q k)))) l) (ix4 (0 : Fin 1) r h e)
      = ((blend (qr 0) (kr 0) (qr 1) (kr 1) lr (vr e) r : ℝ) : EReal) := by
  rw [mixed_apply]
  exact weighed (fun j => j / 64 ≤ r.val / 64) (sigma (qr 0) (kr 0) r) (sigma (qr 1) (kr 1) r) lr (vr e) _ _ _ _
    (fun j => hv e j) fun j => by rw [combined_apply, softmax_apply hq hk, softmax_apply hq hk, hl]

end Result

end Cert.ReferenceIdeal.Stage
-- ==== Proof.RefOut.lean ====
module

public import proofs.«01_k».proof.Proof.Out
public import proofs.«01_k».proof.Proof.RefRow

/-!
# Both results, element by element
-/

@[expose] public section

set_option maxRecDepth 16384

noncomputable section

namespace Cert.KernelIdeal.Steps

open Cert.KernelIdeal.Gen Cert.KernelIdeal.Attn Cert.Attn
open Idealize.ShloMosaic Idealize.ShloMosaic.TcCoe Idealize.ShloMosaic.WordCmp
open Idealize.ShloMosaic.Pipeline (Dat)
open scoped BigOperators

variable (m : (ℓ : Loc nD τ sig) → Buf (Elt Ideal) ℓ) (c : Dev nD)

/-- The result: row by row, a head's columns side by side. -/
def result (l : ℝ) : Vec Ideal S16384x1024 .f32 := fun y =>
  rowOf m c l ⟨(y 1).val / 128, by have := (y 1).isLt; have e : S16384x1024.size 1 = 1024 := rfl; omega⟩ (y 0).val
    ⟨(y 1).val % 128, by omega⟩

theorem result_apply (l : ℝ) (r : Fin 16384) (h : Fin 8) (e : Fin 128) (p : Fin 1024) (hp : p.val = 128 * h.val + e.val) :
    result m c l (ix2 r p) = rowOf m c l h r.val e := by
  have h1 : (⟨p.val / 128, by omega⟩ : Fin 8) = h := Fin.ext (by show p.val / 128 = h.val; omega)
  have h2 : (⟨p.val % 128, by omega⟩ : Fin 128) = e := Fin.ext (by show p.val % 128 = e.val; omega)
  show rowOf m c l ⟨p.val / 128, _⟩ r.val ⟨p.val % 128, _⟩ = _
  rw [h1, h2]

/-- The kernel's result. -/
theorem kernel_result (hQ : IsReal (argQ m c)) (hK : IsReal (argK m c)) (hV : IsReal (argV m c)) (l : ℝ) (hl : shareOf m c = (l : EReal)) :
    (dats m 0 c).arrAt 9 cfg0.N = result m c l := by
  refine (dats m 0 c).arrAt_eq_of_covers 9 _ (by decide +kernel) fun t hf y => ?_
  blk_simp
  rw [after0_9]
  obtain ⟨r, e, rfl⟩ : ∃ (r : Fin 1024) (e : Fin 128), y = ix2 r e := ⟨y 0, y 1, eq_ix2 y⟩
  have hr := rowsOf_lt (grid0.coords t)
  have hh := (headOf (grid0.coords t)).isLt
  have hy : ((cfg0.win 9).blk t).view.emb (ix2 r e)
      = ix2 (⟨1024 * rowsOf (grid0.coords t) + r.val, by omega⟩ : Fin 16384)
        (⟨128 * (headOf (grid0.coords t)).val + e.val, by omega⟩ : Fin 1024) := by
    blk_ext [idx t, rowsOf, headOf]
  have e1 := outAt_apply m c t hQ hK hV l hl r e
  have e2 := result_apply m c l ⟨1024 * rowsOf (grid0.coords t) + r.val, by omega⟩ (headOf (grid0.coords t)) e
    ⟨128 * (headOf (grid0.coords t)).val + e.val, by omega⟩ rfl
  have e3 := congrArg (result m c l) hy
  exact (e1.trans e2.symm).trans e3.symm

end Cert.KernelIdeal.Steps

namespace Cert.ReferenceIdeal.Stage

open Cert.ReferenceIdeal Cert.ReferenceIdeal.Gen Cert.Attn Idealize.ShloMosaic Idealize.ShloMosaic.TcCoe
open Cert.KernelIdeal.Steps (IsReal mapsOf valuesOf mapsOf_eq valuesOf_eq)

/-- A row of the reference's result. -/
theorem reference_row (a1 a2 a3 a4 : FVec Ideal S1x64 .f32) (g : FVec Ideal S1x128 .f32) (q k : FVec Ideal S1x16384x8x2x64 .f32)
    (v : FVec Ideal S1x16384x8x128 .f32) (hQ : IsReal q) (hK : IsReal k) (hV : IsReal v) (l : ℝ)
    (hl : share (fun x => a1 (ix2 (0 : Fin 1) x)) (fun x => a2 (ix2 (0 : Fin 1) x)) (fun x => a3 (ix2 (0 : Fin 1) x))
      (fun x => a4 (ix2 (0 : Fin 1) x)) = (l : EReal)) (r : Fin 16384) (h : Fin 8) (e : Fin 128) (hp : 128 * h.val + e.val < 1024) :
    normed (mixed v (combined (weights (exps (scores q k) (greatest (scores q k)))) (lam a1 a2 a3 a4))) g (ix2 r ⟨128 * h.val + e.val, hp⟩)
      = norm (fun x => ((blend (mapsOf q h 0) (mapsOf k h 0) (mapsOf q h 1) (mapsOf k h 1) l (valuesOf v h x) r.val : ℝ) : EReal))
        (g (ix2 (0 : Fin 1) e)) e := by
  refine (normed_apply _ g r h e hp).trans ?_
  refine congrArg (fun o : Fin 128 → EReal => norm o (g (ix2 (0 : Fin 1) e)) e) (funext fun x => ?_)
  exact mixed_real (fun p r d => mapsOf_eq hQ h p r d) (fun p j d => mapsOf_eq hK h p j d) (fun e j => valuesOf_eq hV h e j) _ l
    ((lam_apply a1 a2 a3 a4).trans hl) r x

end Cert.ReferenceIdeal.Stage
-- ==== Proof.Equal.lean ====
module

public import proofs.«01_k».proof.Proof.Finite
public import proofs.«01_k».proof.Proof.RefOut

/-!
# The two results are equal
-/

@[expose] public section

set_option maxRecDepth 16384

noncomputable section

namespace Cert.Attn

open Cert.KernelIdeal.Steps Cert.ReferenceIdeal.Stage
open Idealize.ShloMosaic Idealize.ShloMosaic.TcCoe

/-- The reference's result, of the kernel's arguments, is the kernel's result. -/
theorem results_eq (m : (ℓ : Loc Cert.KernelIdeal.nD Cert.KernelIdeal.τ Cert.KernelIdeal.sig) → Buf (Elt Ideal) ℓ)
    (c : Dev Cert.KernelIdeal.nD) (a1 a2 a3 a4 : FVec Ideal Cert.ReferenceIdeal.S1x64 .f32) (g : FVec Ideal Cert.ReferenceIdeal.S1x128 .f32)
    (h1 : m ((c.tc : Thread _ Cert.KernelIdeal.τ).loc Cert.KernelIdeal.main_arg1) = a1)
    (h2 : m ((c.tc : Thread _ Cert.KernelIdeal.τ).loc Cert.KernelIdeal.main_arg2) = a2)
    (h3 : m ((c.tc : Thread _ Cert.KernelIdeal.τ).loc Cert.KernelIdeal.main_arg3) = a3)
    (h4 : m ((c.tc : Thread _ Cert.KernelIdeal.τ).loc Cert.KernelIdeal.main_arg4) = a4)
    (h5 : m ((c.tc : Thread _ Cert.KernelIdeal.τ).loc Cert.KernelIdeal.main_arg5) = g)
    (r1 : IsReal a1) (r2 : IsReal a2) (r3 : IsReal a3) (r4 : IsReal a4)
    (hQ : IsReal (argQ m c)) (hK : IsReal (argK m c)) (hV : IsReal (argV m c)) :
    normed (mixed (argV m c) (combined (weights (exps (scores (argQ m c) (argK m c)) (greatest (scores (argQ m c) (argK m c))))) (lam a1 a2 a3 a4))) g
      = (Cert.KernelIdeal.Attn.dats m 0 c).arrAt 9 Cert.KernelIdeal.cfg0.N := by
  obtain ⟨l, hl⟩ := share_real (fun x => a1 (ix2 (0 : Fin 1) x)) (fun x => a2 (ix2 (0 : Fin 1) x)) (fun x => a3 (ix2 (0 : Fin 1) x))
    (fun x => a4 (ix2 (0 : Fin 1) x)) _ _ _ _ (fun x => r1 _) (fun x => r2 _) (fun x => r3 _) (fun x => r4 _)
  have hs : shareOf m c = (l : EReal) := by
    unfold shareOf
    rw [h1, h2, h3, h4]
    exact hl
  rw [kernel_result m c hQ hK hV l hs]
  funext y
  obtain ⟨r, p, rfl⟩ : ∃ (r : Fin 16384) (p : Fin 1024), y = ix2 r p := ⟨y 0, y 1, eq_ix2 y⟩
  obtain ⟨h, e, hp⟩ : ∃ (h : Fin 8) (e : Fin 128), p.val = 128 * h.val + e.val :=
    ⟨⟨p.val / 128, by omega⟩, ⟨p.val % 128, by omega⟩, by show p.val = 128 * (p.val / 128) + p.val % 128; omega⟩
  have hb : 128 * h.val + e.val < 1024 := by omega
  obtain rfl : p = ⟨128 * h.val + e.val, hb⟩ := Fin.ext hp
  have e1 := reference_row a1 a2 a3 a4 g (argQ m c) (argK m c) (argV m c) hQ hK hV l hl r h e hb
  have e2 := result_apply m c l r h e ⟨128 * h.val + e.val, hb⟩ rfl
  unfold rowOf at e2
  rw [h5] at e2
  exact e1.trans e2.symm

end Cert.Attn
-- ==== Proof.ProjectSpec.lean ====
module

public import proofs.«01_k».proof.Proof.Spec

/-!
# What the input projection computes

The rows of the input normed and multiplied with the weights, and the norm over the 64 lanes of a head that queries and keys
get. Both programs are shown to compute this; the kernel takes the lanes' mean by two products with a matrix of ones over 64,
of the squares and of what the squares lose in rounding.
-/

@[expose] public section

noncomputable section

namespace Cert.Proj

open Idealize.ShloMosaic Cert.Attn
open scoped BigOperators

/-- An element of the normed row `x`, with the column's gain `g`. -/
def scaled (x : Fin 2048 → EReal) (g : EReal) (d : Fin 2048) : EReal :=
  x d * Ideal.rsqrt (Ideal.div (∑ y, x y * x y) (Ideal.ofBits .f32 0x45000000#32) + Ideal.ofBits .f32 0x358637BD#32) * g

/-- An element of the normed 64 lanes `y`, with the lane's gain `g`. -/
def lanes (y : Fin 64 → EReal) (g : EReal) (d : Fin 64) : EReal :=
  y d * Ideal.rsqrt (Ideal.div (∑ x, y x * y x) (Ideal.ofBits .f32 0x42800000#32) + Ideal.ofBits .f32 0x358637BD#32) * g

/-- The kernel's form of it: the mean as two products with the column `s` of a matrix. -/
def segments (y s : Fin 1024 → EReal) (g : EReal) (n : Fin 1024) : EReal :=
  y n * Ideal.rsqrt (∑ j, y j * y j * s j + ∑ j, (y j * y j - y j * y j) * s j + Ideal.ofBits .f32 0x358637BD#32) * g

theorem ofBits_2048 : Ideal.ofBits .f32 0x45000000#32 = ((2048 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem div_real (a b : ℝ) (hb : b ≠ 0) : Ideal.div (a : EReal) (b : EReal) = ((a / b : ℝ) : EReal) := by
  have hb' : (b : EReal) ≠ 0 := by exact_mod_cast hb
  unfold Ideal.div
  rw [if_neg hb', ← EReal.coe_inv, ← EReal.coe_mul, div_eq_mul_inv]

theorem sq_nonneg (a : EReal) : 0 ≤ a * a := by
  rcases le_total 0 a with h | h
  · exact mul_nonneg h h
  · have := mul_nonneg (EReal.neg_nonneg.2 h) (EReal.neg_nonneg.2 h)
    rwa [neg_mul_neg] at this

/-- A normed row is real whatever the input holds: a row with an infinite element is scaled by zero. -/
theorem scaled_real (x : Fin 2048 → EReal) (g : ℝ) (d : Fin 2048) : ∃ z : ℝ, scaled x (g : EReal) d = (z : EReal) := by
  obtain ⟨e, he, hE⟩ := ofBits_eps
  unfold scaled
  rw [ofBits_2048, hE]
  by_cases ht : ∑ y, x y * x y = ⊤
  · have : Ideal.rsqrt (Ideal.div (⊤ : EReal) ((2048 : ℝ) : EReal) + (e : EReal)) = 0 := by
      have h1 : Ideal.div (⊤ : EReal) ((2048 : ℝ) : EReal) = ⊤ := by
        unfold Ideal.div
        rw [if_neg (by exact_mod_cast (by norm_num : (2048 : ℝ) ≠ 0)), ← EReal.coe_inv, EReal.top_mul_coe_of_pos (by norm_num)]
      rw [h1, EReal.top_add_coe]; rfl
    rw [ht, this]
    exact ⟨0, by simp⟩
  · have hx : ∀ y, x y = ((x y).toReal : EReal) := fun y => by
      have hle : x y * x y ≤ ∑ y, x y * x y := Finset.single_le_sum (f := fun y => x y * x y) (fun i _ => sq_nonneg _) (Finset.mem_univ y)
      refine (EReal.coe_toReal (fun h => ht ?_) (fun h => ht ?_)).symm
      all_goals
        rw [h] at hle
        exact top_le_iff.1 (by simpa using hle)
    rw [sum_mul_real _ _ _ _ hx hx, div_real _ _ (by norm_num), ← EReal.coe_add, hx d]
    have hpos : 0 < (∑ y, (x y).toReal * (x y).toReal) / 2048 + e := by
      have : 0 ≤ ∑ y, (x y).toReal * (x y).toReal := Finset.sum_nonneg fun y _ => mul_self_nonneg _
      positivity
    generalize (∑ y, (x y).toReal * (x y).toReal) / 2048 + e = s at hpos
    have : Ideal.rsqrt (s : EReal) = (((Real.sqrt s)⁻¹ : ℝ) : EReal) := by
      show (if s < 0 then ⊥ else if s = 0 then ⊤ else _) = _
      rw [if_neg hpos.not_gt, if_neg hpos.ne']
    rw [this, ← EReal.coe_mul, ← EReal.coe_mul]
    exact ⟨_, rfl⟩

/-- A product of a normed row with real weights is real. -/
theorem product_real (x : Fin 2048 → EReal) (g w : Fin 2048 → ℝ) : ∃ z : ℝ, ∑ d, scaled x (g d : EReal) d * (w d : EReal) = (z : EReal) := by
  choose z hz using fun d => scaled_real x (g d) d
  exact ⟨_, sum_mul_real _ _ z w hz fun _ => rfl⟩

/-- The sum over one segment of 64 of 1024 columns. -/
theorem sum_segment (f : Fin 1024 → ℝ) (b : Fin 16) :
    (∑ j : Fin 1024, f j * (if j.val / 64 = b.val then 1 / 64 else 0)) = (∑ x : Fin 64, f ⟨64 * b.val + x.val, by omega⟩) / 64 := by
  have h : (∑ j : Fin 1024, f j * (if j.val / 64 = b.val then 1 / 64 else 0))
      = ∑ p : Fin 16 × Fin 64, f (finProdFinEquiv p) * (if p.1 = b then 1 / 64 else 0) := by
    refine (Fintype.sum_equiv (finProdFinEquiv (m := 16) (n := 64)) _ _ fun p => ?_).symm
    have hd : (finProdFinEquiv p : Fin (16 * 64)).val / 64 = p.1.val := by
      rw [finProdFinEquiv_apply_val]; omega
    simp only [hd, Fin.ext_iff]
  rw [h, Fintype.sum_prod_type, Finset.sum_eq_single b, Finset.sum_div]
  · refine Finset.sum_congr rfl fun x _ => ?_
    rw [if_pos rfl, mul_one_div]
    congr 2
    exact Fin.ext (by rw [finProdFinEquiv_apply_val]; exact add_comm _ _)
  · intro p _ hp
    exact Finset.sum_eq_zero fun x _ => by rw [if_neg hp, mul_zero]
  · intro h; exact absurd (Finset.mem_univ b) h

/-- On real columns the kernel's form is the norm over the segment's lanes. -/
theorem segments_eq (y s : Fin 1024 → EReal) (f : Fin 1024 → ℝ) (g : EReal) (b : Fin 16) (d : Fin 64) (hn : 64 * b.val + d.val < 1024)
    (hy : ∀ j, y j = (f j : EReal)) (hs : ∀ j, s j = if j.val / 64 = b.val then Ideal.ofBits .f32 0x3C800000#32 else 0) :
    segments y s g ⟨64 * b.val + d.val, hn⟩ = lanes (fun x => y ⟨64 * b.val + x.val, by omega⟩) g d := by
  have hs' : ∀ j, s j = ((if j.val / 64 = b.val then 1 / 64 else 0 : ℝ) : EReal) := fun j => by
    rw [hs, ofBits_64th]; split <;> simp
  unfold segments lanes
  rw [sum_mul_real _ _ (fun j => f j * f j) _ (fun j => by rw [hy, EReal.coe_mul]) hs', sum_segment,
    sum_mul_real (fun j => y j * y j - y j * y j) s (fun _ => 0) _ (fun j => by rw [hy, ← EReal.coe_mul, ← EReal.coe_sub, sub_self]) hs',
    sum_mul_real _ _ (fun x : Fin 64 => f ⟨64 * b.val + x.val, by omega⟩) _ (fun x => hy _) (fun x => hy _), ofBits_64, div_real _ _ (by norm_num)]
  simp

end Cert.Proj
-- ==== Proof.ProjectPay.lean ====
module

public import proofs.«01_k».proof.Proof.ProjectSpec
public import proofs.«01_k».proof.Proof.RefAt
public import proofs.«01_k».proof.Proof.Gen.ProjectIdeal.Frame
public import Idealize.ShloMosaic.Lib.Pointwise
public import Idealize.ShloMosaic.Lib.WordCmp

/-!
# The projection's stored blocks at an index
-/

@[expose] public section

set_option maxRecDepth 16384

noncomputable section

namespace Cert.ProjectIdeal.Steps

open Cert.ProjectIdeal.Gen Cert.Proj
open Idealize.ShloMosaic Idealize.ShloMosaic.TcCoe Idealize.ShloMosaic.WordCmp
open scoped BigOperators

theorem rows_apply (x : Vec Ideal S256x2048 .f32) (g : Vec Ideal S1x2048 .f32) (r : Fin 256) (d : Fin 2048) :
    k0_pay3 x g (ix2 r d) = scaled (fun y => x (ix2 r y)) (g (ix2 (0 : Fin 1) d)) d := by
  pointwise [k0_pay3]
  rfl

theorem product_apply (x : FVec Ideal S256x2048 .bf16) (w : Vec Ideal S2048x1024 .bf16) (r : Fin 256) (n : Fin 1024) :
    k0_pay2 x w (ix2 r n) = ∑ d, x (ix2 r d) * w (ix2 d n) := by
  pointwise [k0_pay2]

theorem normed_apply (x : FVec Ideal S256x2048 .bf16) (w : Vec Ideal S2048x1024 .bf16) (g : Vec Ideal S1x1024 .f32) (s : Vec Ideal S1024x1024 .bf16)
    (r : Fin 256) (n : Fin 1024) :
    k0_pay5 x w g s s (ix2 r n) = segments (fun j => ∑ d, x (ix2 r d) * w (ix2 d j)) (fun j => s (ix2 j n)) (g (ix2 (0 : Fin 1) n)) n := by
  pointwise [k0_pay5]
  rfl

theorem pay4_eq (x : Vec Ideal S256x2048 .f32) (gm : Vec Ideal S1x2048 .f32) (w : Vec Ideal S2048x1024 .bf16) (g : Vec Ideal S1x1024 .f32) (s s' : Vec Ideal S1024x1024 .bf16) :
    k0_pay4 x gm w g s s' = k0_pay5 (k0_pay3 x gm) w g s s' := rfl

theorem pay7_eq (x : FVec Ideal S256x2048 .bf16) (w : Vec Ideal S2048x1024 .bf16) : k0_pay7 x w = k0_pay2 x w := rfl

end Cert.ProjectIdeal.Steps
-- ==== Proof.ProjectEntry.lean ====
module

public import proofs.«01_k».proof.Proof.ProjectPay
public import proofs.«01_k».proof.Proof.Gen.ProjectIdeal.Value
public import Idealize.ShloMosaic.Lib.Pipeline.Value
public import Idealize.ShloMosaic.Lib.Pipeline.ValueKit

/-!
# The projection's blocks of the arguments
-/

@[expose] public section

set_option maxRecDepth 16384

noncomputable section

namespace Cert.ProjectIdeal.Steps

open Cert.ProjectIdeal.Gen Cert.Proj
open Cert.ReferenceIdeal.Stage (floor64_ofNat)
open Idealize.ShloMosaic Idealize.ShloMosaic.TcCoe Idealize.ShloMosaic.WordCmp
open scoped BigOperators

/-- Which block each window shows at a point. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![0, 0] ∧ win0_6.index t = ![(grid0.coords t 0).val, 0]
    ∧ win0_7.index t = ![(grid0.coords t 0).val, 0] ∧ win0_9.index t = ![(grid0.coords t 0).val, 0]
    ∧ win0_11.index t = ![(grid0.coords t 0).val, 0] :=
  (by decide +kernel : ∀ t : Fin grid0.N, _)

variable (m : (ℓ : Loc nD τ sig) → Buf (Elt Ideal) ℓ) (c : Dev nD) (t : Fin cfg0.N)

/-- The arguments. -/
abbrev argX : Vec Ideal S1x16384x2048 .f32 := m ((c.tc : Thread nD τ).loc main_arg0)
abbrev argM : Vec Ideal S1x2048 .f32 := m ((c.tc : Thread nD τ).loc main_arg1)
abbrev argW : Vec Ideal S1x2048x4096 .f32 := m ((c.tc : Thread nD τ).loc main_arg2)
abbrev argGQ : Vec Ideal S1x64 .f32 := m ((c.tc : Thread nD τ).loc main_arg3)
abbrev argGK : Vec Ideal S1x64 .f32 := m ((c.tc : Thread nD τ).loc main_arg4)

/-- A point's block of rows. -/
def rowsOf (i : grid0.Coords) : Fin 64 := ⟨(i 0).val, (i 0).isLt⟩

/-! ## What the region is entered with -/

theorem entry_input (r : Fin 16384) (d : Fin 2048) :
    (V m c main_v19 : Vec Ideal S16384x2048 .f32) (ix2 r d) = argX m c (ix3 (0 : Fin 1) r d) := by
  unfold V
  simp only [List.flatten_cons, List.flatten_nil, List.append_nil, List.cons_append, List.nil_append]
  after_results_simp
  pointwise

theorem entry_mix (d : Fin 2048) : (V m c main_v21 : Vec Ideal S1x2048 .f32) (ix2 (0 : Fin 1) d) = argM m c (ix2 (0 : Fin 1) d) := by
  unfold V
  simp only [List.flatten_cons, List.flatten_nil, List.append_nil, List.cons_append, List.nil_append]
  after_results_simp
  pointwise

theorem entry_weights (d : Fin 2048) (n : Fin 4096) :
    (V m c main_v23 : Vec Ideal S2048x4096 .bf16) (ix2 d n) = argW m c (ix3 (0 : Fin 1) d n) := by
  unfold V
  simp only [List.flatten_cons, List.flatten_nil, List.append_nil, List.cons_append, List.nil_append]
  after_results_simp
  pointwise

/-- A column's segment. -/
def chunk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

theorem chunk_apply (j : Fin 1024) : chunk (ix1 j) = BitVec.ofNat 32 (j.val / 64) := by
  pointwise [chunk]
  exact floor64_ofNat j.val (by omega)

/-- The matrix of the segments. -/
def matrix : FVec Ideal S1024x1024 .bf16 :=
  truncf .bf16 (select (cmpi .eq (broadcastInDim S1024x1024 ![0, 1] bcast_S1024x1_S1024x1024_0_1 (broadcastInDim S1024x1 ![0] bcast_S1024_S1024x1_0 chunk))
      (broadcastInDim S1024x1024 ![0, 1] bcast_S1x1024_S1024x1024_0_1 (broadcastInDim S1x1024 ![1] bcast_S1024_S1x1024_1 chunk)))
    (broadcastInDim S1024x1024 ![] bcast_S_S1024x1024 (constant S_ .f32 0x3C800000#32))
    (broadcastInDim S1024x1024 ![] bcast_S_S1024x1024 (constant S_ .f32 0x00000000#32))) bitsLt_bf16_f32

theorem entry_matrix : (V m c main_v8 : Vec Ideal S1024x1024 .bf16) = matrix := by
  unfold V
  simp only [List.flatten_cons, List.flatten_nil, List.append_nil, List.cons_append, List.nil_append]
  after_results_simp
  rfl

theorem entry_segments (j n : Fin 1024) :
    (V m c main_v8 : Vec Ideal S1024x1024 .bf16) (ix2 j n) = (if j.val / 64 = n.val / 64 then Ideal.ofBits .f32 0x3C800000#32 else 0 : EReal) := by
  rw [entry_matrix]
  pointwise [matrix]
  rw [chunk_apply, chunk_apply]
  by_cases h : j.val / 64 = n.val / 64
  · rw [if_pos h, h]
    exact if_pos (by simp [IntOp.cmpi])
  · rw [if_neg h]
    have hne : BitVec.ofNat 32 (j.val / 64) ≠ BitVec.ofNat 32 (n.val / 64) := fun e => h (by
      have e' := congrArg BitVec.toNat e
      rw [BitVec.toNat_ofNat, BitVec.toNat_ofNat, Nat.mod_eq_of_lt (by omega), Nat.mod_eq_of_lt (by omega)] at e'
      exact e')
    have hb : IntOp.cmpi CmpIPredicate.eq (BitVec.ofNat 32 (j.val / 64)) (BitVec.ofNat 32 (n.val / 64)) = 0#1 := by
      show BitVec.ofBool (BitVec.ofNat 32 (j.val / 64) == BitVec.ofNat 32 (n.val / 64)) = 0#1
      rw [beq_eq_false_iff_ne.2 hne]
      rfl
    rw [hb]
    rfl

theorem entry_gain_q (n : Fin 1024) : (V m c main_v13 : Vec Ideal S1x1024 .f32) (ix2 (0 : Fin 1) n) = argGQ m c (ix2 (0 : Fin 1) ⟨n.val % 64, by omega⟩) := by
  unfold V
  simp only [List.flatten_cons, List.flatten_nil, List.append_nil, List.cons_append, List.nil_append]
  after_results_simp
  pointwise

theorem entry_gain_k (n : Fin 1024) : (V m c main_v18 : Vec Ideal S1x1024 .f32) (ix2 (0 : Fin 1) n) = argGK m c (ix2 (0 : Fin 1) ⟨n.val % 64, by omega⟩) := by
  unfold V
  simp only [List.flatten_cons, List.flatten_nil, List.append_nil, List.cons_append, List.nil_append]
  after_results_simp
  pointwise

/-! ## The windows -/

theorem block0 (r : Fin 256) (d : Fin 2048) : iblk m c 0 t (ix2 r d)
    = argX m c (ix3 (0 : Fin 1) ⟨256 * (rowsOf (grid0.coords t)).val + r.val, by omega⟩ d) := by
  refine Eq.trans ?_ (entry_input m c _ d)
  show (V m c main_v19 : Vec Ideal S16384x2048 .f32) _ = (V m c main_v19 : Vec Ideal S16384x2048 .f32) _
  blk_ext [idx t, rowsOf]

theorem block1 (d : Fin 2048) : iblk m c 1 t (ix2 (0 : Fin 1) d) = argM m c (ix2 (0 : Fin 1) d) := by
  refine Eq.trans ?_ (entry_mix m c d)
  show (V m c main_v21 : Vec Ideal S1x2048 .f32) _ = (V m c main_v21 : Vec Ideal S1x2048 .f32) _
  blk_ext [idx t]

theorem block2 (d : Fin 2048) (n : Fin 4096) : iblk m c 2 t (ix2 d n) = argW m c (ix3 (0 : Fin 1) d n) := by
  refine Eq.trans ?_ (entry_weights m c d n)
  show (V m c main_v23 : Vec Ideal S2048x4096 .bf16) _ = (V m c main_v23 : Vec Ideal S2048x4096 .bf16) _
  blk_ext [idx t]

theorem block3 (j n : Fin 1024) : iblk m c 3 t (ix2 j n) = (if j.val / 64 = n.val / 64 then Ideal.ofBits .f32 0x3C800000#32 else 0 : EReal) := by
  refine Eq.trans ?_ (entry_segments m c j n)
  show (V m c main_v8 : Vec Ideal S1024x1024 .bf16) _ = (V m c main_v8 : Vec Ideal S1024x1024 .bf16) _
  blk_ext [idx t]

theorem block4 (n : Fin 1024) : iblk m c 4 t (ix2 (0 : Fin 1) n) = argGQ m c (ix2 (0 : Fin 1) ⟨n.val % 64, by omega⟩) := by
  refine Eq.trans ?_ (entry_gain_q m c n)
  show (V m c main_v13 : Vec Ideal S1x1024 .f32) _ = (V m c main_v13 : Vec Ideal S1x1024 .f32) _
  blk_ext [idx t]

theorem block5 (n : Fin 1024) : iblk m c 5 t (ix2 (0 : Fin 1) n) = argGK m c (ix2 (0 : Fin 1) ⟨n.val % 64, by omega⟩) := by
  refine Eq.trans ?_ (entry_gain_k m c n)
  show (V m c main_v18 : Vec Ideal S1x1024 .f32) _ = (V m c main_v18 : Vec Ideal S1x1024 .f32) _
  blk_ext [idx t]

end Cert.ProjectIdeal.Steps
-- ==== Proof.ProjectOut.lean ====
module

public import proofs.«01_k».proof.Proof.ProjectEntry

/-!
# The projection's output arrays
-/

@[expose] public section

set_option maxRecDepth 16384

noncomputable section

namespace Cert.ProjectIdeal.Steps

open Cert.ProjectIdeal.Gen Cert.Proj
open Idealize.ShloMosaic Idealize.ShloMosaic.TcCoe Idealize.ShloMosaic.WordCmp
open scoped BigOperators

variable (m : (ℓ : Loc nD τ sig) → Buf (Elt Ideal) ℓ) (c : Dev nD) (t : Fin cfg0.N)

/-- An element of the product, from the arguments. -/
def productOf (r : Fin 16384) (n : Fin 4096) : EReal :=
  ∑ d, scaled (fun y => argX m c (ix3 (0 : Fin 1) r y)) (argM m c (ix2 (0 : Fin 1) d)) d * argW m c (ix3 (0 : Fin 1) d n)

/-- A point's row among all rows. -/
def rowOf (r : Fin 256) : Fin 16384 := ⟨256 * (rowsOf (grid0.coords t)).val + r.val, by omega⟩

/-- The rows of a point's block, multiplied with 1024 columns of the weights. -/
theorem product_block (o : ℕ) (ho : o + 1024 ≤ 4096) (w : Vec Ideal S2048x1024 .bf16)
    (hw : ∀ d n, w (ix2 d n) = iblk m c 2 t (ix2 d ⟨o + n.val, by omega⟩)) (r : Fin 256) (n : Fin 1024) :
    ∑ d, k0_pay3 (iblk m c 0 t) (iblk m c 1 t) (ix2 r d) * w (ix2 d n) = productOf m c (rowOf t r) ⟨o + n.val, by omega⟩ := by
  unfold productOf
  refine Finset.sum_congr rfl fun d _ => ?_
  rw [rows_apply, hw, block2, block1]
  congr 2
  funext y
  exact block0 m c t r y

/-- The columns of the product from `o`, as an array. -/
def plainOf (o : ℕ) (ho : o + 1024 ≤ 4096) : Vec Ideal S16384x1024 .f32 :=
  fun i => productOf m c ⟨(i 0).val, (i 0).isLt⟩ ⟨o + (i 1).val, by have : (i 1).val < 1024 := (i 1).isLt; omega⟩

/-- The columns of the product from `o` normed over each segment of 64 with the gain `g`, as an array. -/
def normedOf (o : ℕ) (ho : o + 1024 ≤ 4096) (g : Vec Ideal S1x64 .f32) : Vec Ideal S16384x1024 .f32 :=
  fun i => lanes (fun x => productOf m c ⟨(i 0).val, (i 0).isLt⟩ ⟨o + (64 * ((i 1).val / 64) + x.val), by have : (i 1).val < 1024 := (i 1).isLt; omega⟩)
    (g (ix2 (0 : Fin 1) ⟨(i 1).val % 64, by omega⟩)) ⟨(i 1).val % 64, by omega⟩

theorem rows_eq (x0 : Vec Ideal S256x2048 .f32) (x1 : Vec Ideal S1x2048 .f32) (x2 : Vec Ideal S2048x4096 .bf16) (x3 : Vec Ideal S1024x1024 .bf16)
    (x4 x5 : Vec Ideal S1x1024 .f32) : k0_pay17 x0 x1 x2 x3 x4 x5 = k0_pay3 x0 x1 := by
  unfold k0_pay17
  simp (disch := decide) only [View.ld_unit_lit]

/-- A block of plain columns. -/
theorem plain_block (o : ℕ) (ho : o + 1024 ≤ 4096) (w : Vec Ideal S2048x1024 .bf16)
    (hw : ∀ d n, w (ix2 d n) = iblk m c 2 t (ix2 d ⟨o + n.val, by omega⟩)) (r : Fin 256) (e : Fin 1024) :
    k0_pay2 (k0_pay17 (iblk m c 0 t) (iblk m c 1 t) (iblk m c 2 t) (iblk m c 3 t) (iblk m c 4 t) (iblk m c 5 t)) w (ix2 r e)
      = plainOf m c o ho (ix2 (rowOf t r) e) := by
  rw [rows_eq, product_apply]
  exact product_block m c t o ho w hw r e

/-- A block of normed columns, the weights and the row's gain being real. -/
theorem normed_block (hM : ∀ i, argM m c i = ((argM m c i).toReal : EReal)) (hW : ∀ i, argW m c i = ((argW m c i).toReal : EReal))
    (o : ℕ) (ho : o + 1024 ≤ 4096) (w : Vec Ideal S2048x1024 .bf16)
    (hw : ∀ d n, w (ix2 d n) = iblk m c 2 t (ix2 d ⟨o + n.val, by omega⟩)) (g : Vec Ideal S1x1024 .f32) (g' : Vec Ideal S1x64 .f32)
    (hg : ∀ n, g (ix2 (0 : Fin 1) n) = g' (ix2 (0 : Fin 1) ⟨n.val % 64, by omega⟩)) (r : Fin 256) (e : Fin 1024) :
    k0_pay5 (k0_pay3 (iblk m c 0 t) (iblk m c 1 t)) w g (iblk m c 3 t) (iblk m c 3 t) (ix2 r e) = normedOf m c o ho g' (ix2 (rowOf t r) e) := by
  rw [normed_apply, hg]
  have hy := product_block m c t o ho w hw r
  have hr : ∀ j : Fin 1024, ∃ z : ℝ, ∑ d, k0_pay3 (iblk m c 0 t) (iblk m c 1 t) (ix2 r d) * w (ix2 d j) = (z : EReal) := fun j => by
    rw [hy]
    unfold productOf
    obtain ⟨z, hz⟩ := product_real (fun y => argX m c (ix3 (0 : Fin 1) (rowOf t r) y)) (fun d => (argM m c (ix2 (0 : Fin 1) d)).toReal)
      (fun d => (argW m c (ix3 (0 : Fin 1) d ⟨o + j.val, by omega⟩)).toReal)
    refine ⟨z, Eq.trans (Finset.sum_congr rfl fun d _ => ?_) hz⟩
    rw [← hM, ← hW]
  choose f hf using hr
  obtain ⟨b, d, hb, hd⟩ : ∃ (b : Fin 16) (d : Fin 64), e.val / 64 = b.val ∧ e.val % 64 = d.val := ⟨⟨e.val / 64, by omega⟩, ⟨e.val % 64, by omega⟩, rfl, rfl⟩
  have hl : 64 * b.val + d.val < 1024 := by omega
  obtain rfl : e = ⟨64 * b.val + d.val, hl⟩ := Fin.ext (by show e.val = 64 * b.val + d.val; omega)
  have hs : ∀ j : Fin 1024, iblk m c 3 t (ix2 j (⟨64 * b.val + d.val, hl⟩ : Fin 1024)) = (if j.val / 64 = b.val then Ideal.ofBits .f32 0x3C800000#32 else 0 : EReal) := fun j => by
    rw [block3]
    simp only [hb]
  refine (segments_eq _ _ f _ b d hl hf hs).trans ?_
  unfold normedOf
  show lanes _ _ _ = lanes (fun x => productOf m c (rowOf t r) ⟨o + (64 * ((64 * b.val + d.val) / 64) + x.val), _⟩)
    (g' (ix2 (0 : Fin 1) ⟨(64 * b.val + d.val) % 64, _⟩)) ⟨(64 * b.val + d.val) % 64, _⟩
  simp only [hy, hb, hd]

theorem values_out : (dats m 0 c).arrAt 9 cfg0.N = plainOf m c 2048 (by omega) := by
  refine (dats m 0 c).arrAt_eq_of_covers 9 _ (by decide +kernel) fun t hf y => ?_
  blk_simp
  rw [after0_9]
  obtain ⟨r, e, rfl⟩ : ∃ (r : Fin 256) (e : Fin 1024), y = ix2 r e := ⟨y 0, y 1, eq_ix2 y⟩
  frame_out
  have hy : ((View.whole main_v24_3).slice (win0_9.rect t)).emb (ix2 r e) = ix2 (rowOf t r) e := by blk_ext [idx t, rowOf, rowsOf]
  rw [hy, pay7_eq]
  exact plain_block m c t 2048 _ _ (fun d n => by pointwise) r e

theorem gates_out : (dats m 0 c).arrAt 11 cfg0.N = plainOf m c 3072 (by omega) := by
  refine (dats m 0 c).arrAt_eq_of_covers 11 _ (by decide +kernel) fun t hf y => ?_
  blk_simp
  rw [after0_11]
  obtain ⟨r, e, rfl⟩ : ∃ (r : Fin 256) (e : Fin 1024), y = ix2 r e := ⟨y 0, y 1, eq_ix2 y⟩
  frame_out
  have hy : ((View.whole main_v24_5).slice (win0_11.rect t)).emb (ix2 r e) = ix2 (rowOf t r) e := by blk_ext [idx t, rowOf, rowsOf]
  rw [hy]
  exact plain_block m c t 3072 _ _ (fun d n => by pointwise) r e

variable (hM : ∀ i, argM m c i = ((argM m c i).toReal : EReal)) (hW : ∀ i, argW m c i = ((argW m c i).toReal : EReal))
include hM hW

theorem queries_out : (dats m 0 c).arrAt 6 cfg0.N = normedOf m c 0 (by omega) (argGQ m c) := by
  refine (dats m 0 c).arrAt_eq_of_covers 6 _ (by decide +kernel) fun t hf y => ?_
  blk_simp
  rw [after0_6]
  obtain ⟨r, e, rfl⟩ : ∃ (r : Fin 256) (e : Fin 1024), y = ix2 r e := ⟨y 0, y 1, eq_ix2 y⟩
  frame_out
  have hy : ((View.whole main_v24_0).slice (win0_6.rect t)).emb (ix2 r e) = ix2 (rowOf t r) e := by blk_ext [idx t, rowOf, rowsOf]
  rw [hy, pay4_eq]
  exact normed_block m c t hM hW 0 _ _ (fun d n => by pointwise) _ _ (fun n => block4 m c t n) r e

theorem keys_out : (dats m 0 c).arrAt 7 cfg0.N = normedOf m c 1024 (by omega) (argGK m c) := by
  refine (dats m 0 c).arrAt_eq_of_covers 7 _ (by decide +kernel) fun t hf y => ?_
  blk_simp
  rw [after0_7]
  obtain ⟨r, e, rfl⟩ : ∃ (r : Fin 256) (e : Fin 1024), y = ix2 r e := ⟨y 0, y 1, eq_ix2 y⟩
  frame_out
  have hy : ((View.whole main_v24_1).slice (win0_7.rect t)).emb (ix2 r e) = ix2 (rowOf t r) e := by blk_ext [idx t, rowOf, rowsOf]
  rw [hy, rows_eq]
  exact normed_block m c t hM hW 1024 _ _ (fun d n => by pointwise) _ _ (fun n => block5 m c t n) r e

end Cert.ProjectIdeal.Steps
-- ==== Proof.ProjectRef.lean ====
module

public import proofs.«01_k».proof.Proof.ProjectSpec
public import proofs.«01_k».proof.Proof.Gen.ProjectReferenceIdeal.Run
public import Idealize.ShloMosaic.Lib.Pointwise

/-!
# The projection's reference in stages
-/

@[expose] public section

set_option maxRecDepth 16384

noncomputable section

namespace Cert.ProjectReferenceIdeal.Stage

open Cert.ProjectReferenceIdeal Cert.ProjectReferenceIdeal.Gen Cert.Proj Idealize.ShloMosaic Idealize.ShloMosaic.TcCoe
open scoped BigOperators

/-- The normed rows. -/
def rows (x : FVec Ideal S1x16384x2048 .f32) (g : FVec Ideal S1x2048 .f32) : FVec Ideal S1x16384x2048 .f32 :=
  mulf (mulf x (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf x x) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 (shapeCast _ g shapeCasts_S1x2048_S2048)))

/-- Their product with the weights. -/
def product (x : FVec Ideal S1x16384x2048 .f32) (w : FVec Ideal S1x2048x4096 .f32) : FVec Ideal S1x16384x4096 .f32 :=
  Host.dotGeneral dot_S1x16384x2048_S2048x4096_S1x16384x4096_2_0_01_1_n_n none x (shapeCast _ w shapeCasts_S1x2048x4096_S2048x4096)

/-- The product's columns from `o`. -/
def columns (o : ℕ) (hs : S1x16384x4096.Slices ![0, 0, o] S1x16384x1024) (y : FVec Ideal S1x16384x4096 .f32) : FVec Ideal S1x16384x1024 .f32 :=
  extractStridedSlice S1x16384x1024 ![0, 0, o] y hs

/-- The norm over the 64 lanes of a head. -/
def normed (y : FVec Ideal S1x16384x8x2x64 .f32) (g : FVec Ideal S1x64 .f32) : FVec Ideal S16384x1024 .f32 :=
  shapeCast S16384x1024 (mulf (mulf y (broadcastInDim S1x16384x8x2x64 ![0, 1, 2, 3, 4] bcast_S1x16384x8x2x1_S1x16384x8x2x64_0_1_2_3_4 (Host.rsqrt (addf (Host.divf (broadcastInDim S1x16384x8x2x1 ![0, 1, 2, 3] bcast_S1x16384x8x2_S1x16384x8x2x1_0_1_2_3 (Host.reduceAdd (mulf y y) (constant S_ .f32 0x00000000#32) reducesTo_S1x16384x8x2x64_S1x16384x8x2_d4 h_S_)) (broadcastInDim S1x16384x8x2x1 ![] bcast_S_S1x16384x8x2x1 (constant S_ .f32 0x42800000#32))) (broadcastInDim S1x16384x8x2x1 ![] bcast_S_S1x16384x8x2x1 (constant S_ .f32 0x358637BD#32)))))) (broadcastInDim S1x16384x8x2x64 ![0, 1, 2, 3, 4] bcast_S1x1x1x1x64_S1x16384x8x2x64_0_1_2_3_4 (broadcastInDim S1x1x1x1x64 ![4] bcast_S64_S1x1x1x1x64_4 (shapeCast _ g shapeCasts_S1x64_S64)))) shapeCasts_S1x16384x8x2x64_S16384x1024

/-- The columns from `o` as the heads' lanes. -/
def heads (y : FVec Ideal S1x16384x1024 .f32) : FVec Ideal S1x16384x8x2x64 .f32 := shapeCast S1x16384x8x2x64 y shapeCasts_S1x16384x1024_S1x16384x8x2x64

/-- The columns from `o` as they are. -/
def plain (y : FVec Ideal S1x16384x1024 .f32) : FVec Ideal S16384x1024 .f32 := shapeCast S16384x1024 y shapeCasts_S1x16384x1024_S16384x1024

variable (m : (ℓ : Loc nD τ sig) → Buf (Elt Ideal) ℓ) (c : Dev nD)

theorem queries_eq : Cert.ProjectReferenceIdeal.Value.res_main_v50 m c =
    normed (heads (columns 0 slices_S1x16384x4096_S1x16384x1024_0_0_0 (product (rows (m ((c.tc : Thread nD τ).loc main_arg0)) (m ((c.tc : Thread nD τ).loc main_arg1))) (m ((c.tc : Thread nD τ).loc main_arg2)))))
      (m ((c.tc : Thread nD τ).loc main_arg3)) := by
  unfold Cert.ProjectReferenceIdeal.Value.res_main_v50
  rfl

theorem keys_eq : Cert.ProjectReferenceIdeal.Value.res_main_v51 m c =
    normed (heads (columns 1024 slices_S1x16384x4096_S1x16384x1024_0_0_1024 (product (rows (m ((c.tc : Thread nD τ).loc main_arg0)) (m ((c.tc : Thread nD τ).loc main_arg1))) (m ((c.tc : Thread nD τ).loc main_arg2)))))
      (m ((c.tc : Thread nD τ).loc main_arg4)) := by
  unfold Cert.ProjectReferenceIdeal.Value.res_main_v51
  rfl

/-! ## The stages at an index -/

theorem rows_apply (x : FVec Ideal S1x16384x2048 .f32) (g : FVec Ideal S1x2048 .f32) (r : Fin 16384) (d : Fin 2048) :
    rows x g (ix3 (0 : Fin 1) r d) = scaled (fun y => x (ix3 (0 : Fin 1) r y)) (g (ix2 (0 : Fin 1) d)) d := by
  pointwise [rows]
  rfl

theorem product_apply (x : FVec Ideal S1x16384x2048 .f32) (w : FVec Ideal S1x2048x4096 .f32) (r : Fin 16384) (n : Fin 4096) :
    product x w (ix3 (0 : Fin 1) r n) = ∑ d, x (ix3 (0 : Fin 1) r d) * w (ix3 (0 : Fin 1) d n) := by
  pointwise [product]

theorem columns_apply (o : ℕ) (hs : S1x16384x4096.Slices ![0, 0, o] S1x16384x1024) (y : FVec Ideal S1x16384x4096 .f32) (r : Fin 16384) (n : Fin 1024)
    (ho : o + n.val < 4096) : columns o hs y (ix3 (0 : Fin 1) r n) = y (ix3 (0 : Fin 1) r ⟨o + n.val, ho⟩) := by
  pointwise [columns]

theorem plain_apply (y : FVec Ideal S1x16384x1024 .f32) (r : Fin 16384) (n : Fin 1024) : plain y (ix2 r n) = y (ix3 (0 : Fin 1) r n) := by
  pointwise [plain]

theorem normed_apply (y : FVec Ideal S1x16384x1024 .f32) (g : FVec Ideal S1x64 .f32) (r : Fin 16384) (b : Fin 16) (d : Fin 64) (hl : 64 * b.val + d.val < 1024) :
    normed (heads y) g (ix2 r ⟨64 * b.val + d.val, hl⟩) = lanes (fun x => y (ix3 (0 : Fin 1) r ⟨64 * b.val + x.val, by omega⟩)) (g (ix2 (0 : Fin 1) d)) d := by
  pointwise [normed, heads]
  have e : ∀ x : Fin 64, (64 * b.val + d.val) / 128 * 128 + (64 * b.val + d.val) / 64 % 2 * 64 + x.val = 64 * b.val + x.val := fun x => by omega
  simp only [e]
  rfl

end Cert.ProjectReferenceIdeal.Stage
-- ==== Proof.ProjectEqual.lean ====
module

public import proofs.«01_k».proof.Pre_finite_weights
public import proofs.«01_k».proof.Proof.Finite
public import proofs.«01_k».proof.Proof.ProjectOut
public import proofs.«01_k».proof.Proof.ProjectRef

/-!
# The projection's results are equal
-/

@[expose] public section

set_option maxRecDepth 16384

noncomputable section

namespace Cert.Pre_finite_weights

open Idealize.ShloMosaic Idealize.ShloMosaic.TcCoe
open Cert.KernelIdeal.Steps (IsReal)

/-- The shape relations that the precondition's operations take. -/
instance facts : Facts where
  bcast_S_S1x2048 := by decide
  reducesTo_S1x2048_S_d0_1 := by decide
  h_S_ := by decide
  bcast_S_S1x2048x4096 := by decide
  reducesTo_S1x2048x4096_S_d0_1_2 := by decide

theorem real_of_pre (a0 : FVec Ideal S1x16384x2048 .f32) (a1 : FVec Ideal S1x2048 .f32) (a2 : FVec Ideal S1x2048x4096 .f32) (a3 a4 : FVec Ideal S1x64 .f32)
    (h : fn a0 a1 a2 a3 a4 = fun _ => 1#1) : IsReal a1 ∧ IsReal a2 := by
  have h0 := congrFun h ix0
  dsimp only [fn] at h0
  obtain ⟨h1, h2⟩ := IntOp.andi_eq_one.1 h0
  exact ⟨Cert.Pre_finite.real_of_all a1 _ _ _ h1, Cert.Pre_finite.real_of_all a2 _ _ _ h2⟩

end Cert.Pre_finite_weights

namespace Cert.Proj

open Cert.ProjectIdeal.Steps Cert.ProjectReferenceIdeal.Stage
open Idealize.ShloMosaic Idealize.ShloMosaic.TcCoe
open scoped BigOperators

variable (m : (ℓ : Loc Cert.ProjectIdeal.nD Cert.ProjectIdeal.τ Cert.ProjectIdeal.sig) → Buf (Elt Ideal) ℓ) (c : Dev Cert.ProjectIdeal.nD)

/-- An element of the reference's product. -/
theorem reference_product (o : ℕ) (ho : o + 1024 ≤ 4096) (hs : Cert.ProjectReferenceIdeal.S1x16384x4096.Slices ![0, 0, o] Cert.ProjectReferenceIdeal.S1x16384x1024)
    (r : Fin 16384) (n : Fin 1024) :
    columns o hs (product (rows (argX m c) (argM m c)) (argW m c)) (ix3 (0 : Fin 1) r n) = productOf m c r ⟨o + n.val, by omega⟩ := by
  rw [columns_apply o hs _ r n (by omega), Cert.ProjectReferenceIdeal.Stage.product_apply]
  unfold productOf
  exact Finset.sum_congr rfl fun d _ => by rw [Cert.ProjectReferenceIdeal.Stage.rows_apply]

/-- Plain columns of the reference. -/
theorem plain_eq (o : ℕ) (ho : o + 1024 ≤ 4096) (hs : Cert.ProjectReferenceIdeal.S1x16384x4096.Slices ![0, 0, o] Cert.ProjectReferenceIdeal.S1x16384x1024) :
    plain (columns o hs (product (rows (argX m c) (argM m c)) (argW m c))) = plainOf m c o ho := by
  funext y
  obtain ⟨r, n, rfl⟩ : ∃ (r : Fin 16384) (n : Fin 1024), y = ix2 r n := ⟨y 0, y 1, eq_ix2 y⟩
  rw [plain_apply]
  exact reference_product m c o ho hs r n

/-- Normed columns of the reference. -/
theorem normed_eq (o : ℕ) (ho : o + 1024 ≤ 4096) (hs : Cert.ProjectReferenceIdeal.S1x16384x4096.Slices ![0, 0, o] Cert.ProjectReferenceIdeal.S1x16384x1024)
    (g : FVec Ideal Cert.ProjectReferenceIdeal.S1x64 .f32) :
    normed (heads (columns o hs (product (rows (argX m c) (argM m c)) (argW m c)))) g = normedOf m c o ho g := by
  funext y
  obtain ⟨r, n, rfl⟩ : ∃ (r : Fin 16384) (n : Fin 1024), y = ix2 r n := ⟨y 0, y 1, eq_ix2 y⟩
  obtain ⟨b, d, hb, hd⟩ : ∃ (b : Fin 16) (d : Fin 64), n.val / 64 = b.val ∧ n.val % 64 = d.val := ⟨⟨n.val / 64, by omega⟩, ⟨n.val % 64, by omega⟩, rfl, rfl⟩
  have hl : 64 * b.val + d.val < 1024 := by omega
  obtain rfl : n = ⟨64 * b.val + d.val, hl⟩ := Fin.ext (by show n.val = 64 * b.val + d.val; omega)
  rw [Cert.ProjectReferenceIdeal.Stage.normed_apply]
  unfold normedOf
  show lanes _ _ _ = lanes (fun x => productOf m c r ⟨o + (64 * ((64 * b.val + d.val) / 64) + x.val), _⟩)
    (g (ix2 (0 : Fin 1) ⟨(64 * b.val + d.val) % 64, _⟩)) ⟨(64 * b.val + d.val) % 64, _⟩
  simp only [reference_product m c o ho hs, hb, hd]

end Cert.Proj
-- ==== Proof.OutputSpec.lean ====
module

public import proofs.«01_k».proof.Proof.ProjectSpec
public import Idealize.ShloMosaic.PureOps.Ideal.Laws

/-!
# What the gated output projection computes

A row of the state space mixer's output is passed through the gate and normed, multiplied together with the attention's row
with the output weights, and added to the input's row. That hidden row is normed and multiplied with the query weights. Both
programs are shown to compute this; the kernel takes the product with the output weights in two halves.
-/

@[expose] public section

noncomputable section

namespace Cert.Mix

open Idealize.ShloMosaic Cert.Proj
open scoped BigOperators

/-- The weights that all rows share. -/
structure Weights where
  gate : Fin 1024 → Fin 1024 → EReal
  bias : Fin 1024 → EReal
  gainS : Fin 1024 → EReal
  out : Fin 2048 → Fin 2048 → EReal
  gainF : Fin 2048 → EReal
  query : Fin 2048 → Fin 2048 → EReal

/-- The exact GELU, with the error function. -/
def gelu (y : EReal) : EReal :=
  Ideal.ofBits .f32 0x3F000000#32 * y * (1 + Ideal.erf (y * Ideal.ofBits .f32 0x3F3504F3#32))

/-- It is the form with the complementary error function at the negated argument. -/
theorem gelu_erfc (y : EReal) :
    Ideal.ofBits .f32 0x3F000000#32 * y * Ideal.erfc (-y * Ideal.ofBits .f32 0x3F3504F3#32) = gelu y := by
  rw [neg_mul, Ideal.erfc_neg]
  rfl

/-- An element of the gated row. -/
def gated (W : Weights) (y : Fin 1024 → EReal) (d : Fin 1024) : EReal :=
  gelu (y d) * Ideal.logistic (∑ j, gelu (y j) * W.gate j d + W.bias d)

/-- An element of the normed row `z` of 1024, with the column's gain `g`. -/
def half (z : Fin 1024 → EReal) (g : EReal) (d : Fin 1024) : EReal :=
  z d * Ideal.rsqrt (Ideal.div (∑ j, z j * z j) (Ideal.ofBits .f32 0x44800000#32) + Ideal.ofBits .f32 0x358637BD#32) * g

/-- An element of the mixer's row after gate and norm. -/
def mixed (W : Weights) (y : Fin 1024 → EReal) (d : Fin 1024) : EReal := half (gated W y) (W.gainS d) d

/-- An element of the hidden row: the input, the attention's share and the mixer's. -/
def hidden (W : Weights) (y o : Fin 1024 → EReal) (x : Fin 2048 → EReal) (n : Fin 2048) : EReal :=
  x n + ∑ j : Fin 1024, o j * W.out ⟨j.val, by omega⟩ n + ∑ j : Fin 1024, mixed W y j * W.out ⟨1024 + j.val, by omega⟩ n

/-- An element of the normed hidden row. -/
def feed (W : Weights) (y o : Fin 1024 → EReal) (x : Fin 2048 → EReal) (d : Fin 2048) : EReal :=
  scaled (hidden W y o x) (W.gainF d) d

/-- An element of the row's queries. -/
def query (W : Weights) (y o : Fin 1024 → EReal) (x : Fin 2048 → EReal) (n : Fin 2048) : EReal :=
  ∑ d, feed W y o x d * W.query d n

/-- A product with two rows laid side by side is the sum of the two products. -/
theorem sum_halves (a b : Fin 1024 → EReal) (w : Fin 2048 → EReal) :
    (∑ k : Fin 2048, (if h : k.val < 1024 then a ⟨k.val, h⟩ else b ⟨k.val - 1024, by omega⟩) * w k)
      = ∑ j : Fin 1024, a j * w ⟨j.val, by omega⟩ + ∑ j : Fin 1024, b j * w ⟨1024 + j.val, by omega⟩ := by
  refine (Fin.sum_univ_add (a := 1024) (b := 1024) _).trans (congrArg₂ (· + ·) (Finset.sum_congr rfl fun j _ => ?_) (Finset.sum_congr rfl fun j _ => ?_))
  · rw [dif_pos (show (Fin.castAdd 1024 j).val < 1024 from j.isLt)]
    rfl
  · rw [dif_neg (show ¬ (Fin.natAdd 1024 j).val < 1024 by rw [Fin.val_natAdd]; omega)]
    congr 2
    exact Fin.ext (by show 1024 + j.val - 1024 = j.val; omega)

end Cert.Mix
-- ==== Proof.OutputPay.lean ====
module

public import proofs.«01_k».proof.Proof.OutputSpec
public import proofs.«01_k».proof.Proof.Gen.OutputIdeal.Frame
public import Idealize.ShloMosaic.Lib.Pointwise

/-!
# The output projection's stored blocks at an index
-/

@[expose] public section

set_option maxRecDepth 16384

noncomputable section

namespace Cert.OutputIdeal.Steps

open Cert.OutputIdeal.Gen Cert.Mix Cert.Proj
open Idealize.ShloMosaic Idealize.ShloMosaic.TcCoe
open scoped BigOperators

theorem mixed_apply (W : Weights) (y : Vec Ideal S256x1024 .f32) (w : Vec Ideal S1024x1024 .bf16) (b g : Vec Ideal S1x1024 .f32)
    (hw : ∀ j d, w (ix2 j d) = W.gate j d) (hb : ∀ d, b (ix2 (0 : Fin 1) d) = W.bias d) (hg : ∀ d, g (ix2 (0 : Fin 1) d) = W.gainS d)
    (r : Fin 256) (d : Fin 1024) : k0_pay4 y w b g (ix2 r d) = mixed W (fun j => y (ix2 r j)) d := by
  pointwise [k0_pay4]
  simp only [hw, hb, hg]
  rfl

theorem hidden_apply (s : FVec Ideal S256x1024 .f32) (x : FVec Ideal S256x2048 .f32) (o : FVec Ideal S256x1024 .bf16)
    (w0 w1 : Vec Ideal S1024x2048 .bf16) (r : Fin 256) (n : Fin 2048) :
    k0_pay1 s x o w0 w1 (ix2 r n) = x (ix2 r n) + ∑ j, o (ix2 r j) * w0 (ix2 j n) + ∑ j, s (ix2 r j) * w1 (ix2 j n) := by
  pointwise [k0_pay1]

theorem feed_apply (s : FVec Ideal S256x1024 .f32) (x : FVec Ideal S256x2048 .f32) (o : FVec Ideal S256x1024 .bf16)
    (w0 w1 : Vec Ideal S1024x2048 .bf16) (g : Vec Ideal S1x2048 .f32) (r : Fin 256) (d : Fin 2048) :
    k0_pay2 s x o w0 w1 g (ix2 r d) = scaled (fun n => k0_pay1 s x o w0 w1 (ix2 r n)) (g (ix2 (0 : Fin 1) d)) d := by
  pointwise [k0_pay2]
  rfl

theorem query_apply (s : FVec Ideal S256x1024 .f32) (x : FVec Ideal S256x2048 .f32) (o : FVec Ideal S256x1024 .bf16)
    (w0 w1 : Vec Ideal S1024x2048 .bf16) (g : Vec Ideal S1x2048 .f32) (q : Vec Ideal S2048x2048 .bf16) (r : Fin 256) (n : Fin 2048) :
    k0_pay3 s x o w0 w1 g q (ix2 r n) = ∑ d, k0_pay2 s x o w0 w1 g (ix2 r d) * q (ix2 d n) := by
  pointwise [k0_pay3]

end Cert.OutputIdeal.Steps
-- ==== Proof.OutputEntry.lean ====
module

public import proofs.«01_k».proof.Proof.OutputPay
public import proofs.«01_k».proof.Proof.Gen.OutputIdeal.Value
public import Idealize.ShloMosaic.Lib.Pipeline.Value
public import Idealize.ShloMosaic.Lib.Pipeline.ValueKit

/-!
# The output projection's blocks of the arguments
-/

@[expose] public section

set_option maxRecDepth 16384

noncomputable section

namespace Cert.OutputIdeal.Steps

open Cert.OutputIdeal.Gen Cert.Mix Cert.Proj
open Idealize.ShloMosaic Idealize.ShloMosaic.TcCoe
open scoped BigOperators

/-- Which block each window shows at a point. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![(grid0.coords t 0).val, 0]
    ∧ win0_10.index t = ![(grid0.coords t 0).val, 0] ∧ win0_11.index t = ![(grid0.coords t 0).val, 0] :=
  (by decide +kernel : ∀ t : Fin grid0.N, _)

variable (m : (ℓ : Loc nD τ sig) → Buf (Elt Ideal) ℓ) (c : Dev nD) (t : Fin cfg0.N)

/-- The arguments. -/
abbrev argY : Vec Ideal S1x16384x1024 .f32 := m ((c.tc : Thread nD τ).loc main_arg0)
abbrev argO : Vec Ideal S16384x1024 .f32 := m ((c.tc : Thread nD τ).loc main_arg1)
abbrev argX : Vec Ideal S1x16384x2048 .f32 := m ((c.tc : Thread nD τ).loc main_arg2)
abbrev argGate : Vec Ideal S1x1024x1024 .f32 := m ((c.tc : Thread nD τ).loc main_arg3)
abbrev argBias : Vec Ideal S1x1024 .f32 := m ((c.tc : Thread nD τ).loc main_arg4)
abbrev argS : Vec Ideal S1x1024 .f32 := m ((c.tc : Thread nD τ).loc main_arg5)
abbrev argOut : Vec Ideal S1x2048x2048 .f32 := m ((c.tc : Thread nD τ).loc main_arg6)
abbrev argF : Vec Ideal S1x2048 .f32 := m ((c.tc : Thread nD τ).loc main_arg7)
abbrev argQuery : Vec Ideal S1x2048x2048 .f32 := m ((c.tc : Thread nD τ).loc main_arg8)

/-- The weights among the arguments. -/
def weights : Weights where
  gate j d := argGate m c (ix3 (0 : Fin 1) j d)
  bias d := argBias m c (ix2 (0 : Fin 1) d)
  gainS d := argS m c (ix2 (0 : Fin 1) d)
  out k n := argOut m c (ix3 (0 : Fin 1) k n)
  gainF d := argF m c (ix2 (0 : Fin 1) d)
  query d n := argQuery m c (ix3 (0 : Fin 1) d n)

/-- A point's row among all rows. -/
def rowOf (r : Fin 256) : Fin 16384 := ⟨256 * (grid0.coords t 0).val + r.val, by have : (grid0.coords t 0).val < 64 := (grid0.coords t 0).isLt; omega⟩

/-! ## What the region is entered with -/

theorem entry_mixer (r : Fin 16384) (j : Fin 1024) : (V m c main_v0 : Vec Ideal S16384x1024 .f32) (ix2 r j) = argY m c (ix3 (0 : Fin 1) r j) := by
  entry_read
  pointwise

theorem entry_input (r : Fin 16384) (d : Fin 2048) : (V m c main_v1 : Vec Ideal S16384x2048 .f32) (ix2 r d) = argX m c (ix3 (0 : Fin 1) r d) := by
  entry_read
  pointwise

theorem entry_gate (j d : Fin 1024) : (V m c main_v3 : Vec Ideal S1024x1024 .bf16) (ix2 j d) = (weights m c).gate j d := by
  entry_read
  pointwise
  rfl

theorem entry_bias (d : Fin 1024) : (V m c main_v5 : Vec Ideal S1x1024 .f32) (ix2 (0 : Fin 1) d) = (weights m c).bias d := by
  entry_read
  pointwise
  rfl

theorem entry_gainS (d : Fin 1024) : (V m c main_v7 : Vec Ideal S1x1024 .f32) (ix2 (0 : Fin 1) d) = (weights m c).gainS d := by
  entry_read
  pointwise
  rfl

theorem entry_out (k n : Fin 2048) : (V m c main_v9 : Vec Ideal S2048x2048 .bf16) (ix2 k n) = (weights m c).out k n := by
  entry_read
  pointwise
  rfl

theorem entry_gainF (d : Fin 2048) : (V m c main_v11 : Vec Ideal S1x2048 .f32) (ix2 (0 : Fin 1) d) = (weights m c).gainF d := by
  entry_read
  pointwise
  rfl

theorem entry_query (d n : Fin 2048) : (V m c main_v13 : Vec Ideal S2048x2048 .bf16) (ix2 d n) = (weights m c).query d n := by
  entry_read
  pointwise
  rfl

/-! ## The windows -/

theorem block0 (r : Fin 256) (j : Fin 1024) : iblk m c 0 t (ix2 r j) = argY m c (ix3 (0 : Fin 1) (rowOf t r) j) := by
  refine Eq.trans ?_ (entry_mixer m c _ j)
  show (V m c main_v0 : Vec Ideal S16384x1024 .f32) _ = (V m c main_v0 : Vec Ideal S16384x1024 .f32) _
  blk_ext [idx t, rowOf]

theorem block1 (r : Fin 256) (j : Fin 1024) : iblk m c 1 t (ix2 r j) = argO m c (ix2 (rowOf t r) j) := by
  refine Eq.trans ?_ (congrFun (V_main_arg1 m c) _)
  show (V m c main_arg1 : Vec Ideal S16384x1024 .f32) _ = (V m c main_arg1 : Vec Ideal S16384x1024 .f32) _
  blk_ext [idx t, rowOf]

theorem block2 (r : Fin 256) (d : Fin 2048) : iblk m c 2 t (ix2 r d) = argX m c (ix3 (0 : Fin 1) (rowOf t r) d) := by
  refine Eq.trans ?_ (entry_input m c _ d)
  show (V m c main_v1 : Vec Ideal S16384x2048 .f32) _ = (V m c main_v1 : Vec Ideal S16384x2048 .f32) _
  blk_ext [idx t, rowOf]

theorem block3 (j d : Fin 1024) : iblk m c 3 t (ix2 j d) = (weights m c).gate j d := by
  refine Eq.trans ?_ (entry_gate m c j d)
  show (V m c main_v3 : Vec Ideal S1024x1024 .bf16) _ = (V m c main_v3 : Vec Ideal S1024x1024 .bf16) _
  blk_ext [idx t]

theorem block4 (d : Fin 1024) : iblk m c 4 t (ix2 (0 : Fin 1) d) = (weights m c).bias d := by
  refine Eq.trans ?_ (entry_bias m c d)
  show (V m c main_v5 : Vec Ideal S1x1024 .f32) _ = (V m c main_v5 : Vec Ideal S1x1024 .f32) _
  blk_ext [idx t]

theorem block5 (d : Fin 1024) : iblk m c 5 t (ix2 (0 : Fin 1) d) = (weights m c).gainS d := by
  refine Eq.trans ?_ (entry_gainS m c d)
  show (V m c main_v7 : Vec Ideal S1x1024 .f32) _ = (V m c main_v7 : Vec Ideal S1x1024 .f32) _
  blk_ext [idx t]

theorem block6 (k n : Fin 2048) : iblk m c 6 t (ix2 k n) = (weights m c).out k n := by
  refine Eq.trans ?_ (entry_out m c k n)
  show (V m c main_v9 : Vec Ideal S2048x2048 .bf16) _ = (V m c main_v9 : Vec Ideal S2048x2048 .bf16) _
  blk_ext [idx t]

theorem block7 (d : Fin 2048) : iblk m c 7 t (ix2 (0 : Fin 1) d) = (weights m c).gainF d := by
  refine Eq.trans ?_ (entry_gainF m c d)
  show (V m c main_v11 : Vec Ideal S1x2048 .f32) _ = (V m c main_v11 : Vec Ideal S1x2048 .f32) _
  blk_ext [idx t]

theorem block8 (d n : Fin 2048) : iblk m c 8 t (ix2 d n) = (weights m c).query d n := by
  refine Eq.trans ?_ (entry_query m c d n)
  show (V m c main_v13 : Vec Ideal S2048x2048 .bf16) _ = (V m c main_v13 : Vec Ideal S2048x2048 .bf16) _
  blk_ext [idx t]

end Cert.OutputIdeal.Steps
-- ==== Proof.OutputOut.lean ====
module

public import proofs.«01_k».proof.Proof.OutputEntry

/-!
# The output projection's output arrays
-/

@[expose] public section

set_option maxRecDepth 16384

noncomputable section

namespace Cert.OutputIdeal.Steps

open Cert.OutputIdeal.Gen Cert.Mix Cert.Proj
open Idealize.ShloMosaic Idealize.ShloMosaic.TcCoe
open scoped BigOperators

variable (m : (ℓ : Loc nD τ sig) → Buf (Elt Ideal) ℓ) (c : Dev nD) (t : Fin cfg0.N)

/-- The arguments' rows. -/
abbrev rowY (r : Fin 16384) (j : Fin 1024) : EReal := argY m c (ix3 (0 : Fin 1) r j)
abbrev rowO (r : Fin 16384) (j : Fin 1024) : EReal := argO m c (ix2 r j)
abbrev rowX (r : Fin 16384) (d : Fin 2048) : EReal := argX m c (ix3 (0 : Fin 1) r d)

/-- The three results as arrays. -/
def hiddenOf : Vec Ideal S16384x2048 .f32 := fun i =>
  hidden (weights m c) (rowY m c ⟨(i 0).val, (i 0).isLt⟩) (rowO m c ⟨(i 0).val, (i 0).isLt⟩) (rowX m c ⟨(i 0).val, (i 0).isLt⟩) ⟨(i 1).val, (i 1).isLt⟩
def feedOf : Vec Ideal S16384x2048 .bf16 := fun i =>
  feed (weights m c) (rowY m c ⟨(i 0).val, (i 0).isLt⟩) (rowO m c ⟨(i 0).val, (i 0).isLt⟩) (rowX m c ⟨(i 0).val, (i 0).isLt⟩) ⟨(i 1).val, (i 1).isLt⟩
def queryOf : Vec Ideal S16384x2048 .bf16 := fun i =>
  query (weights m c) (rowY m c ⟨(i 0).val, (i 0).isLt⟩) (rowO m c ⟨(i 0).val, (i 0).isLt⟩) (rowX m c ⟨(i 0).val, (i 0).isLt⟩) ⟨(i 1).val, (i 1).isLt⟩

/-- A point's block of the mixer's rows after gate and norm. -/
abbrev mixedBlk : FVec Ideal S256x1024 .f32 :=
  k0_pay7 (iblk m c 0 t) (iblk m c 1 t) (iblk m c 2 t) (iblk m c 3 t) (iblk m c 4 t) (iblk m c 5 t) (iblk m c 6 t) (iblk m c 7 t) (iblk m c 8 t)

/-- A point's block of the input. -/
abbrev inputBlk : FVec Ideal S256x2048 .f32 :=
  k0_pay8 (iblk m c 0 t) (iblk m c 1 t) (iblk m c 2 t) (iblk m c 3 t) (iblk m c 4 t) (iblk m c 5 t) (iblk m c 6 t) (iblk m c 7 t) (iblk m c 8 t)

/-- A point's block of the attention. -/
abbrev attBlk : FVec Ideal S256x1024 .bf16 :=
  k0_pay9 (iblk m c 0 t) (iblk m c 1 t) (iblk m c 2 t) (iblk m c 3 t) (iblk m c 4 t) (iblk m c 5 t) (iblk m c 6 t) (iblk m c 7 t) (iblk m c 8 t)

theorem mixedBlk_apply (r : Fin 256) (d : Fin 1024) : mixedBlk m c t (ix2 r d) = mixed (weights m c) (rowY m c (rowOf t r)) d := by
  unfold mixedBlk k0_pay7
  simp (disch := decide) only [View.ld_unit_lit]
  rw [mixed_apply (weights m c) _ _ _ _ (block3 m c t) (block4 m c t) (block5 m c t)]
  exact congrArg (fun y => mixed (weights m c) y d) (funext fun j => block0 m c t r j)

theorem inputBlk_apply (r : Fin 256) (d : Fin 2048) : inputBlk m c t (ix2 r d) = rowX m c (rowOf t r) d := by
  unfold inputBlk k0_pay8
  simp (disch := decide) only [View.ld_unit_lit]
  pointwise [k0_pay5]
  exact block2 m c t r d

theorem attBlk_apply (r : Fin 256) (j : Fin 1024) : attBlk m c t (ix2 r j) = rowO m c (rowOf t r) j := by
  unfold attBlk k0_pay9
  simp (disch := decide) only [View.ld_unit_lit]
  pointwise [k0_pay6]
  exact block1 m c t r j

/-- The two halves of the output weights. -/
abbrev upper : Vec Ideal S1024x2048 .bf16 := View.ld (iblk m c 6 t : Vec Ideal S2048x2048 .bf16) r0_4
abbrev lower : Vec Ideal S1024x2048 .bf16 := View.ld (iblk m c 6 t : Vec Ideal S2048x2048 .bf16) r0_5

theorem upper_apply (j : Fin 1024) (n : Fin 2048) : upper m c t (ix2 j n) = (weights m c).out ⟨j.val, by omega⟩ n := by
  refine Eq.trans ?_ (block6 m c t ⟨j.val, by omega⟩ n)
  unfold upper
  pointwise

theorem lower_apply (j : Fin 1024) (n : Fin 2048) : lower m c t (ix2 j n) = (weights m c).out ⟨1024 + j.val, by omega⟩ n := by
  refine Eq.trans ?_ (block6 m c t ⟨1024 + j.val, by omega⟩ n)
  unfold lower
  pointwise

/-- A point's block of hidden rows. -/
theorem hidden_block (r : Fin 256) (n : Fin 2048) :
    k0_pay1 (mixedBlk m c t) (inputBlk m c t) (attBlk m c t) (upper m c t) (lower m c t) (ix2 r n)
      = hidden (weights m c) (rowY m c (rowOf t r)) (rowO m c (rowOf t r)) (rowX m c (rowOf t r)) n := by
  rw [hidden_apply]
  simp only [mixedBlk_apply, inputBlk_apply, attBlk_apply, upper_apply, lower_apply]
  rfl

/-- A point's block of normed hidden rows. -/
theorem feed_block (g : Vec Ideal S1x2048 .f32) (hg : ∀ d, g (ix2 (0 : Fin 1) d) = (weights m c).gainF d) (r : Fin 256) (d : Fin 2048) :
    k0_pay2 (mixedBlk m c t) (inputBlk m c t) (attBlk m c t) (upper m c t) (lower m c t) g (ix2 r d)
      = feed (weights m c) (rowY m c (rowOf t r)) (rowO m c (rowOf t r)) (rowX m c (rowOf t r)) d := by
  rw [feed_apply, hg]
  simp only [hidden_block]
  rfl

/-- A point's block of queries. -/
theorem query_block (g : Vec Ideal S1x2048 .f32) (hg : ∀ d, g (ix2 (0 : Fin 1) d) = (weights m c).gainF d)
    (q : Vec Ideal S2048x2048 .bf16) (hq : ∀ d n, q (ix2 d n) = (weights m c).query d n) (r : Fin 256) (n : Fin 2048) :
    k0_pay3 (mixedBlk m c t) (inputBlk m c t) (attBlk m c t) (upper m c t) (lower m c t) g q (ix2 r n)
      = query (weights m c) (rowY m c (rowOf t r)) (rowO m c (rowOf t r)) (rowX m c (rowOf t r)) n := by
  rw [query_apply]
  simp only [feed_block m c t g hg, hq]
  rfl

theorem hidden_out : (dats m 0 c).arrAt 9 cfg0.N = hiddenOf m c := by
  refine (dats m 0 c).arrAt_eq_of_covers 9 _ (by decide +kernel) fun t hf y => ?_
  blk_simp
  rw [after0_9]
  obtain ⟨r, e, rfl⟩ : ∃ (r : Fin 256) (e : Fin 2048), y = ix2 r e := ⟨y 0, y 1, eq_ix2 y⟩
  frame_out
  have hy : ((View.whole main_v14_0).slice (win0_9.rect t)).emb (ix2 r e) = ix2 (rowOf t r) e := by blk_ext [idx t, rowOf]
  rw [hy]
  exact hidden_block m c t r e

theorem feed_out : (dats m 0 c).arrAt 10 cfg0.N = feedOf m c := by
  refine (dats m 0 c).arrAt_eq_of_covers 10 _ (by decide +kernel) fun t hf y => ?_
  blk_simp
  rw [after0_10]
  obtain ⟨r, e, rfl⟩ : ∃ (r : Fin 256) (e : Fin 2048), y = ix2 r e := ⟨y 0, y 1, eq_ix2 y⟩
  frame_out
  have hy : ((View.whole main_v14_1).slice (win0_10.rect t)).emb (ix2 r e) = ix2 (rowOf t r) e := by blk_ext [idx t, rowOf]
  rw [hy]
  exact feed_block m c t _ (block7 m c t) r e

theorem query_out : (dats m 0 c).arrAt 11 cfg0.N = queryOf m c := by
  refine (dats m 0 c).arrAt_eq_of_covers 11 _ (by decide +kernel) fun t hf y => ?_
  blk_simp
  rw [after0_11]
  obtain ⟨r, e, rfl⟩ : ∃ (r : Fin 256) (e : Fin 2048), y = ix2 r e := ⟨y 0, y 1, eq_ix2 y⟩
  frame_out
  have hy : ((View.whole main_v14_2).slice (win0_11.rect t)).emb (ix2 r e) = ix2 (rowOf t r) e := by blk_ext [idx t, rowOf]
  rw [hy]
  exact query_block m c t _ (block7 m c t) _ (block8 m c t) r e

end Cert.OutputIdeal.Steps
-- ==== Proof.OutputRef.lean ====
module

public import proofs.«01_k».proof.Proof.OutputSpec
public import proofs.«01_k».proof.Proof.Gen.OutputReferenceIdeal.Run
public import Idealize.ShloMosaic.Lib.Pointwise

/-!
# The output projection's reference in stages
-/

@[expose] public section

set_option maxRecDepth 16384

noncomputable section

namespace Cert.OutputReferenceIdeal.Stage

open Cert.OutputReferenceIdeal Cert.OutputReferenceIdeal.Gen Cert.Mix Cert.Proj Idealize.ShloMosaic Idealize.ShloMosaic.TcCoe
open scoped BigOperators

/-- The GELU of the mixer's output. -/
def gelus (y : FVec Ideal S1x16384x1024 .f32) : FVec Ideal S1x16384x1024 .f32 :=
  mulf (mulf (broadcastInDim S1x16384x1024 ![] bcast_S_S1x16384x1024 (constant S_ .f32 0x3F000000#32)) y) (Host.erfc (mulf (Host.negf y) (broadcastInDim S1x16384x1024 ![] bcast_S_S1x16384x1024 (constant S_ .f32 0x3F3504F3#32))))

/-- Its gate. -/
def gates (z : FVec Ideal S1x16384x1024 .f32) (w : FVec Ideal S1x1024x1024 .f32) (b : FVec Ideal S1x1024 .f32) : FVec Ideal S1x16384x1024 .f32 :=
  Host.divf (broadcastInDim S1x16384x1024 ![] bcast_S_S1x16384x1024 (constant S_ .f32 0x3F800000#32)) (addf (broadcastInDim S1x16384x1024 ![] bcast_S_S1x16384x1024 (constant S_ .f32 0x3F800000#32)) (Host.exp (Host.negf (addf (Host.dotGeneral dot_S1x16384x1024_S1024x1024_S1x16384x1024_2_0_01_1_n_n none z (shapeCast _ w shapeCasts_S1x1024x1024_S1024x1024)) (broadcastInDim S1x16384x1024 ![0, 1, 2] bcast_S1x1x1024_S1x16384x1024_0_1_2 (broadcastInDim S1x1x1024 ![2] bcast_S1024_S1x1x1024_2 (shapeCast _ b shapeCasts_S1x1024_S1024)))))))

/-- The norm of rows of 1024. -/
def halves (z : FVec Ideal S1x16384x1024 .f32) (g : FVec Ideal S1x1024 .f32) : FVec Ideal S1x16384x1024 .f32 :=
  mulf (mulf z (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf z z) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))

/-- The input and the product of the attention's rows beside the mixer's with the weights. -/
def hiddens (x : FVec Ideal S1x16384x2048 .f32) (o : FVec Ideal S16384x1024 .f32) (s : FVec Ideal S1x16384x1024 .f32) (w : FVec Ideal S1x2048x2048 .f32) : FVec Ideal S1x16384x2048 .f32 :=
  addf x (Host.dotGeneral dot_S1x16384x2048_S2048x2048_S1x16384x2048_2_0_01_1_n_n none (concatenate S1x16384x2048 2 [⟨S1x16384x1024, (shapeCast _ o shapeCasts_S16384x1024_S1x16384x1024)⟩, ⟨S1x16384x1024, s⟩] concatenates_S1x16384x1024_S1x16384x1024_S1x16384x2048_d2) (shapeCast _ w shapeCasts_S1x2048x2048_S2048x2048))

/-- The norm of rows of 2048. -/
def feeds (h : FVec Ideal S1x16384x2048 .f32) (g : FVec Ideal S1x2048 .f32) : FVec Ideal S1x16384x2048 .f32 :=
  mulf (mulf h (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf h h) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 (shapeCast _ g shapeCasts_S1x2048_S2048)))

/-- The queries of the normed rows. -/
def queries (f : FVec Ideal S1x16384x2048 .f32) (w : FVec Ideal S1x2048x2048 .f32) : FVec Ideal S1x16384x2048 .f32 :=
  Host.dotGeneral dot_S1x16384x2048_S2048x2048_S1x16384x2048_2_0_01_1_n_n none f (shapeCast _ w shapeCasts_S1x2048x2048_S2048x2048)

/-- The rows in two dimensions. -/
def flat (h : FVec Ideal S1x16384x2048 .f32) : FVec Ideal S16384x2048 .f32 := shapeCast _ h shapeCasts_S1x16384x2048_S16384x2048

/-- The hidden rows from the arguments. -/
def stages (y : FVec Ideal S1x16384x1024 .f32) (o : FVec Ideal S16384x1024 .f32) (x : FVec Ideal S1x16384x2048 .f32) (wg : FVec Ideal S1x1024x1024 .f32)
    (b gs : FVec Ideal S1x1024 .f32) (wo : FVec Ideal S1x2048x2048 .f32) : FVec Ideal S1x16384x2048 .f32 :=
  hiddens x o (halves (mulf (gelus y) (gates (gelus y) wg b)) gs) wo

variable (m : (ℓ : Loc nD τ sig) → Buf (Elt Ideal) ℓ) (c : Dev nD)

/-- The reference's hidden rows. -/
abbrev rowsOf : FVec Ideal S1x16384x2048 .f32 :=
  stages (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem hidden_eq : Cert.OutputReferenceIdeal.Value.res_out0 m c = flat (rowsOf m c) := by
  unfold Cert.OutputReferenceIdeal.Value.res_out0 Cert.OutputReferenceIdeal.Value.res_main_v55
  rfl

theorem feed_eq : Cert.OutputReferenceIdeal.Value.res_out1 m c = truncf .bf16 (flat (feeds (rowsOf m c) (m ((c.tc : Thread nD τ).loc main_arg7)))) bitsLt_bf16_f32 := by
  unfold Cert.OutputReferenceIdeal.Value.res_out1 Cert.OutputReferenceIdeal.Value.res_main_v57
  rfl

theorem query_eq : Cert.OutputReferenceIdeal.Value.res_out2 m c
    = truncf .bf16 (flat (queries (feeds (rowsOf m c) (m ((c.tc : Thread nD τ).loc main_arg7))) (m ((c.tc : Thread nD τ).loc main_arg8)))) bitsLt_bf16_f32 := by
  unfold Cert.OutputReferenceIdeal.Value.res_out2 Cert.OutputReferenceIdeal.Value.res_main_v59
  rfl

/-! ## The stages at an index -/

theorem gelus_apply (y : FVec Ideal S1x16384x1024 .f32) (r : Fin 16384) (d : Fin 1024) : gelus y (ix3 (0 : Fin 1) r d) = gelu (y (ix3 (0 : Fin 1) r d)) := by
  pointwise [gelus]
  exact gelu_erfc _

theorem gates_apply (z : FVec Ideal S1x16384x1024 .f32) (w : FVec Ideal S1x1024x1024 .f32) (b : FVec Ideal S1x1024 .f32) (r : Fin 16384) (d : Fin 1024) :
    gates z w b (ix3 (0 : Fin 1) r d) = Ideal.logistic (∑ j, z (ix3 (0 : Fin 1) r j) * w (ix3 (0 : Fin 1) j d) + b (ix2 (0 : Fin 1) d)) := by
  pointwise [gates]
  rfl

theorem halves_apply (z : FVec Ideal S1x16384x1024 .f32) (g : FVec Ideal S1x1024 .f32) (r : Fin 16384) (d : Fin 1024) :
    halves z g (ix3 (0 : Fin 1) r d) = half (fun j => z (ix3 (0 : Fin 1) r j)) (g (ix2 (0 : Fin 1) d)) d := by
  pointwise [halves]
  rfl

theorem hiddens_apply (x : FVec Ideal S1x16384x2048 .f32) (o : FVec Ideal S16384x1024 .f32) (s : FVec Ideal S1x16384x1024 .f32) (w : FVec Ideal S1x2048x2048 .f32)
    (r : Fin 16384) (n : Fin 2048) : hiddens x o s w (ix3 (0 : Fin 1) r n)
      = x (ix3 (0 : Fin 1) r n) + ∑ j : Fin 1024, o (ix2 r j) * w (ix3 (0 : Fin 1) ⟨j.val, by omega⟩ n)
        + ∑ j : Fin 1024, s (ix3 (0 : Fin 1) r j) * w (ix3 (0 : Fin 1) ⟨1024 + j.val, by omega⟩ n) := by
  rw [add_assoc, ← sum_halves (fun j => o (ix2 r j)) (fun j => s (ix3 (0 : Fin 1) r j)) (fun k => w (ix3 (0 : Fin 1) k n))]
  pointwise [hiddens]

theorem feeds_apply (h : FVec Ideal S1x16384x2048 .f32) (g : FVec Ideal S1x2048 .f32) (r : Fin 16384) (d : Fin 2048) :
    feeds h g (ix3 (0 : Fin 1) r d) = scaled (fun n => h (ix3 (0 : Fin 1) r n)) (g (ix2 (0 : Fin 1) d)) d := by
  pointwise [feeds]
  rfl

theorem queries_apply (f : FVec Ideal S1x16384x2048 .f32) (w : FVec Ideal S1x2048x2048 .f32) (r : Fin 16384) (n : Fin 2048) :
    queries f w (ix3 (0 : Fin 1) r n) = ∑ d, f (ix3 (0 : Fin 1) r d) * w (ix3 (0 : Fin 1) d n) := by
  pointwise [queries]

theorem flat_apply (h : FVec Ideal S1x16384x2048 .f32) (r : Fin 16384) (n : Fin 2048) : flat h (ix2 r n) = h (ix3 (0 : Fin 1) r n) := by
  pointwise [flat]

end Cert.OutputReferenceIdeal.Stage
-- ==== Proof.OutputEqual.lean ====
module

public import proofs.«01_k».proof.Proof.OutputOut
public import proofs.«01_k».proof.Proof.OutputRef

/-!
# The output projection's results are equal
-/

@[expose] public section

set_option maxRecDepth 16384

noncomputable section

namespace Cert.Mix

open Cert.OutputIdeal.Steps Cert.OutputReferenceIdeal.Stage
open Idealize.ShloMosaic Idealize.ShloMosaic.TcCoe
open scoped BigOperators

variable (m : (ℓ : Loc Cert.OutputIdeal.nD Cert.OutputIdeal.τ Cert.OutputIdeal.sig) → Buf (Elt Ideal) ℓ) (c : Dev Cert.OutputIdeal.nD)

/-- The reference's hidden rows, of the kernel's arguments. -/
abbrev reference_rows : FVec Ideal Cert.OutputReferenceIdeal.S1x16384x2048 .f32 :=
  stages (argY m c) (argO m c) (argX m c) (argGate m c) (argBias m c) (argS m c) (argOut m c)

theorem reference_gated (r : Fin 16384) (d : Fin 1024) :
    (mulf (gelus (argY m c)) (gates (gelus (argY m c)) (argGate m c) (argBias m c)) : FVec Ideal Cert.OutputReferenceIdeal.S1x16384x1024 .f32) (ix3 (0 : Fin 1) r d)
      = gated (weights m c) (rowY m c r) d := by
  refine (congrArg₂ (· * ·) (gelus_apply _ r d) (gates_apply _ _ _ r d)).trans ?_
  simp only [gelus_apply]
  rfl

theorem reference_hidden (r : Fin 16384) (n : Fin 2048) :
    reference_rows m c (ix3 (0 : Fin 1) r n) = hidden (weights m c) (rowY m c r) (rowO m c r) (rowX m c r) n := by
  unfold reference_rows stages
  rw [hiddens_apply]
  simp only [halves_apply, reference_gated]
  rfl

theorem reference_feed (r : Fin 16384) (d : Fin 2048) :
    feeds (reference_rows m c) (argF m c) (ix3 (0 : Fin 1) r d) = feed (weights m c) (rowY m c r) (rowO m c r) (rowX m c r) d := by
  rw [feeds_apply]
  simp only [reference_hidden]
  rfl

theorem reference_query (r : Fin 16384) (n : Fin 2048) :
    queries (feeds (reference_rows m c) (argF m c)) (argQuery m c) (ix3 (0 : Fin 1) r n)
      = query (weights m c) (rowY m c r) (rowO m c r) (rowX m c r) n := by
  rw [queries_apply]
  simp only [reference_feed]
  rfl

theorem hidden_equal : flat (reference_rows m c) = hiddenOf m c := by
  funext y
  obtain ⟨r, n, rfl⟩ : ∃ (r : Fin 16384) (n : Fin 2048), y = ix2 r n := ⟨y 0, y 1, eq_ix2 y⟩
  exact (flat_apply _ r n).trans (reference_hidden m c r n)

theorem feed_equal : truncf .bf16 (flat (feeds (reference_rows m c) (argF m c))) Cert.OutputReferenceIdeal.Gen.bitsLt_bf16_f32 = feedOf m c := by
  funext y
  obtain ⟨r, n, rfl⟩ : ∃ (r : Fin 16384) (n : Fin 2048), y = ix2 r n := ⟨y 0, y 1, eq_ix2 y⟩
  exact (flat_apply _ r n).trans (reference_feed m c r n)

theorem query_equal : truncf .bf16 (flat (queries (feeds (reference_rows m c) (argF m c)) (argQuery m c))) Cert.OutputReferenceIdeal.Gen.bitsLt_bf16_f32 = queryOf m c := by
  funext y
  obtain ⟨r, n, rfl⟩ : ∃ (r : Fin 16384) (n : Fin 2048), y = ix2 r n := ⟨y 0, y 1, eq_ix2 y⟩
  exact (flat_apply _ r n).trans (reference_query m c r n)

end Cert.Mix
-- ==== Proof.lean ====
module

public import proofs.«01_k».proof.Defs
public import proofs.«01_k».proof.Proof.Gen.Kernel.Frame
public import proofs.«01_k».proof.Proof.Gen.ReferenceIdeal.Run
public import proofs.«01_k».proof.Proof.Ideal.Frame
public import proofs.«01_k».proof.Proof.Equal
public import proofs.«01_k».proof.Proof.ProjectEqual
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectReferenceIdeal.Run
public import proofs.«01_k».proof.Proof.OutputEqual
public import proofs.«01_k».proof.Proof.Gen.Output.Frame
public import proofs.«01_k».proof.Proof.Gen.OutputIdeal.Frame
public import proofs.«01_k».proof.Proof.Gen.OutputIdeal.Value
public import proofs.«01_k».proof.Proof.Gen.OutputReferenceIdeal.Run
public import Idealize.ShloMosaic.Adequacy
public import Idealize.ShloMosaic.Init

/-
  The proof of the claims: for the attention, the input projection and the output projection the frames of the three programs,
  the named constant of the idealized attention, and the equality of the results with the reference's.
-/

@[expose] public section

noncomputable section

namespace Cert.Proof

open Idealize.ShloMosaic Idealize.SL.Sem
open Cert.ProjectIdeal.Steps (argGQ argGK normedOf plainOf queries_out keys_out values_out gates_out)
open Cert.ProjectReferenceIdeal.Stage (queries_eq keys_eq)
open Cert.OutputIdeal.Steps (hiddenOf feedOf queryOf hidden_out feed_out query_out)
open Cert.OutputReferenceIdeal.Stage (hidden_eq feed_eq query_eq)

/-- The one constant that the idealized kernel names has the value that the claim gives it. -/
theorem preserves : Cert.preserves_Kernel_KernelIdeal :=
  IdealRules.named_const.statement Cert.KernelIdeal.κ "qk_scale" .f32 0x3E38AA3B#32 ((8⁻¹ * (Real.log 2)⁻¹ : ℝ) : EReal) rfl

/-- The reference runs to its end and keeps its arguments. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arrays of real numbers the kernel's result is the reference's. -/
theorem algebraic : Cert.algebraic_KernelIdeal_ReferenceIdeal_pre_finite := by
  intro m g m' g' hpre hagree
  refine ⟨fun c => (Cert.KernelIdeal.Attn.dats m 0 c).arrAt 9 Cert.KernelIdeal.cfg0.N, Cert.KernelIdeal.Attn.run_blocks m g,
    (θ_run Cert.ReferenceIdeal.defs _ _).mono (fun r h c => ⟨(h c).1.trans ?_, (h c).2⟩) (Cert.ReferenceIdeal.Value.run (F := Ideal) m' g')⟩
  obtain ⟨-, e1, e2, e3, e4, e5, e6, e7, e8⟩ := hagree c
  obtain ⟨r1, r2, r3, r4, r6, r7, r8⟩ := Cert.Pre_finite.real_of_pre _ _ _ _ _ _ _ _ _ (hpre c)
  rw [Cert.ReferenceIdeal.Stage.result_eq, e1, e2, e3, e4, e5, e6, e7, e8]
  exact Cert.Attn.results_eq m c _ _ _ _ _ rfl rfl rfl rfl rfl r1 r2 r3 r4 r6 r7 r8

/-- The projection's reference runs to its end and keeps its arguments. -/
theorem project_reference_frame : Cert.quiescent_ProjectReferenceIdeal := fun m ρ _ =>
  (θ_run Cert.ProjectReferenceIdeal.defs _ _).mono (fun r h => ⟨fun c => (h c).2.2.2.2, sem_eq_zero_of_no_sems (by decide) r.2⟩)
    (Cert.ProjectReferenceIdeal.Value.run (F := Ideal) m ρ)

/-- With real weights and a real gain of the rows the projection's results are the reference's. -/
theorem project_algebraic : Cert.algebraic_ProjectIdeal_ProjectReferenceIdeal_pre_finite_weights := by
  intro m g m' g' hpre hagree
  refine ⟨fun c => normedOf m c 0 (by omega) (argGQ m c), fun c => normedOf m c 1024 (by omega) (argGK m c),
    fun c => plainOf m c 2048 (by omega), fun c => plainOf m c 3072 (by omega),
    (θ_run Cert.ProjectIdeal.defs _ _).mono (fun r h c => ?_) (Cert.ProjectIdeal.Value.run_blocks (F := Ideal) m g),
    (θ_run Cert.ProjectReferenceIdeal.defs _ _).mono (fun r h c => ?_) (Cert.ProjectReferenceIdeal.Value.run (F := Ideal) m' g')⟩
  · obtain ⟨rM, rW⟩ := Cert.Pre_finite_weights.real_of_pre _ _ _ _ _ (hpre c)
    obtain ⟨h0, h1, -, h3, -, h5, ha⟩ := h c
    exact ⟨h0.trans (queries_out m c rM rW), h1.trans (keys_out m c rM rW), h3.trans (values_out m c), h5.trans (gates_out m c), ha⟩
  · obtain ⟨e0, e1, e2, e3, e4⟩ := hagree c
    obtain ⟨h0, h1, h2, h3, ha⟩ := h c
    refine ⟨h0.trans ?_, h1.trans ?_, h2.trans ?_, h3.trans ?_, ha⟩
    · rw [queries_eq, e0, e1, e2, e3]
      exact Cert.Proj.normed_eq m c 0 _ _ _
    · rw [keys_eq, e0, e1, e2, e4]
      exact Cert.Proj.normed_eq m c 1024 _ _ _
    · rw [e0, e1, e2]
      exact Cert.Proj.plain_eq m c 2048 _ _
    · rw [e0, e1, e2]
      exact Cert.Proj.plain_eq m c 3072 _ _

/-- The output projection's reference runs to its end and keeps its arguments. -/
theorem output_reference_frame : Cert.quiescent_OutputReferenceIdeal := fun m ρ _ =>
  (θ_run Cert.OutputReferenceIdeal.defs _ _).mono (fun r h => ⟨fun c => (h c).2.2.2, sem_eq_zero_of_no_sems (by decide) r.2⟩)
    (Cert.OutputReferenceIdeal.Value.run (F := Ideal) m ρ)

/-- The output projection's results are the reference's. -/
theorem output_algebraic : Cert.algebraic_OutputIdeal_OutputReferenceIdeal := by
  intro m g m' g' _ hagree
  refine ⟨fun c => hiddenOf m c, fun c => feedOf m c, fun c => queryOf m c,
    (θ_run Cert.OutputIdeal.defs _ _).mono (fun r h c => ?_) (Cert.OutputIdeal.Value.run_blocks (F := Ideal) m g),
    (θ_run Cert.OutputReferenceIdeal.defs _ _).mono (fun r h c => ?_) (Cert.OutputReferenceIdeal.Value.run (F := Ideal) m' g')⟩
  · obtain ⟨h0, h1, h2, ha⟩ := h c
    exact ⟨h0.trans (hidden_out m c), h1.trans (feed_out m c), h2.trans (query_out m c), ha⟩
  · obtain ⟨e0, e1, e2, e3, e4, e5, e6, e7, e8⟩ := hagree c
    obtain ⟨h0, h1, h2, ha⟩ := h c
    refine ⟨h0.trans ((hidden_eq m' c).trans ?_), h1.trans ((feed_eq m' c).trans ?_), h2.trans ((query_eq m' c).trans ?_), ha⟩
    · unfold Cert.OutputReferenceIdeal.Stage.rowsOf
      rw [e0, e1, e2, e3, e4, e5, e6]
      exact Cert.Mix.hidden_equal m c
    · unfold Cert.OutputReferenceIdeal.Stage.rowsOf
      rw [e0, e1, e2, e3, e4, e5, e6, e7]
      exact Cert.Mix.feed_equal m c
    · unfold Cert.OutputReferenceIdeal.Stage.rowsOf
      rw [e0, e1, e2, e3, e4, e5, e6, e7, e8]
      exact Cert.Mix.query_equal m c

theorem claim : Cert.Claim :=
  ⟨Cert.Kernel.Gen.facts, Cert.KernelIdeal.Gen.facts, Cert.ReferenceIdeal.Gen.facts,
    Cert.Project.Gen.facts, Cert.ProjectIdeal.Gen.facts, Cert.ProjectReferenceIdeal.Gen.facts,
    Cert.Output.Gen.facts, Cert.OutputIdeal.Gen.facts, Cert.OutputReferenceIdeal.Gen.facts,
    Cert.Pre_finite.facts, Cert.Pre_finite_weights.facts,
    fun m ρ _ => Cert.Kernel.Gen.frame m ρ,
    fun m ρ _ => Cert.KernelIdeal.Attn.frame m ρ,
    fun m ρ _ => Cert.KernelIdeal.Attn.frame m ρ,
    reference_frame,
    fun m ρ _ => reference_frame m ρ trivial,
    fun m ρ _ => Cert.Project.Gen.frame m ρ,
    fun m ρ _ => Cert.ProjectIdeal.Gen.frame m ρ,
    fun m ρ _ => Cert.ProjectIdeal.Gen.frame m ρ,
    project_reference_frame,
    fun m ρ _ => project_reference_frame m ρ trivial,
    fun m ρ _ => Cert.Output.Gen.frame m ρ,
    fun m ρ _ => Cert.OutputIdeal.Gen.frame m ρ,
    output_reference_frame,
    preserves,
    algebraic,
    trivial,
    project_algebraic,
    trivial,
    output_algebraic⟩

end Cert.Proof

end
